-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v450) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v80)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v80) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v132) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S64x2048 : Shape := ⟨2, ![64, 2048]⟩
abbrev S128x2048 : Shape := ⟨2, ![128, 2048]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S4x4096x128 : Shape := ⟨3, ![4, 4096, 128]⟩
abbrev S4x4096 : Shape := ⟨2, ![4, 4096]⟩
abbrev S4x256x128x4x4 : Shape := ⟨5, ![4, 256, 128, 4, 4]⟩
abbrev S4x128 : Shape := ⟨2, ![4, 128]⟩
abbrev S4x128x64x4x4 : Shape := ⟨5, ![4, 128, 64, 4, 4]⟩
abbrev S4x64 : Shape := ⟨2, ![4, 64]⟩
abbrev S4x64x64x4x4 : Shape := ⟨5, ![4, 64, 64, 4, 4]⟩
abbrev S4x64x32x4x4 : Shape := ⟨5, ![4, 64, 32, 4, 4]⟩
abbrev S4x32 : Shape := ⟨2, ![4, 32]⟩
abbrev S4x3x32x1x1 : Shape := ⟨5, ![4, 3, 32, 1, 1]⟩
abbrev S4x3 : Shape := ⟨2, ![4, 3]⟩
abbrev S128x32x4x4x4 : Shape := ⟨5, ![128, 32, 4, 4, 4]⟩
abbrev S4x4x4x32x128 : Shape := ⟨5, ![4, 4, 4, 32, 128]⟩
abbrev S2048x128 : Shape := ⟨2, ![2048, 128]⟩
abbrev S4x256x16x128 : Shape := ⟨4, ![4, 256, 16, 128]⟩
abbrev S4x128x16x256 : Shape := ⟨4, ![4, 128, 16, 256]⟩
abbrev S4x128x4096 : Shape := ⟨3, ![4, 128, 4096]⟩
abbrev S4x256x16 : Shape := ⟨3, ![4, 256, 16]⟩
abbrev S4x16x256 : Shape := ⟨3, ![4, 16, 256]⟩
abbrev S4x1x4096 : Shape := ⟨3, ![4, 1, 4096]⟩
abbrev S4x256x128x2x2x2x2 : Shape := ⟨7, ![4, 256, 128, 2, 2, 2, 2]⟩
abbrev S4x2x2x2x2x256x128 : Shape := ⟨7, ![4, 2, 2, 2, 2, 256, 128]⟩
abbrev S4x16x256x128 : Shape := ⟨4, ![4, 16, 256, 128]⟩
abbrev S4x128x64x2x2x2x2 : Shape := ⟨7, ![4, 128, 64, 2, 2, 2, 2]⟩
abbrev S4x2x2x2x2x128x64 : Shape := ⟨7, ![4, 2, 2, 2, 2, 128, 64]⟩
abbrev S4x16x128x64 : Shape := ⟨4, ![4, 16, 128, 64]⟩
abbrev S4x64x64x2x2x2x2 : Shape := ⟨7, ![4, 64, 64, 2, 2, 2, 2]⟩
abbrev S4x2x2x2x2x64x64 : Shape := ⟨7, ![4, 2, 2, 2, 2, 64, 64]⟩
abbrev S4x16x64x64 : Shape := ⟨4, ![4, 16, 64, 64]⟩
abbrev S4x64x32x2x2x2x2 : Shape := ⟨7, ![4, 64, 32, 2, 2, 2, 2]⟩
abbrev S4x2x2x2x2x64x32 : Shape := ⟨7, ![4, 2, 2, 2, 2, 64, 32]⟩
abbrev S4x16x64x32 : Shape := ⟨4, ![4, 16, 64, 32]⟩
abbrev S4x1x128 : Shape := ⟨3, ![4, 1, 128]⟩
abbrev S4x1x64 : Shape := ⟨3, ![4, 1, 64]⟩
abbrev S4x1x32 : Shape := ⟨3, ![4, 1, 32]⟩
abbrev S4x3x32 : Shape := ⟨3, ![4, 3, 32]⟩
abbrev S4x32x3 : Shape := ⟨3, ![4, 32, 3]⟩
abbrev S4x1x3 : Shape := ⟨3, ![4, 1, 3]⟩
abbrev S256x512 : Shape := ⟨2, ![256, 512]⟩
abbrev S128x256 : Shape := ⟨2, ![128, 256]⟩
abbrev S1x128 : Shape := ⟨2, ![1, 128]⟩
abbrev S1x256 : Shape := ⟨2, ![1, 256]⟩
abbrev S8x8x2048 : Shape := ⟨3, ![8, 8, 2048]⟩
abbrev S64x4096x3 : Shape := ⟨3, ![64, 4096, 3]⟩
abbrev S1x8x2048 : Shape := ⟨3, ![1, 8, 2048]⟩
abbrev S1x1x128 : Shape := ⟨3, ![1, 1, 128]⟩
abbrev S1x128x4096 : Shape := ⟨3, ![1, 128, 4096]⟩
abbrev S1x1x4096 : Shape := ⟨3, ![1, 1, 4096]⟩
abbrev S1x16x256x128 : Shape := ⟨4, ![1, 16, 256, 128]⟩
abbrev S1x16x128x64 : Shape := ⟨4, ![1, 16, 128, 64]⟩
abbrev S1x1x64 : Shape := ⟨3, ![1, 1, 64]⟩
abbrev S1x16x64x64 : Shape := ⟨4, ![1, 16, 64, 64]⟩
abbrev S1x16x64x32 : Shape := ⟨4, ![1, 16, 64, 32]⟩
abbrev S1x1x32 : Shape := ⟨3, ![1, 1, 32]⟩
abbrev S1x32x3 : Shape := ⟨3, ![1, 32, 3]⟩
abbrev S1x1x3 : Shape := ⟨3, ![1, 1, 3]⟩
abbrev S8x1024x3 : Shape := ⟨3, ![8, 1024, 3]⟩
abbrev S8x2048 : Shape := ⟨2, ![8, 2048]⟩
abbrev S8x128 : Shape := ⟨2, ![8, 128]⟩
abbrev S8x256 : Shape := ⟨2, ![8, 256]⟩
abbrev S128x4096 : Shape := ⟨2, ![128, 4096]⟩
abbrev S8x4096 : Shape := ⟨2, ![8, 4096]⟩
abbrev S4096 : Shape := ⟨1, ![4096]⟩
abbrev S1x4096 : Shape := ⟨2, ![1, 4096]⟩
abbrev S8x1x256 : Shape := ⟨3, ![8, 1, 256]⟩
abbrev S8x16x256 : Shape := ⟨3, ![8, 16, 256]⟩
abbrev S8x4x4x256 : Shape := ⟨4, ![8, 4, 4, 256]⟩
abbrev S8x1x4x256 : Shape := ⟨4, ![8, 1, 4, 256]⟩
abbrev S8x5x4x256 : Shape := ⟨4, ![8, 5, 4, 256]⟩
abbrev S8x6x4x256 : Shape := ⟨4, ![8, 6, 4, 256]⟩
abbrev S8x6x1x256 : Shape := ⟨4, ![8, 6, 1, 256]⟩
abbrev S8x6x5x256 : Shape := ⟨4, ![8, 6, 5, 256]⟩
abbrev S8x6x6x256 : Shape := ⟨4, ![8, 6, 6, 256]⟩
abbrev S1x1x256x128 : Shape := ⟨4, ![1, 1, 256, 128]⟩
abbrev S128x128 : Shape := ⟨2, ![128, 128]⟩
abbrev S8x4x4x128 : Shape := ⟨4, ![8, 4, 4, 128]⟩
abbrev S8x4x4x1x128 : Shape := ⟨5, ![8, 4, 4, 1, 128]⟩
abbrev S8x4x4x2x128 : Shape := ⟨5, ![8, 4, 4, 2, 128]⟩
abbrev S8x4x1x4x2x128 : Shape := ⟨6, ![8, 4, 1, 4, 2, 128]⟩
abbrev S8x4x2x4x2x128 : Shape := ⟨6, ![8, 4, 2, 4, 2, 128]⟩
abbrev S8x8x8x128 : Shape := ⟨4, ![8, 8, 8, 128]⟩
abbrev S8x1x8x128 : Shape := ⟨4, ![8, 1, 8, 128]⟩
abbrev S8x9x8x128 : Shape := ⟨4, ![8, 9, 8, 128]⟩
abbrev S8x10x8x128 : Shape := ⟨4, ![8, 10, 8, 128]⟩
abbrev S8x10x1x128 : Shape := ⟨4, ![8, 10, 1, 128]⟩
abbrev S8x10x9x128 : Shape := ⟨4, ![8, 10, 9, 128]⟩
abbrev S8x10x10x128 : Shape := ⟨4, ![8, 10, 10, 128]⟩
abbrev S512x128 : Shape := ⟨2, ![512, 128]⟩
abbrev S64 : Shape := ⟨1, ![64]⟩
abbrev S1x1x128x64 : Shape := ⟨4, ![1, 1, 128, 64]⟩
abbrev S128x64 : Shape := ⟨2, ![128, 64]⟩
abbrev S512x64 : Shape := ⟨2, ![512, 64]⟩
abbrev S1x64 : Shape := ⟨2, ![1, 64]⟩
abbrev S8x8x8x64 : Shape := ⟨4, ![8, 8, 8, 64]⟩
abbrev S8x8x8x1x64 : Shape := ⟨5, ![8, 8, 8, 1, 64]⟩
abbrev S8x8x8x2x64 : Shape := ⟨5, ![8, 8, 8, 2, 64]⟩
abbrev S8x8x1x8x2x64 : Shape := ⟨6, ![8, 8, 1, 8, 2, 64]⟩
abbrev S8x8x2x8x2x64 : Shape := ⟨6, ![8, 8, 2, 8, 2, 64]⟩
abbrev S8x16x16x64 : Shape := ⟨4, ![8, 16, 16, 64]⟩
abbrev S8x1x16x64 : Shape := ⟨4, ![8, 1, 16, 64]⟩
abbrev S8x17x16x64 : Shape := ⟨4, ![8, 17, 16, 64]⟩
abbrev S8x18x16x64 : Shape := ⟨4, ![8, 18, 16, 64]⟩
abbrev S8x18x1x64 : Shape := ⟨4, ![8, 18, 1, 64]⟩
abbrev S8x18x17x64 : Shape := ⟨4, ![8, 18, 17, 64]⟩
abbrev S8x18x18x64 : Shape := ⟨4, ![8, 18, 18, 64]⟩
abbrev S2048x64 : Shape := ⟨2, ![2048, 64]⟩
abbrev S1x1x64x64 : Shape := ⟨4, ![1, 1, 64, 64]⟩
abbrev S64x64 : Shape := ⟨2, ![64, 64]⟩
abbrev S8x16x16x1x64 : Shape := ⟨5, ![8, 16, 16, 1, 64]⟩
abbrev S8x16x16x2x64 : Shape := ⟨5, ![8, 16, 16, 2, 64]⟩
abbrev S8x16x1x16x2x64 : Shape := ⟨6, ![8, 16, 1, 16, 2, 64]⟩
abbrev S8x16x2x16x2x64 : Shape := ⟨6, ![8, 16, 2, 16, 2, 64]⟩
abbrev S8x32x32x64 : Shape := ⟨4, ![8, 32, 32, 64]⟩
abbrev S8x1x32x64 : Shape := ⟨4, ![8, 1, 32, 64]⟩
abbrev S8x33x32x64 : Shape := ⟨4, ![8, 33, 32, 64]⟩
abbrev S8x34x32x64 : Shape := ⟨4, ![8, 34, 32, 64]⟩
abbrev S8x34x1x64 : Shape := ⟨4, ![8, 34, 1, 64]⟩
abbrev S8x34x33x64 : Shape := ⟨4, ![8, 34, 33, 64]⟩
abbrev S8x34x34x64 : Shape := ⟨4, ![8, 34, 34, 64]⟩
abbrev S8192x64 : Shape := ⟨2, ![8192, 64]⟩
abbrev S32 : Shape := ⟨1, ![32]⟩
abbrev S1x1x64x32 : Shape := ⟨4, ![1, 1, 64, 32]⟩
abbrev S64x32 : Shape := ⟨2, ![64, 32]⟩
abbrev S8192x32 : Shape := ⟨2, ![8192, 32]⟩
abbrev S1x32 : Shape := ⟨2, ![1, 32]⟩
abbrev S32x3 : Shape := ⟨2, ![32, 3]⟩
abbrev S8192x3 : Shape := ⟨2, ![8192, 3]⟩
abbrev S3 : Shape := ⟨1, ![3]⟩
abbrev S1x3 : Shape := ⟨2, ![1, 3]⟩

abbrev nBuf : Space → Nat
  | .hbm => 58
  | .vmem => 36
  | .smem => 0
  | _ => 0

abbrev bufTy : (tb : Table) → Fin (tcTables nBuf tb) → BufTy
  | .hbm, ⟨0, _⟩ => ⟨S64x2048, .f32⟩
  | .hbm, ⟨1, _⟩ => ⟨S128x2048, .f32⟩
  | .hbm, ⟨2, _⟩ => ⟨S128, .f32⟩
  | .hbm, ⟨3, _⟩ => ⟨S256x128, .f32⟩
  | .hbm, ⟨4, _⟩ => ⟨S256, .f32⟩
  | .hbm, ⟨5, _⟩ => ⟨S512x256, .f32⟩
  | .hbm, ⟨6, _⟩ => ⟨S512, .f32⟩
  | .hbm, ⟨7, _⟩ => ⟨S4x4096x128, .f32⟩
  | .hbm, ⟨8, _⟩ => ⟨S4x4096, .f32⟩
  | .hbm, ⟨9, _⟩ => ⟨S4x256x128x4x4, .f32⟩
  | .hbm, ⟨10, _⟩ => ⟨S4x128, .f32⟩
  | .hbm, ⟨11, _⟩ => ⟨S4x128x64x4x4, .f32⟩
  | .hbm, ⟨12, _⟩ => ⟨S4x64, .f32⟩
  | .hbm, ⟨13, _⟩ => ⟨S4x64x64x4x4, .f32⟩
  | .hbm, ⟨14, _⟩ => ⟨S4x64, .f32⟩
  | .hbm, ⟨15, _⟩ => ⟨S4x64x32x4x4, .f32⟩
  | .hbm, ⟨16, _⟩ => ⟨S4x32, .f32⟩
  | .hbm, ⟨17, _⟩ => ⟨S4x3x32x1x1, .f32⟩
  | .hbm, ⟨18, _⟩ => ⟨S4x3, .f32⟩
  | .hbm, ⟨19, _⟩ => ⟨S128x32x4x4x4, .f32⟩
  | .hbm, ⟨20, _⟩ => ⟨S4x4x4x32x128, .f32⟩
  | .hbm, ⟨21, _⟩ => ⟨S2048x128, .f32⟩
  | .hbm, ⟨22, _⟩ => ⟨S4x256x16x128, .f32⟩
  | .hbm, ⟨23, _⟩ => ⟨S4x128x16x256, .f32⟩
  | .hbm, ⟨24, _⟩ => ⟨S4x128x4096, .f32⟩
  | .hbm, ⟨25, _⟩ => ⟨S4x256x16, .f32⟩
  | .hbm, ⟨26, _⟩ => ⟨S4x16x256, .f32⟩
  | .hbm, ⟨27, _⟩ => ⟨S4x1x4096, .f32⟩
  | .hbm, ⟨28, _⟩ => ⟨S4x256x128x4x4, .f32⟩
  | .hbm, ⟨29, _⟩ => ⟨S4x256x128x2x2x2x2, .f32⟩
  | .hbm, ⟨30, _⟩ => ⟨S4x2x2x2x2x256x128, .f32⟩
  | .hbm, ⟨31, _⟩ => ⟨S4x16x256x128, .f32⟩
  | .hbm, ⟨32, _⟩ => ⟨S4x128x64x4x4, .f32⟩
  | .hbm, ⟨33, _⟩ => ⟨S4x128x64x2x2x2x2, .f32⟩
  | .hbm, ⟨34, _⟩ => ⟨S4x2x2x2x2x128x64, .f32⟩
  | .hbm, ⟨35, _⟩ => ⟨S4x16x128x64, .f32⟩
  | .hbm, ⟨36, _⟩ => ⟨S4x64x64x4x4, .f32⟩
  | .hbm, ⟨37, _⟩ => ⟨S4x64x64x2x2x2x2, .f32⟩
  | .hbm, ⟨38, _⟩ => ⟨S4x2x2x2x2x64x64, .f32⟩
  | .hbm, ⟨39, _⟩ => ⟨S4x16x64x64, .f32⟩
  | .hbm, ⟨40, _⟩ => ⟨S4x64x32x4x4, .f32⟩
  | .hbm, ⟨41, _⟩ => ⟨S4x64x32x2x2x2x2, .f32⟩
  | .hbm, ⟨42, _⟩ => ⟨S4x2x2x2x2x64x32, .f32⟩
  | .hbm, ⟨43, _⟩ => ⟨S4x16x64x32, .f32⟩
  | .hbm, ⟨44, _⟩ => ⟨S4x1x128, .f32⟩
  | .hbm, ⟨45, _⟩ => ⟨S4x1x64, .f32⟩
  | .hbm, ⟨46, _⟩ => ⟨S4x1x64, .f32⟩
  | .hbm, ⟨47, _⟩ => ⟨S4x1x32, .f32⟩
  | .hbm, ⟨48, _⟩ => ⟨S4x3x32, .f32⟩
  | .hbm, ⟨49, _⟩ => ⟨S4x32x3, .f32⟩
  | .hbm, ⟨50, _⟩ => ⟨S4x1x3, .f32⟩
  | .hbm, ⟨51, _⟩ => ⟨S256x512, .f32⟩
  | .hbm, ⟨52, _⟩ => ⟨S4x1x128, .f32⟩
  | .hbm, ⟨53, _⟩ => ⟨S128x256, .f32⟩
  | .hbm, ⟨54, _⟩ => ⟨S1x128, .f32⟩
  | .hbm, ⟨55, _⟩ => ⟨S1x256, .f32⟩
  | .hbm, ⟨56, _⟩ => ⟨S8x8x2048, .f32⟩
  | .hbm, ⟨57, _⟩ => ⟨S64x4096x3, .f32⟩
  | .local _ .vmem, ⟨0, _⟩ => ⟨S1x8x2048, .f32⟩
  | .local _ .vmem, ⟨1, _⟩ => ⟨S1x8x2048, .f32⟩
  | .local _ .vmem, ⟨2, _⟩ => ⟨S2048x128, .f32⟩
  | .local _ .vmem, ⟨3, _⟩ => ⟨S1x128, .f32⟩
  | .local _ .vmem, ⟨4, _⟩ => ⟨S128x256, .f32⟩
  | .local _ .vmem, ⟨5, _⟩ => ⟨S1x256, .f32⟩
  | .local _ .vmem, ⟨6, _⟩ => ⟨S256x128, .f32⟩
  | .local _ .vmem, ⟨7, _⟩ => ⟨S256x128, .f32⟩
  | .local _ .vmem, ⟨8, _⟩ => ⟨S1x1x128, .f32⟩
  | .local _ .vmem, ⟨9, _⟩ => ⟨S1x1x128, .f32⟩
  | .local _ .vmem, ⟨10, _⟩ => ⟨S1x128x4096, .f32⟩
  | .local _ .vmem, ⟨11, _⟩ => ⟨S1x128x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x16x256x128, .f32⟩
  | .local _ .vmem, ⟨15, _⟩ => ⟨S1x16x256x128, .f32⟩
  | .local _ .vmem, ⟨16, _⟩ => ⟨S1x1x128, .f32⟩
  | .local _ .vmem, ⟨17, _⟩ => ⟨S1x1x128, .f32⟩
  | .local _ .vmem, ⟨18, _⟩ => ⟨S1x16x128x64, .f32⟩
  | .local _ .vmem, ⟨19, _⟩ => ⟨S1x16x128x64, .f32⟩
  | .local _ .vmem, ⟨20, _⟩ => ⟨S1x1x64, .f32⟩
  | .local _ .vmem, ⟨21, _⟩ => ⟨S1x1x64, .f32⟩
  | .local _ .vmem, ⟨22, _⟩ => ⟨S1x16x64x64, .f32⟩
  | .local _ .vmem, ⟨23, _⟩ => ⟨S1x16x64x64, .f32⟩
  | .local _ .vmem, ⟨24, _⟩ => ⟨S1x1x64, .f32⟩
  | .local _ .vmem, ⟨25, _⟩ => ⟨S1x1x64, .f32⟩
  | .local _ .vmem, ⟨26, _⟩ => ⟨S1x16x64x32, .f32⟩
  | .local _ .vmem, ⟨27, _⟩ => ⟨S1x16x64x32, .f32⟩
  | .local _ .vmem, ⟨28, _⟩ => ⟨S1x1x32, .f32⟩
  | .local _ .vmem, ⟨29, _⟩ => ⟨S1x1x32, .f32⟩
  | .local _ .vmem, ⟨30, _⟩ => ⟨S1x32x3, .f32⟩
  | .local _ .vmem, ⟨31, _⟩ => ⟨S1x32x3, .f32⟩
  | .local _ .vmem, ⟨32, _⟩ => ⟨S1x1x3, .f32⟩
  | .local _ .vmem, ⟨33, _⟩ => ⟨S1x1x3, .f32⟩
  | .local _ .vmem, ⟨34, _⟩ => ⟨S8x1024x3, .f32⟩
  | .local _ .vmem, ⟨35, _⟩ => ⟨S8x1024x3, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x16x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x16x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x16x64x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x32x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x3 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S8x1024x3 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S64x2048 : Shape := ⟨2, ![64, 2048]⟩
abbrev S128x2048 : Shape := ⟨2, ![128, 2048]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S4x4096x128 : Shape := ⟨3, ![4, 4096, 128]⟩
abbrev S4x4096 : Shape := ⟨2, ![4, 4096]⟩
abbrev S4x256x128x4x4 : Shape := ⟨5, ![4, 256, 128, 4, 4]⟩
abbrev S4x128 : Shape := ⟨2, ![4, 128]⟩
abbrev S4x128x64x4x4 : Shape := ⟨5, ![4, 128, 64, 4, 4]⟩
abbrev S4x64 : Shape := ⟨2, ![4, 64]⟩
abbrev S4x64x64x4x4 : Shape := ⟨5, ![4, 64, 64, 4, 4]⟩
abbrev S4x64x32x4x4 : Shape := ⟨5, ![4, 64, 32, 4, 4]⟩
abbrev S4x32 : Shape := ⟨2, ![4, 32]⟩
abbrev S4x3x32x1x1 : Shape := ⟨5, ![4, 3, 32, 1, 1]⟩
abbrev S4x3 : Shape := ⟨2, ![4, 3]⟩
abbrev S64x4x4x4x32 : Shape := ⟨5, ![64, 4, 4, 4, 32]⟩
abbrev S64x32x4x4x4 : Shape := ⟨5, ![64, 32, 4, 4, 4]⟩
abbrev S2048x128 : Shape := ⟨2, ![2048, 128]⟩
abbrev S64x128 : Shape := ⟨2, ![64, 128]⟩
abbrev S1x128 : Shape := ⟨2, ![1, 128]⟩
abbrev S128x256 : Shape := ⟨2, ![128, 256]⟩
abbrev S64x256 : Shape := ⟨2, ![64, 256]⟩
abbrev S1x256 : Shape := ⟨2, ![1, 256]⟩
abbrev S_ : Shape := ⟨0, ![]⟩
abbrev S256x512 : Shape := ⟨2, ![256, 512]⟩
abbrev S64x512 : Shape := ⟨2, ![64, 512]⟩
abbrev S1x512 : Shape := ⟨2, ![1, 512]⟩
abbrev S64x4x128 : Shape := ⟨3, ![64, 4, 128]⟩
abbrev S4x64x4096 : Shape := ⟨3, ![4, 64, 4096]⟩
abbrev S4x1x4096 : Shape := ⟨3, ![4, 1, 4096]⟩
abbrev S4x64x256x4x4 : Shape := ⟨5, ![4, 64, 256, 4, 4]⟩
abbrev S4x64x256x11x11 : Shape := ⟨5, ![4, 64, 256, 11, 11]⟩
abbrev S4x64x256x8x8 : Shape := ⟨5, ![4, 64, 256, 8, 8]⟩
abbrev S4x256x128x1x1 : Shape := ⟨5, ![4, 256, 128, 1, 1]⟩
abbrev S4x256x128 : Shape := ⟨3, ![4, 256, 128]⟩
abbrev S4x128x64x8x8 : Shape := ⟨5, ![4, 128, 64, 8, 8]⟩
abbrev S4x64x128x8x8 : Shape := ⟨5, ![4, 64, 128, 8, 8]⟩
abbrev S4x1x128x1x1 : Shape := ⟨5, ![4, 1, 128, 1, 1]⟩
abbrev S4x64x128x19x19 : Shape := ⟨5, ![4, 64, 128, 19, 19]⟩
abbrev S4x64x128x16x16 : Shape := ⟨5, ![4, 64, 128, 16, 16]⟩
abbrev S4x128x64x1x1 : Shape := ⟨5, ![4, 128, 64, 1, 1]⟩
abbrev S4x128x64 : Shape := ⟨3, ![4, 128, 64]⟩
abbrev S4x64x64x16x16 : Shape := ⟨5, ![4, 64, 64, 16, 16]⟩
abbrev S4x1x64x1x1 : Shape := ⟨5, ![4, 1, 64, 1, 1]⟩
abbrev S4x64x64x35x35 : Shape := ⟨5, ![4, 64, 64, 35, 35]⟩
abbrev S4x64x64x32x32 : Shape := ⟨5, ![4, 64, 64, 32, 32]⟩
abbrev S4x64x64x1x1 : Shape := ⟨5, ![4, 64, 64, 1, 1]⟩
abbrev S4x64x64 : Shape := ⟨3, ![4, 64, 64]⟩
abbrev S4x64x64x67x67 : Shape := ⟨5, ![4, 64, 64, 67, 67]⟩
abbrev S4x64x64x64x64 : Shape := ⟨5, ![4, 64, 64, 64, 64]⟩
abbrev S4x64x32x1x1 : Shape := ⟨5, ![4, 64, 32, 1, 1]⟩
abbrev S4x64x32 : Shape := ⟨3, ![4, 64, 32]⟩
abbrev S4x32x64x64x64 : Shape := ⟨5, ![4, 32, 64, 64, 64]⟩
abbrev S4x64x32x64x64 : Shape := ⟨5, ![4, 64, 32, 64, 64]⟩
abbrev S4x1x32x1x1 : Shape := ⟨5, ![4, 1, 32, 1, 1]⟩
abbrev S4x64x32x32x2x32x2 : Shape := ⟨7, ![4, 64, 32, 32, 2, 32, 2]⟩
abbrev S4x64x32x32x32 : Shape := ⟨5, ![4, 64, 32, 32, 32]⟩
abbrev S4x3x32 : Shape := ⟨3, ![4, 3, 32]⟩
abbrev S4x3x64x32x32 : Shape := ⟨5, ![4, 3, 64, 32, 32]⟩
abbrev S4x64x3x32x32 : Shape := ⟨5, ![4, 64, 3, 32, 32]⟩
abbrev S4x1x3x1x1 : Shape := ⟨5, ![4, 1, 3, 1, 1]⟩
abbrev S4x64x3x1024 : Shape := ⟨4, ![4, 64, 3, 1024]⟩
abbrev S64x4x1024x3 : Shape := ⟨4, ![64, 4, 1024, 3]⟩
abbrev S64x4096x3 : Shape := ⟨3, ![64, 4096, 3]⟩

abbrev nBuf : Space → Nat
  | .hbm => 492
  | .vmem => 0
  | .smem => 0
  | _ => 0

abbrev hbmTy0_0 (i : Nat) : BufTy := match i % 128 with
  | 0 => ⟨S64x2048, .f32⟩
  | 1 => ⟨S128x2048, .f32⟩
  | 2 => ⟨S128, .f32⟩
  | 3 => ⟨S256x128, .f32⟩
  | 4 => ⟨S256, .f32⟩
  | 5 => ⟨S512x256, .f32⟩
  | 6 => ⟨S512, .f32⟩
  | 7 => ⟨S4x4096x128, .f32⟩
  | 8 => ⟨S4x4096, .f32⟩
  | 9 => ⟨S4x256x128x4x4, .f32⟩
  | 10 => ⟨S4x128, .f32⟩
  | 11 => ⟨S4x128x64x4x4, .f32⟩
  | 12 => ⟨S4x64, .f32⟩
  | 13 => ⟨S4x64x64x4x4, .f32⟩
  | 14 => ⟨S4x64, .f32⟩
  | 15 => ⟨S4x64x32x4x4, .f32⟩
  | 16 => ⟨S4x32, .f32⟩
  | 17 => ⟨S4x3x32x1x1, .f32⟩
  | 18 => ⟨S4x3, .f32⟩
  | 19 => ⟨S64x4x4x4x32, .f32⟩
  | 20 => ⟨S64x32x4x4x4, .f32⟩
  | 21 => ⟨S64x2048, .f32⟩
  | 22 => ⟨S2048x128, .f32⟩
  | 23 => ⟨S64x128, .f32⟩
  | 24 => ⟨S1x128, .f32⟩
  | 25 => ⟨S64x128, .f32⟩
  | 26 => ⟨S64x128, .f32⟩
  | 27 => ⟨S128x256, .f32⟩
  | 28 => ⟨S64x256, .f32⟩
  | 29 => ⟨S1x256, .f32⟩
  | 30 => ⟨S64x256, .f32⟩
  | 31 => ⟨S64x256, .f32⟩
  | 32 => ⟨S_, .f32⟩
  | 33 => ⟨S64x256, .f32⟩
  | 34 => ⟨S64x256, .f32⟩
  | 35 => ⟨S256x512, .f32⟩
  | 36 => ⟨S64x512, .f32⟩
  | 37 => ⟨S1x512, .f32⟩
  | 38 => ⟨S64x512, .f32⟩
  | 39 => ⟨S64x512, .f32⟩
  | 40 => ⟨S_, .f32⟩
  | 41 => ⟨S64x512, .f32⟩
  | 42 => ⟨S64x512, .f32⟩
  | 43 => ⟨S64x4x128, .f32⟩
  | 44 => ⟨S4x64x4096, .f32⟩
  | 45 => ⟨S4x1x4096, .f32⟩
  | 46 => ⟨S4x64x4096, .f32⟩
  | 47 => ⟨S4x64x4096, .f32⟩
  | 48 => ⟨S4x64x256x4x4, .f32⟩
  | 49 => ⟨S4x256x128x4x4, .f32⟩
  | 50 => ⟨S_, .f32⟩
  | 51 => ⟨S4x64x256x11x11, .f32⟩
  | 52 => ⟨S4x64x256x8x8, .f32⟩
  | 53 => ⟨S4x256x128x1x1, .f32⟩
  | 54 => ⟨S4x256x128, .f32⟩
  | 55 => ⟨S4x128x64x8x8, .f32⟩
  | 56 => ⟨S4x64x128x8x8, .f32⟩
  | 57 => ⟨S_, .f32⟩
  | 58 => ⟨S4x64x128x8x8, .f32⟩
  | 59 => ⟨S4x64x128x8x8, .f32⟩
  | 60 => ⟨S4x64x256x8x8, .f32⟩
  | 61 => ⟨S4x256x128x1x1, .f32⟩
  | 62 => ⟨S4x256x128, .f32⟩
  | 63 => ⟨S4x128x64x8x8, .f32⟩
  | 64 => ⟨S4x64x128x8x8, .f32⟩
  | 65 => ⟨S4x64x128x8x8, .f32⟩
  | 66 => ⟨S4x64x256x8x8, .f32⟩
  | 67 => ⟨S4x256x128x1x1, .f32⟩
  | 68 => ⟨S4x256x128, .f32⟩
  | 69 => ⟨S4x128x64x8x8, .f32⟩
  | 70 => ⟨S4x64x128x8x8, .f32⟩
  | 71 => ⟨S4x64x128x8x8, .f32⟩
  | 72 => ⟨S4x64x256x8x8, .f32⟩
  | 73 => ⟨S4x256x128x1x1, .f32⟩
  | 74 => ⟨S4x256x128, .f32⟩
  | 75 => ⟨S4x128x64x8x8, .f32⟩
  | 76 => ⟨S4x64x128x8x8, .f32⟩
  | 77 => ⟨S4x64x128x8x8, .f32⟩
  | 78 => ⟨S4x64x256x8x8, .f32⟩
  | 79 => ⟨S4x256x128x1x1, .f32⟩
  | 80 => ⟨S4x256x128, .f32⟩
  | 81 => ⟨S4x128x64x8x8, .f32⟩
  | 82 => ⟨S4x64x128x8x8, .f32⟩
  | 83 => ⟨S4x64x128x8x8, .f32⟩
  | 84 => ⟨S4x64x256x8x8, .f32⟩
  | 85 => ⟨S4x256x128x1x1, .f32⟩
  | 86 => ⟨S4x256x128, .f32⟩
  | 87 => ⟨S4x128x64x8x8, .f32⟩
  | 88 => ⟨S4x64x128x8x8, .f32⟩
  | 89 => ⟨S4x64x128x8x8, .f32⟩
  | 90 => ⟨S4x64x256x8x8, .f32⟩
  | 91 => ⟨S4x256x128x1x1, .f32⟩
  | 92 => ⟨S4x256x128, .f32⟩
  | 93 => ⟨S4x128x64x8x8, .f32⟩
  | 94 => ⟨S4x64x128x8x8, .f32⟩
  | 95 => ⟨S4x64x128x8x8, .f32⟩
  | 96 => ⟨S4x64x256x8x8, .f32⟩
  | 97 => ⟨S4x256x128x1x1, .f32⟩
  | 98 => ⟨S4x256x128, .f32⟩
  | 99 => ⟨S4x128x64x8x8, .f32⟩
  | 100 => ⟨S4x64x128x8x8, .f32⟩
  | 101 => ⟨S4x64x128x8x8, .f32⟩
  | 102 => ⟨S4x64x256x8x8, .f32⟩
  | 103 => ⟨S4x256x128x1x1, .f32⟩
  | 104 => ⟨S4x256x128, .f32⟩
  | 105 => ⟨S4x128x64x8x8, .f32⟩
  | 106 => ⟨S4x64x128x8x8, .f32⟩
  | 107 => ⟨S4x64x128x8x8, .f32⟩
  | 108 => ⟨S4x64x256x8x8, .f32⟩
  | 109 => ⟨S4x256x128x1x1, .f32⟩
  | 110 => ⟨S4x256x128, .f32⟩
  | 111 => ⟨S4x128x64x8x8, .f32⟩
  | 112 => ⟨S4x64x128x8x8, .f32⟩
  | 113 => ⟨S4x64x128x8x8, .f32⟩
  | 114 => ⟨S4x64x256x8x8, .f32⟩
  | 115 => ⟨S4x256x128x1x1, .f32⟩
  | 116 => ⟨S4x256x128, .f32⟩
  | 117 => ⟨S4x128x64x8x8, .f32⟩
  | 118 => ⟨S4x64x128x8x8, .f32⟩
  | 119 => ⟨S4x64x128x8x8, .f32⟩
  | 120 => ⟨S4x64x256x8x8, .f32⟩
  | 121 => ⟨S4x256x128x1x1, .f32⟩
  | 122 => ⟨S4x256x128, .f32⟩
  | 123 => ⟨S4x128x64x8x8, .f32⟩
  | 124 => ⟨S4x64x128x8x8, .f32⟩
  | 125 => ⟨S4x64x128x8x8, .f32⟩
  | 126 => ⟨S4x64x256x8x8, .f32⟩
  | 127 => ⟨S4x256x128x1x1, .f32⟩
  | _ => ⟨S64x2048, .f32⟩

abbrev hbmTy0_1 (i : Nat) : BufTy := match i % 128 with
  | 0 => ⟨S4x256x128, .f32⟩
  | 1 => ⟨S4x128x64x8x8, .f32⟩
  | 2 => ⟨S4x64x128x8x8, .f32⟩
  | 3 => ⟨S4x64x128x8x8, .f32⟩
  | 4 => ⟨S4x64x256x8x8, .f32⟩
  | 5 => ⟨S4x256x128x1x1, .f32⟩
  | 6 => ⟨S4x256x128, .f32⟩
  | 7 => ⟨S4x128x64x8x8, .f32⟩
  | 8 => ⟨S4x64x128x8x8, .f32⟩
  | 9 => ⟨S4x64x128x8x8, .f32⟩
  | 10 => ⟨S4x64x256x8x8, .f32⟩
  | 11 => ⟨S4x256x128x1x1, .f32⟩
  | 12 => ⟨S4x256x128, .f32⟩
  | 13 => ⟨S4x128x64x8x8, .f32⟩
  | 14 => ⟨S4x64x128x8x8, .f32⟩
  | 15 => ⟨S4x64x128x8x8, .f32⟩
  | 16 => ⟨S4x64x256x8x8, .f32⟩
  | 17 => ⟨S4x256x128x1x1, .f32⟩
  | 18 => ⟨S4x256x128, .f32⟩
  | 19 => ⟨S4x128x64x8x8, .f32⟩
  | 20 => ⟨S4x64x128x8x8, .f32⟩
  | 21 => ⟨S4x64x128x8x8, .f32⟩
  | 22 => ⟨S4x1x128x1x1, .f32⟩
  | 23 => ⟨S4x64x128x8x8, .f32⟩
  | 24 => ⟨S4x64x128x8x8, .f32⟩
  | 25 => ⟨S_, .f32⟩
  | 26 => ⟨S4x64x128x8x8, .f32⟩
  | 27 => ⟨S4x64x128x8x8, .f32⟩
  | 28 => ⟨S4x128x64x4x4, .f32⟩
  | 29 => ⟨S_, .f32⟩
  | 30 => ⟨S4x64x128x19x19, .f32⟩
  | 31 => ⟨S4x64x128x16x16, .f32⟩
  | 32 => ⟨S4x128x64x1x1, .f32⟩
  | 33 => ⟨S4x128x64, .f32⟩
  | 34 => ⟨S4x64x64x16x16, .f32⟩
  | 35 => ⟨S4x64x64x16x16, .f32⟩
  | 36 => ⟨S_, .f32⟩
  | 37 => ⟨S4x64x64x16x16, .f32⟩
  | 38 => ⟨S4x64x64x16x16, .f32⟩
  | 39 => ⟨S4x64x128x16x16, .f32⟩
  | 40 => ⟨S4x128x64x1x1, .f32⟩
  | 41 => ⟨S4x128x64, .f32⟩
  | 42 => ⟨S4x64x64x16x16, .f32⟩
  | 43 => ⟨S4x64x64x16x16, .f32⟩
  | 44 => ⟨S4x64x64x16x16, .f32⟩
  | 45 => ⟨S4x64x128x16x16, .f32⟩
  | 46 => ⟨S4x128x64x1x1, .f32⟩
  | 47 => ⟨S4x128x64, .f32⟩
  | 48 => ⟨S4x64x64x16x16, .f32⟩
  | 49 => ⟨S4x64x64x16x16, .f32⟩
  | 50 => ⟨S4x64x64x16x16, .f32⟩
  | 51 => ⟨S4x64x128x16x16, .f32⟩
  | 52 => ⟨S4x128x64x1x1, .f32⟩
  | 53 => ⟨S4x128x64, .f32⟩
  | 54 => ⟨S4x64x64x16x16, .f32⟩
  | 55 => ⟨S4x64x64x16x16, .f32⟩
  | 56 => ⟨S4x64x64x16x16, .f32⟩
  | 57 => ⟨S4x64x128x16x16, .f32⟩
  | 58 => ⟨S4x128x64x1x1, .f32⟩
  | 59 => ⟨S4x128x64, .f32⟩
  | 60 => ⟨S4x64x64x16x16, .f32⟩
  | 61 => ⟨S4x64x64x16x16, .f32⟩
  | 62 => ⟨S4x64x64x16x16, .f32⟩
  | 63 => ⟨S4x64x128x16x16, .f32⟩
  | 64 => ⟨S4x128x64x1x1, .f32⟩
  | 65 => ⟨S4x128x64, .f32⟩
  | 66 => ⟨S4x64x64x16x16, .f32⟩
  | 67 => ⟨S4x64x64x16x16, .f32⟩
  | 68 => ⟨S4x64x64x16x16, .f32⟩
  | 69 => ⟨S4x64x128x16x16, .f32⟩
  | 70 => ⟨S4x128x64x1x1, .f32⟩
  | 71 => ⟨S4x128x64, .f32⟩
  | 72 => ⟨S4x64x64x16x16, .f32⟩
  | 73 => ⟨S4x64x64x16x16, .f32⟩
  | 74 => ⟨S4x64x64x16x16, .f32⟩
  | 75 => ⟨S4x64x128x16x16, .f32⟩
  | 76 => ⟨S4x128x64x1x1, .f32⟩
  | 77 => ⟨S4x128x64, .f32⟩
  | 78 => ⟨S4x64x64x16x16, .f32⟩
  | 79 => ⟨S4x64x64x16x16, .f32⟩
  | 80 => ⟨S4x64x64x16x16, .f32⟩
  | 81 => ⟨S4x64x128x16x16, .f32⟩
  | 82 => ⟨S4x128x64x1x1, .f32⟩
  | 83 => ⟨S4x128x64, .f32⟩
  | 84 => ⟨S4x64x64x16x16, .f32⟩
  | 85 => ⟨S4x64x64x16x16, .f32⟩
  | 86 => ⟨S4x64x64x16x16, .f32⟩
  | 87 => ⟨S4x64x128x16x16, .f32⟩
  | 88 => ⟨S4x128x64x1x1, .f32⟩
  | 89 => ⟨S4x128x64, .f32⟩
  | 90 => ⟨S4x64x64x16x16, .f32⟩
  | 91 => ⟨S4x64x64x16x16, .f32⟩
  | 92 => ⟨S4x64x64x16x16, .f32⟩
  | 93 => ⟨S4x64x128x16x16, .f32⟩
  | 94 => ⟨S4x128x64x1x1, .f32⟩
  | 95 => ⟨S4x128x64, .f32⟩
  | 96 => ⟨S4x64x64x16x16, .f32⟩
  | 97 => ⟨S4x64x64x16x16, .f32⟩
  | 98 => ⟨S4x64x64x16x16, .f32⟩
  | 99 => ⟨S4x64x128x16x16, .f32⟩
  | 100 => ⟨S4x128x64x1x1, .f32⟩
  | 101 => ⟨S4x128x64, .f32⟩
  | 102 => ⟨S4x64x64x16x16, .f32⟩
  | 103 => ⟨S4x64x64x16x16, .f32⟩
  | 104 => ⟨S4x64x64x16x16, .f32⟩
  | 105 => ⟨S4x64x128x16x16, .f32⟩
  | 106 => ⟨S4x128x64x1x1, .f32⟩
  | 107 => ⟨S4x128x64, .f32⟩
  | 108 => ⟨S4x64x64x16x16, .f32⟩
  | 109 => ⟨S4x64x64x16x16, .f32⟩
  | 110 => ⟨S4x64x64x16x16, .f32⟩
  | 111 => ⟨S4x64x128x16x16, .f32⟩
  | 112 => ⟨S4x128x64x1x1, .f32⟩
  | 113 => ⟨S4x128x64, .f32⟩
  | 114 => ⟨S4x64x64x16x16, .f32⟩
  | 115 => ⟨S4x64x64x16x16, .f32⟩
  | 116 => ⟨S4x64x64x16x16, .f32⟩
  | 117 => ⟨S4x64x128x16x16, .f32⟩
  | 118 => ⟨S4x128x64x1x1, .f32⟩
  | 119 => ⟨S4x128x64, .f32⟩
  | 120 => ⟨S4x64x64x16x16, .f32⟩
  | 121 => ⟨S4x64x64x16x16, .f32⟩
  | 122 => ⟨S4x64x64x16x16, .f32⟩
  | 123 => ⟨S4x64x128x16x16, .f32⟩
  | 124 => ⟨S4x128x64x1x1, .f32⟩
  | 125 => ⟨S4x128x64, .f32⟩
  | 126 => ⟨S4x64x64x16x16, .f32⟩
  | 127 => ⟨S4x64x64x16x16, .f32⟩
  | _ => ⟨S64x2048, .f32⟩

abbrev hbmTy0_2 (i : Nat) : BufTy := match i % 128 with
  | 0 => ⟨S4x64x64x16x16, .f32⟩
  | 1 => ⟨S4x1x64x1x1, .f32⟩
  | 2 => ⟨S4x64x64x16x16, .f32⟩
  | 3 => ⟨S4x64x64x16x16, .f32⟩
  | 4 => ⟨S_, .f32⟩
  | 5 => ⟨S4x64x64x16x16, .f32⟩
  | 6 => ⟨S4x64x64x16x16, .f32⟩
  | 7 => ⟨S4x64x64x4x4, .f32⟩
  | 8 => ⟨S_, .f32⟩
  | 9 => ⟨S4x64x64x35x35, .f32⟩
  | 10 => ⟨S4x64x64x32x32, .f32⟩
  | 11 => ⟨S4x64x64x1x1, .f32⟩
  | 12 => ⟨S4x64x64, .f32⟩
  | 13 => ⟨S4x64x64x32x32, .f32⟩
  | 14 => ⟨S4x64x64x32x32, .f32⟩
  | 15 => ⟨S_, .f32⟩
  | 16 => ⟨S4x64x64x32x32, .f32⟩
  | 17 => ⟨S4x64x64x32x32, .f32⟩
  | 18 => ⟨S4x64x64x32x32, .f32⟩
  | 19 => ⟨S4x64x64x1x1, .f32⟩
  | 20 => ⟨S4x64x64, .f32⟩
  | 21 => ⟨S4x64x64x32x32, .f32⟩
  | 22 => ⟨S4x64x64x32x32, .f32⟩
  | 23 => ⟨S4x64x64x32x32, .f32⟩
  | 24 => ⟨S4x64x64x32x32, .f32⟩
  | 25 => ⟨S4x64x64x1x1, .f32⟩
  | 26 => ⟨S4x64x64, .f32⟩
  | 27 => ⟨S4x64x64x32x32, .f32⟩
  | 28 => ⟨S4x64x64x32x32, .f32⟩
  | 29 => ⟨S4x64x64x32x32, .f32⟩
  | 30 => ⟨S4x64x64x32x32, .f32⟩
  | 31 => ⟨S4x64x64x1x1, .f32⟩
  | 32 => ⟨S4x64x64, .f32⟩
  | 33 => ⟨S4x64x64x32x32, .f32⟩
  | 34 => ⟨S4x64x64x32x32, .f32⟩
  | 35 => ⟨S4x64x64x32x32, .f32⟩
  | 36 => ⟨S4x64x64x32x32, .f32⟩
  | 37 => ⟨S4x64x64x1x1, .f32⟩
  | 38 => ⟨S4x64x64, .f32⟩
  | 39 => ⟨S4x64x64x32x32, .f32⟩
  | 40 => ⟨S4x64x64x32x32, .f32⟩
  | 41 => ⟨S4x64x64x32x32, .f32⟩
  | 42 => ⟨S4x64x64x32x32, .f32⟩
  | 43 => ⟨S4x64x64x1x1, .f32⟩
  | 44 => ⟨S4x64x64, .f32⟩
  | 45 => ⟨S4x64x64x32x32, .f32⟩
  | 46 => ⟨S4x64x64x32x32, .f32⟩
  | 47 => ⟨S4x64x64x32x32, .f32⟩
  | 48 => ⟨S4x64x64x32x32, .f32⟩
  | 49 => ⟨S4x64x64x1x1, .f32⟩
  | 50 => ⟨S4x64x64, .f32⟩
  | 51 => ⟨S4x64x64x32x32, .f32⟩
  | 52 => ⟨S4x64x64x32x32, .f32⟩
  | 53 => ⟨S4x64x64x32x32, .f32⟩
  | 54 => ⟨S4x64x64x32x32, .f32⟩
  | 55 => ⟨S4x64x64x1x1, .f32⟩
  | 56 => ⟨S4x64x64, .f32⟩
  | 57 => ⟨S4x64x64x32x32, .f32⟩
  | 58 => ⟨S4x64x64x32x32, .f32⟩
  | 59 => ⟨S4x64x64x32x32, .f32⟩
  | 60 => ⟨S4x64x64x32x32, .f32⟩
  | 61 => ⟨S4x64x64x1x1, .f32⟩
  | 62 => ⟨S4x64x64, .f32⟩
  | 63 => ⟨S4x64x64x32x32, .f32⟩
  | 64 => ⟨S4x64x64x32x32, .f32⟩
  | 65 => ⟨S4x64x64x32x32, .f32⟩
  | 66 => ⟨S4x64x64x32x32, .f32⟩
  | 67 => ⟨S4x64x64x1x1, .f32⟩
  | 68 => ⟨S4x64x64, .f32⟩
  | 69 => ⟨S4x64x64x32x32, .f32⟩
  | 70 => ⟨S4x64x64x32x32, .f32⟩
  | 71 => ⟨S4x64x64x32x32, .f32⟩
  | 72 => ⟨S4x64x64x32x32, .f32⟩
  | 73 => ⟨S4x64x64x1x1, .f32⟩
  | 74 => ⟨S4x64x64, .f32⟩
  | 75 => ⟨S4x64x64x32x32, .f32⟩
  | 76 => ⟨S4x64x64x32x32, .f32⟩
  | 77 => ⟨S4x64x64x32x32, .f32⟩
  | 78 => ⟨S4x64x64x32x32, .f32⟩
  | 79 => ⟨S4x64x64x1x1, .f32⟩
  | 80 => ⟨S4x64x64, .f32⟩
  | 81 => ⟨S4x64x64x32x32, .f32⟩
  | 82 => ⟨S4x64x64x32x32, .f32⟩
  | 83 => ⟨S4x64x64x32x32, .f32⟩
  | 84 => ⟨S4x64x64x32x32, .f32⟩
  | 85 => ⟨S4x64x64x1x1, .f32⟩
  | 86 => ⟨S4x64x64, .f32⟩
  | 87 => ⟨S4x64x64x32x32, .f32⟩
  | 88 => ⟨S4x64x64x32x32, .f32⟩
  | 89 => ⟨S4x64x64x32x32, .f32⟩
  | 90 => ⟨S4x64x64x32x32, .f32⟩
  | 91 => ⟨S4x64x64x1x1, .f32⟩
  | 92 => ⟨S4x64x64, .f32⟩
  | 93 => ⟨S4x64x64x32x32, .f32⟩
  | 94 => ⟨S4x64x64x32x32, .f32⟩
  | 95 => ⟨S4x64x64x32x32, .f32⟩
  | 96 => ⟨S4x64x64x32x32, .f32⟩
  | 97 => ⟨S4x64x64x1x1, .f32⟩
  | 98 => ⟨S4x64x64, .f32⟩
  | 99 => ⟨S4x64x64x32x32, .f32⟩
  | 100 => ⟨S4x64x64x32x32, .f32⟩
  | 101 => ⟨S4x64x64x32x32, .f32⟩
  | 102 => ⟨S4x64x64x32x32, .f32⟩
  | 103 => ⟨S4x64x64x1x1, .f32⟩
  | 104 => ⟨S4x64x64, .f32⟩
  | 105 => ⟨S4x64x64x32x32, .f32⟩
  | 106 => ⟨S4x64x64x32x32, .f32⟩
  | 107 => ⟨S4x64x64x32x32, .f32⟩
  | 108 => ⟨S4x1x64x1x1, .f32⟩
  | 109 => ⟨S4x64x64x32x32, .f32⟩
  | 110 => ⟨S4x64x64x32x32, .f32⟩
  | 111 => ⟨S_, .f32⟩
  | 112 => ⟨S4x64x64x32x32, .f32⟩
  | 113 => ⟨S4x64x64x32x32, .f32⟩
  | 114 => ⟨S4x64x32x4x4, .f32⟩
  | 115 => ⟨S_, .f32⟩
  | 116 => ⟨S4x64x64x67x67, .f32⟩
  | 117 => ⟨S4x64x64x64x64, .f32⟩
  | 118 => ⟨S4x64x32x1x1, .f32⟩
  | 119 => ⟨S4x64x32, .f32⟩
  | 120 => ⟨S4x32x64x64x64, .f32⟩
  | 121 => ⟨S4x64x32x64x64, .f32⟩
  | 122 => ⟨S_, .f32⟩
  | 123 => ⟨S4x64x32x64x64, .f32⟩
  | 124 => ⟨S4x64x32x64x64, .f32⟩
  | 125 => ⟨S4x64x64x64x64, .f32⟩
  | 126 => ⟨S4x64x32x1x1, .f32⟩
  | 127 => ⟨S4x64x32, .f32⟩
  | _ => ⟨S64x2048, .f32⟩

abbrev hbmTy0_3 (i : Nat) : BufTy := match i % 128 with
  | 0 => ⟨S4x32x64x64x64, .f32⟩
  | 1 => ⟨S4x64x32x64x64, .f32⟩
  | 2 => ⟨S4x64x32x64x64, .f32⟩
  | 3 => ⟨S4x64x64x64x64, .f32⟩
  | 4 => ⟨S4x64x32x1x1, .f32⟩
  | 5 => ⟨S4x64x32, .f32⟩
  | 6 => ⟨S4x32x64x64x64, .f32⟩
  | 7 => ⟨S4x64x32x64x64, .f32⟩
  | 8 => ⟨S4x64x32x64x64, .f32⟩
  | 9 => ⟨S4x64x64x64x64, .f32⟩
  | 10 => ⟨S4x64x32x1x1, .f32⟩
  | 11 => ⟨S4x64x32, .f32⟩
  | 12 => ⟨S4x32x64x64x64, .f32⟩
  | 13 => ⟨S4x64x32x64x64, .f32⟩
  | 14 => ⟨S4x64x32x64x64, .f32⟩
  | 15 => ⟨S4x64x64x64x64, .f32⟩
  | 16 => ⟨S4x64x32x1x1, .f32⟩
  | 17 => ⟨S4x64x32, .f32⟩
  | 18 => ⟨S4x32x64x64x64, .f32⟩
  | 19 => ⟨S4x64x32x64x64, .f32⟩
  | 20 => ⟨S4x64x32x64x64, .f32⟩
  | 21 => ⟨S4x64x64x64x64, .f32⟩
  | 22 => ⟨S4x64x32x1x1, .f32⟩
  | 23 => ⟨S4x64x32, .f32⟩
  | 24 => ⟨S4x32x64x64x64, .f32⟩
  | 25 => ⟨S4x64x32x64x64, .f32⟩
  | 26 => ⟨S4x64x32x64x64, .f32⟩
  | 27 => ⟨S4x64x64x64x64, .f32⟩
  | 28 => ⟨S4x64x32x1x1, .f32⟩
  | 29 => ⟨S4x64x32, .f32⟩
  | 30 => ⟨S4x32x64x64x64, .f32⟩
  | 31 => ⟨S4x64x32x64x64, .f32⟩
  | 32 => ⟨S4x64x32x64x64, .f32⟩
  | 33 => ⟨S4x64x64x64x64, .f32⟩
  | 34 => ⟨S4x64x32x1x1, .f32⟩
  | 35 => ⟨S4x64x32, .f32⟩
  | 36 => ⟨S4x32x64x64x64, .f32⟩
  | 37 => ⟨S4x64x32x64x64, .f32⟩
  | 38 => ⟨S4x64x32x64x64, .f32⟩
  | 39 => ⟨S4x64x64x64x64, .f32⟩
  | 40 => ⟨S4x64x32x1x1, .f32⟩
  | 41 => ⟨S4x64x32, .f32⟩
  | 42 => ⟨S4x32x64x64x64, .f32⟩
  | 43 => ⟨S4x64x32x64x64, .f32⟩
  | 44 => ⟨S4x64x32x64x64, .f32⟩
  | 45 => ⟨S4x64x64x64x64, .f32⟩
  | 46 => ⟨S4x64x32x1x1, .f32⟩
  | 47 => ⟨S4x64x32, .f32⟩
  | 48 => ⟨S4x32x64x64x64, .f32⟩
  | 49 => ⟨S4x64x32x64x64, .f32⟩
  | 50 => ⟨S4x64x32x64x64, .f32⟩
  | 51 => ⟨S4x64x64x64x64, .f32⟩
  | 52 => ⟨S4x64x32x1x1, .f32⟩
  | 53 => ⟨S4x64x32, .f32⟩
  | 54 => ⟨S4x32x64x64x64, .f32⟩
  | 55 => ⟨S4x64x32x64x64, .f32⟩
  | 56 => ⟨S4x64x32x64x64, .f32⟩
  | 57 => ⟨S4x64x64x64x64, .f32⟩
  | 58 => ⟨S4x64x32x1x1, .f32⟩
  | 59 => ⟨S4x64x32, .f32⟩
  | 60 => ⟨S4x32x64x64x64, .f32⟩
  | 61 => ⟨S4x64x32x64x64, .f32⟩
  | 62 => ⟨S4x64x32x64x64, .f32⟩
  | 63 => ⟨S4x64x64x64x64, .f32⟩
  | 64 => ⟨S4x64x32x1x1, .f32⟩
  | 65 => ⟨S4x64x32, .f32⟩
  | 66 => ⟨S4x32x64x64x64, .f32⟩
  | 67 => ⟨S4x64x32x64x64, .f32⟩
  | 68 => ⟨S4x64x32x64x64, .f32⟩
  | 69 => ⟨S4x64x64x64x64, .f32⟩
  | 70 => ⟨S4x64x32x1x1, .f32⟩
  | 71 => ⟨S4x64x32, .f32⟩
  | 72 => ⟨S4x32x64x64x64, .f32⟩
  | 73 => ⟨S4x64x32x64x64, .f32⟩
  | 74 => ⟨S4x64x32x64x64, .f32⟩
  | 75 => ⟨S4x64x64x64x64, .f32⟩
  | 76 => ⟨S4x64x32x1x1, .f32⟩
  | 77 => ⟨S4x64x32, .f32⟩
  | 78 => ⟨S4x32x64x64x64, .f32⟩
  | 79 => ⟨S4x64x32x64x64, .f32⟩
  | 80 => ⟨S4x64x32x64x64, .f32⟩
  | 81 => ⟨S4x64x64x64x64, .f32⟩
  | 82 => ⟨S4x64x32x1x1, .f32⟩
  | 83 => ⟨S4x64x32, .f32⟩
  | 84 => ⟨S4x32x64x64x64, .f32⟩
  | 85 => ⟨S4x64x32x64x64, .f32⟩
  | 86 => ⟨S4x64x32x64x64, .f32⟩
  | 87 => ⟨S4x1x32x1x1, .f32⟩
  | 88 => ⟨S4x64x32x64x64, .f32⟩
  | 89 => ⟨S4x64x32x64x64, .f32⟩
  | 90 => ⟨S_, .f32⟩
  | 91 => ⟨S4x64x32x64x64, .f32⟩
  | 92 => ⟨S4x64x32x64x64, .f32⟩
  | 93 => ⟨S4x64x32x32x2x32x2, .f32⟩
  | 94 => ⟨S_, .f32⟩
  | 95 => ⟨S4x64x32x32x32, .f32⟩
  | 96 => ⟨S_, .f32⟩
  | 97 => ⟨S4x64x32x32x32, .f32⟩
  | 98 => ⟨S4x64x32x32x32, .f32⟩
  | 99 => ⟨S4x3x32, .f32⟩
  | 100 => ⟨S4x3x64x32x32, .f32⟩
  | 101 => ⟨S4x64x3x32x32, .f32⟩
  | 102 => ⟨S4x1x3x1x1, .f32⟩
  | 103 => ⟨S4x64x3x32x32, .f32⟩
  | 104 => ⟨S4x64x3x32x32, .f32⟩
  | 105 => ⟨S4x64x3x1024, .f32⟩
  | 106 => ⟨S64x4x1024x3, .f32⟩
  | 107 => ⟨S64x4096x3, .f32⟩
  | _ => ⟨S64x2048, .f32⟩

abbrev hbmTy (i : Nat) : BufTy := match i / 128 with
  | 0 => hbmTy0_0 i
  | 1 => hbmTy0_1 i
  | 2 => hbmTy0_2 i
  | 3 => hbmTy0_3 i
  | _ => ⟨S64x2048, .f32⟩

abbrev bufTy : (tb : Table) → Fin (tcTables nBuf tb) → BufTy
  | .hbm, ⟨i, _⟩ => hbmTy i
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call0_cst : Ref sig .tc := ⟨.hbm, 32, rfl⟩
abbrev main_call0_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_cst : Ref sig .tc := ⟨.hbm, 40, rfl⟩
abbrev main_call1_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_call3_cst : Ref sig .tc := ⟨.hbm, 153, rfl⟩
abbrev main_call3_v0 : Ref sig .tc := ⟨.hbm, 154, rfl⟩
abbrev main_v128 : Ref sig .tc := ⟨.hbm, 155, rfl⟩
abbrev main_v129 : Ref sig .tc := ⟨.hbm, 156, rfl⟩
abbrev main_cst_1 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_2 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_call5_cst : Ref sig .tc := ⟨.hbm, 260, rfl⟩
abbrev main_call5_v0 : Ref sig .tc := ⟨.hbm, 261, rfl⟩
abbrev main_v231 : Ref sig .tc := ⟨.hbm, 262, rfl⟩
abbrev main_v232 : Ref sig .tc := ⟨.hbm, 263, rfl⟩
abbrev main_cst_3 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_cst_4 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_v312 : Ref sig .tc := ⟨.hbm, 345, rfl⟩
abbrev main_v313 : Ref sig .tc := ⟨.hbm, 346, rfl⟩
abbrev main_v314 : Ref sig .tc := ⟨.hbm, 347, rfl⟩
abbrev main_v315 : Ref sig .tc := ⟨.hbm, 348, rfl⟩
abbrev main_v316 : Ref sig .tc := ⟨.hbm, 349, rfl⟩
abbrev main_v317 : Ref sig .tc := ⟨.hbm, 350, rfl⟩
abbrev main_v318 : Ref sig .tc := ⟨.hbm, 351, rfl⟩
abbrev main_v319 : Ref sig .tc := ⟨.hbm, 352, rfl⟩
abbrev main_v320 : Ref sig .tc := ⟨.hbm, 353, rfl⟩
abbrev main_v321 : Ref sig .tc := ⟨.hbm, 354, rfl⟩
abbrev main_v322 : Ref sig .tc := ⟨.hbm, 355, rfl⟩
abbrev main_v323 : Ref sig .tc := ⟨.hbm, 356, rfl⟩
abbrev main_v324 : Ref sig .tc := ⟨.hbm, 357, rfl⟩
abbrev main_v325 : Ref sig .tc := ⟨.hbm, 358, rfl⟩
abbrev main_v326 : Ref sig .tc := ⟨.hbm, 359, rfl⟩
abbrev main_v327 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_v332 : Ref sig .tc := ⟨.hbm, 365, rfl⟩
abbrev main_v333 : Ref sig .tc := ⟨.hbm, 366, rfl⟩
abbrev main_call7_cst : Ref sig .tc := ⟨.hbm, 367, rfl⟩
abbrev main_call7_v0 : Ref sig .tc := ⟨.hbm, 368, rfl⟩
abbrev main_v334 : Ref sig .tc := ⟨.hbm, 369, rfl⟩
abbrev main_v335 : Ref sig .tc := ⟨.hbm, 370, rfl⟩
abbrev main_cst_5 : Ref sig .tc := ⟨.hbm, 371, rfl⟩
abbrev main_v336 : Ref sig .tc := ⟨.hbm, 372, rfl⟩
abbrev main_v337 : Ref sig .tc := ⟨.hbm, 373, rfl⟩
abbrev main_v338 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_cst_6 : Ref sig .tc := ⟨.hbm, 378, rfl⟩
abbrev main_v342 : Ref sig .tc := ⟨.hbm, 379, rfl⟩
abbrev main_v343 : Ref sig .tc := ⟨.hbm, 380, rfl⟩
abbrev main_v344 : Ref sig .tc := ⟨.hbm, 381, rfl⟩
abbrev main_v345 : Ref sig .tc := ⟨.hbm, 382, rfl⟩
abbrev main_v346 : Ref sig .tc := ⟨.hbm, 383, rfl⟩
abbrev main_v347 : Ref sig .tc := ⟨.hbm, 384, rfl⟩
abbrev main_v348 : Ref sig .tc := ⟨.hbm, 385, rfl⟩
abbrev main_v349 : Ref sig .tc := ⟨.hbm, 386, rfl⟩
abbrev main_v350 : Ref sig .tc := ⟨.hbm, 387, rfl⟩
abbrev main_v351 : Ref sig .tc := ⟨.hbm, 388, rfl⟩
abbrev main_v352 : Ref sig .tc := ⟨.hbm, 389, rfl⟩
abbrev main_v353 : Ref sig .tc := ⟨.hbm, 390, rfl⟩
abbrev main_v354 : Ref sig .tc := ⟨.hbm, 391, rfl⟩
abbrev main_v355 : Ref sig .tc := ⟨.hbm, 392, rfl⟩
abbrev main_v356 : Ref sig .tc := ⟨.hbm, 393, rfl⟩
abbrev main_v357 : Ref sig .tc := ⟨.hbm, 394, rfl⟩
abbrev main_v358 : Ref sig .tc := ⟨.hbm, 395, rfl⟩
abbrev main_v359 : Ref sig .tc := ⟨.hbm, 396, rfl⟩
abbrev main_v360 : Ref sig .tc := ⟨.hbm, 397, rfl⟩
abbrev main_v361 : Ref sig .tc := ⟨.hbm, 398, rfl⟩
abbrev main_v362 : Ref sig .tc := ⟨.hbm, 399, rfl⟩
abbrev main_v363 : Ref sig .tc := ⟨.hbm, 400, rfl⟩
abbrev main_v364 : Ref sig .tc := ⟨.hbm, 401, rfl⟩
abbrev main_v365 : Ref sig .tc := ⟨.hbm, 402, rfl⟩
abbrev main_v366 : Ref sig .tc := ⟨.hbm, 403, rfl⟩
abbrev main_v367 : Ref sig .tc := ⟨.hbm, 404, rfl⟩
abbrev main_v368 : Ref sig .tc := ⟨.hbm, 405, rfl⟩
abbrev main_v369 : Ref sig .tc := ⟨.hbm, 406, rfl⟩
abbrev main_v370 : Ref sig .tc := ⟨.hbm, 407, rfl⟩
abbrev main_v371 : Ref sig .tc := ⟨.hbm, 408, rfl⟩
abbrev main_v372 : Ref sig .tc := ⟨.hbm, 409, rfl⟩
abbrev main_v373 : Ref sig .tc := ⟨.hbm, 410, rfl⟩
abbrev main_v374 : Ref sig .tc := ⟨.hbm, 411, rfl⟩
abbrev main_v375 : Ref sig .tc := ⟨.hbm, 412, rfl⟩
abbrev main_v376 : Ref sig .tc := ⟨.hbm, 413, rfl⟩
abbrev main_v377 : Ref sig .tc := ⟨.hbm, 414, rfl⟩
abbrev main_v378 : Ref sig .tc := ⟨.hbm, 415, rfl⟩
abbrev main_v379 : Ref sig .tc := ⟨.hbm, 416, rfl⟩
abbrev main_v380 : Ref sig .tc := ⟨.hbm, 417, rfl⟩
abbrev main_v381 : Ref sig .tc := ⟨.hbm, 418, rfl⟩
abbrev main_v382 : Ref sig .tc := ⟨.hbm, 419, rfl⟩
abbrev main_v383 : Ref sig .tc := ⟨.hbm, 420, rfl⟩
abbrev main_v384 : Ref sig .tc := ⟨.hbm, 421, rfl⟩
abbrev main_v385 : Ref sig .tc := ⟨.hbm, 422, rfl⟩
abbrev main_v386 : Ref sig .tc := ⟨.hbm, 423, rfl⟩
abbrev main_v387 : Ref sig .tc := ⟨.hbm, 424, rfl⟩
abbrev main_v388 : Ref sig .tc := ⟨.hbm, 425, rfl⟩
abbrev main_v389 : Ref sig .tc := ⟨.hbm, 426, rfl⟩
abbrev main_v390 : Ref sig .tc := ⟨.hbm, 427, rfl⟩
abbrev main_v391 : Ref sig .tc := ⟨.hbm, 428, rfl⟩
abbrev main_v392 : Ref sig .tc := ⟨.hbm, 429, rfl⟩
abbrev main_v393 : Ref sig .tc := ⟨.hbm, 430, rfl⟩
abbrev main_v394 : Ref sig .tc := ⟨.hbm, 431, rfl⟩
abbrev main_v395 : Ref sig .tc := ⟨.hbm, 432, rfl⟩
abbrev main_v396 : Ref sig .tc := ⟨.hbm, 433, rfl⟩
abbrev main_v397 : Ref sig .tc := ⟨.hbm, 434, rfl⟩
abbrev main_v398 : Ref sig .tc := ⟨.hbm, 435, rfl⟩
abbrev main_v399 : Ref sig .tc := ⟨.hbm, 436, rfl⟩
abbrev main_v400 : Ref sig .tc := ⟨.hbm, 437, rfl⟩
abbrev main_v401 : Ref sig .tc := ⟨.hbm, 438, rfl⟩
abbrev main_v402 : Ref sig .tc := ⟨.hbm, 439, rfl⟩
abbrev main_v403 : Ref sig .tc := ⟨.hbm, 440, rfl⟩
abbrev main_v404 : Ref sig .tc := ⟨.hbm, 441, rfl⟩
abbrev main_v405 : Ref sig .tc := ⟨.hbm, 442, rfl⟩
abbrev main_v406 : Ref sig .tc := ⟨.hbm, 443, rfl⟩
abbrev main_v407 : Ref sig .tc := ⟨.hbm, 444, rfl⟩
abbrev main_v408 : Ref sig .tc := ⟨.hbm, 445, rfl⟩
abbrev main_v409 : Ref sig .tc := ⟨.hbm, 446, rfl⟩
abbrev main_v410 : Ref sig .tc := ⟨.hbm, 447, rfl⟩
abbrev main_v411 : Ref sig .tc := ⟨.hbm, 448, rfl⟩
abbrev main_v412 : Ref sig .tc := ⟨.hbm, 449, rfl⟩
abbrev main_v413 : Ref sig .tc := ⟨.hbm, 450, rfl⟩
abbrev main_v414 : Ref sig .tc := ⟨.hbm, 451, rfl⟩
abbrev main_v415 : Ref sig .tc := ⟨.hbm, 452, rfl⟩
abbrev main_v416 : Ref sig .tc := ⟨.hbm, 453, rfl⟩
abbrev main_v417 : Ref sig .tc := ⟨.hbm, 454, rfl⟩
abbrev main_v418 : Ref sig .tc := ⟨.hbm, 455, rfl⟩
abbrev main_v419 : Ref sig .tc := ⟨.hbm, 456, rfl⟩
abbrev main_v420 : Ref sig .tc := ⟨.hbm, 457, rfl⟩
abbrev main_v421 : Ref sig .tc := ⟨.hbm, 458, rfl⟩
abbrev main_v422 : Ref sig .tc := ⟨.hbm, 459, rfl⟩
abbrev main_v423 : Ref sig .tc := ⟨.hbm, 460, rfl⟩
abbrev main_v424 : Ref sig .tc := ⟨.hbm, 461, rfl⟩
abbrev main_v425 : Ref sig .tc := ⟨.hbm, 462, rfl⟩
abbrev main_v426 : Ref sig .tc := ⟨.hbm, 463, rfl⟩
abbrev main_v427 : Ref sig .tc := ⟨.hbm, 464, rfl⟩
abbrev main_v428 : Ref sig .tc := ⟨.hbm, 465, rfl⟩
abbrev main_v429 : Ref sig .tc := ⟨.hbm, 466, rfl⟩
abbrev main_v430 : Ref sig .tc := ⟨.hbm, 467, rfl⟩
abbrev main_v431 : Ref sig .tc := ⟨.hbm, 468, rfl⟩
abbrev main_v432 : Ref sig .tc := ⟨.hbm, 469, rfl⟩
abbrev main_v433 : Ref sig .tc := ⟨.hbm, 470, rfl⟩
abbrev main_v434 : Ref sig .tc := ⟨.hbm, 471, rfl⟩
abbrev main_v435 : Ref sig .tc := ⟨.hbm, 472, rfl⟩
abbrev main_v436 : Ref sig .tc := ⟨.hbm, 473, rfl⟩
abbrev main_call9_cst : Ref sig .tc := ⟨.hbm, 474, rfl⟩
abbrev main_call9_v0 : Ref sig .tc := ⟨.hbm, 475, rfl⟩
abbrev main_v437 : Ref sig .tc := ⟨.hbm, 476, rfl⟩
abbrev main_v438 : Ref sig .tc := ⟨.hbm, 477, rfl⟩
abbrev main_cst_7 : Ref sig .tc := ⟨.hbm, 478, rfl⟩
abbrev main_v439 : Ref sig .tc := ⟨.hbm, 479, rfl⟩
abbrev main_cst_8 : Ref sig .tc := ⟨.hbm, 480, rfl⟩
abbrev main_v440 : Ref sig .tc := ⟨.hbm, 481, rfl⟩
abbrev main_v441 : Ref sig .tc := ⟨.hbm, 482, rfl⟩
abbrev main_v442 : Ref sig .tc := ⟨.hbm, 483, rfl⟩
abbrev main_v443 : Ref sig .tc := ⟨.hbm, 484, rfl⟩
abbrev main_v444 : Ref sig .tc := ⟨.hbm, 485, rfl⟩
abbrev main_v445 : Ref sig .tc := ⟨.hbm, 486, rfl⟩
abbrev main_v446 : Ref sig .tc := ⟨.hbm, 487, rfl⟩
abbrev main_v447 : Ref sig .tc := ⟨.hbm, 488, rfl⟩
abbrev main_v448 : Ref sig .tc := ⟨.hbm, 489, rfl⟩
abbrev main_v449 : Ref sig .tc := ⟨.hbm, 490, rfl⟩
abbrev main_v450 : Ref sig .tc := ⟨.hbm, 491, rfl⟩

abbrev nD : Nat := 1
abbrev τ : Topo := Topo.v7x

variable {F : FTy → Type} [FloatOps F]
-- ==== Kernel2.lean ====
abbrev S64x3x32768 : Shape := ⟨3, ![64, 3, 32768]⟩
abbrev S8x1x3x3x3 : Shape := ⟨5, ![8, 1, 3, 3, 3]⟩
abbrev S8 : Shape := ⟨1, ![8]⟩
abbrev S16x8x3x3x3 : Shape := ⟨5, ![16, 8, 3, 3, 3]⟩
abbrev S16 : Shape := ⟨1, ![16]⟩
abbrev S32x16x3x3x3 : Shape := ⟨5, ![32, 16, 3, 3, 3]⟩
abbrev S32 : Shape := ⟨1, ![32]⟩
abbrev S32x1x1 : Shape := ⟨3, ![32, 1, 1]⟩
abbrev S1x16x1 : Shape := ⟨3, ![1, 16, 1]⟩
abbrev S_ : Shape := ⟨0, ![]⟩
abbrev S32x16x1 : Shape := ⟨3, ![32, 16, 1]⟩
abbrev S3 : Shape := ⟨1, ![3]⟩
abbrev S1x1x3 : Shape := ⟨3, ![1, 1, 3]⟩
abbrev S32x16x3 : Shape := ⟨3, ![32, 16, 3]⟩
abbrev S8x1x3x3x32x16 : Shape := ⟨6, ![8, 1, 3, 3, 32, 16]⟩
abbrev S3x3x32x1x16x8 : Shape := ⟨6, ![3, 3, 32, 1, 16, 8]⟩
abbrev S9x32x128 : Shape := ⟨3, ![9, 32, 128]⟩
abbrev S16x1x1 : Shape := ⟨3, ![16, 1, 1]⟩
abbrev S1x8x1 : Shape := ⟨3, ![1, 8, 1]⟩
abbrev S16x8x1 : Shape := ⟨3, ![16, 8, 1]⟩
abbrev S16x8x3 : Shape := ⟨3, ![16, 8, 3]⟩
abbrev S16x8x3x3x16x8 : Shape := ⟨6, ![16, 8, 3, 3, 16, 8]⟩
abbrev S3x3x16x8x8x16 : Shape := ⟨6, ![3, 3, 16, 8, 8, 16]⟩
abbrev S9x128x128 : Shape := ⟨3, ![9, 128, 128]⟩
abbrev S8x1x1 : Shape := ⟨3, ![8, 1, 1]⟩
abbrev S4 : Shape := ⟨1, ![4]⟩
abbrev S1x4x1 : Shape := ⟨3, ![1, 4, 1]⟩
abbrev S8x4x1 : Shape := ⟨3, ![8, 4, 1]⟩
abbrev S8x4x3 : Shape := ⟨3, ![8, 4, 3]⟩
abbrev S32x16x3x3x8x4 : Shape := ⟨6, ![32, 16, 3, 3, 8, 4]⟩
abbrev S3x3x8x16x4x32 : Shape := ⟨6, ![3, 3, 8, 16, 4, 32]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S1x16 : Shape := ⟨2, ![1, 16]⟩
abbrev S8x16 : Shape := ⟨2, ![8, 16]⟩
abbrev S1x32 : Shape := ⟨2, ![1, 32]⟩
abbrev S4x32 : Shape := ⟨2, ![4, 32]⟩
abbrev S128x1 : Shape := ⟨2, ![128, 1]⟩
abbrev S128x4096 : Shape := ⟨2, ![128, 4096]⟩
abbrev S256 : Shape := ⟨1, ![256]⟩
abbrev S256x1 : Shape := ⟨2, ![256, 1]⟩
abbrev S256x4096 : Shape := ⟨2, ![256, 4096]⟩
abbrev S64x16x128 : Shape := ⟨3, ![64, 16, 128]⟩
abbrev S1x3x32768 : Shape := ⟨3, ![1, 3, 32768]⟩
abbrev S1x16x128 : Shape := ⟨3, ![1, 16, 128]⟩
abbrev S3x32768 : Shape := ⟨2, ![3, 32768]⟩
abbrev S128x256 : Shape := ⟨2, ![128, 256]⟩
abbrev S3x4096 : Shape := ⟨2, ![3, 4096]⟩
abbrev S1x4096 : Shape := ⟨2, ![1, 4096]⟩
abbrev S128x32 : Shape := ⟨2, ![128, 32]⟩
abbrev S128x1x32 : Shape := ⟨3, ![128, 1, 32]⟩
abbrev S128x8x32 : Shape := ⟨3, ![128, 8, 32]⟩
abbrev S32x4x8x32 : Shape := ⟨4, ![32, 4, 8, 32]⟩
abbrev S32x32x32 : Shape := ⟨3, ![32, 32, 32]⟩
abbrev S1x32x32 : Shape := ⟨3, ![1, 32, 32]⟩
abbrev S33x32x32 : Shape := ⟨3, ![33, 32, 32]⟩
abbrev S34x32x32 : Shape := ⟨3, ![34, 32, 32]⟩
abbrev S34x1x32 : Shape := ⟨3, ![34, 1, 32]⟩
abbrev S34x33x32 : Shape := ⟨3, ![34, 33, 32]⟩
abbrev S34x34x32 : Shape := ⟨3, ![34, 34, 32]⟩
abbrev S256x128 : Shape := ⟨2, ![256, 128]⟩
abbrev S32x34x32 : Shape := ⟨3, ![32, 34, 32]⟩
abbrev S16x2x34x32 : Shape := ⟨4, ![16, 2, 34, 32]⟩
abbrev S16x1x34x32 : Shape := ⟨4, ![16, 1, 34, 32]⟩
abbrev S16x34x32 : Shape := ⟨3, ![16, 34, 32]⟩
abbrev S16x32x32 : Shape := ⟨3, ![16, 32, 32]⟩
abbrev S16x16x2x32 : Shape := ⟨4, ![16, 16, 2, 32]⟩
abbrev S16x16x1x32 : Shape := ⟨4, ![16, 16, 1, 32]⟩
abbrev S16x16x32 : Shape := ⟨3, ![16, 16, 32]⟩
abbrev S256x32 : Shape := ⟨2, ![256, 32]⟩
abbrev S1x32x128 : Shape := ⟨3, ![1, 32, 128]⟩
abbrev S32x128 : Shape := ⟨2, ![32, 128]⟩
abbrev S16x16x128 : Shape := ⟨3, ![16, 16, 128]⟩
abbrev S17x16x128 : Shape := ⟨3, ![17, 16, 128]⟩
abbrev S18x16x128 : Shape := ⟨3, ![18, 16, 128]⟩
abbrev S18x1x128 : Shape := ⟨3, ![18, 1, 128]⟩
abbrev S18x17x128 : Shape := ⟨3, ![18, 17, 128]⟩
abbrev S18x18x128 : Shape := ⟨3, ![18, 18, 128]⟩
abbrev S64x128 : Shape := ⟨2, ![64, 128]⟩
abbrev S16x18x128 : Shape := ⟨3, ![16, 18, 128]⟩
abbrev S8x2x18x128 : Shape := ⟨4, ![8, 2, 18, 128]⟩
abbrev S8x1x18x128 : Shape := ⟨4, ![8, 1, 18, 128]⟩
abbrev S8x18x128 : Shape := ⟨3, ![8, 18, 128]⟩
abbrev S8x16x128 : Shape := ⟨3, ![8, 16, 128]⟩
abbrev S8x8x2x128 : Shape := ⟨4, ![8, 8, 2, 128]⟩
abbrev S8x8x1x128 : Shape := ⟨4, ![8, 8, 1, 128]⟩
abbrev S8x8x128 : Shape := ⟨3, ![8, 8, 128]⟩
abbrev S1x128x128 : Shape := ⟨3, ![1, 128, 128]⟩
abbrev S128x128 : Shape := ⟨2, ![128, 128]⟩
abbrev S1x8x128 : Shape := ⟨3, ![1, 8, 128]⟩
abbrev S9x8x128 : Shape := ⟨3, ![9, 8, 128]⟩
abbrev S10x8x128 : Shape := ⟨3, ![10, 8, 128]⟩
abbrev S10x1x128 : Shape := ⟨3, ![10, 1, 128]⟩
abbrev S10x9x128 : Shape := ⟨3, ![10, 9, 128]⟩
abbrev S10x10x128 : Shape := ⟨3, ![10, 10, 128]⟩
abbrev S16x128 : Shape := ⟨2, ![16, 128]⟩
abbrev S8x10x128 : Shape := ⟨3, ![8, 10, 128]⟩
abbrev S4x2x10x128 : Shape := ⟨4, ![4, 2, 10, 128]⟩
abbrev S4x1x10x128 : Shape := ⟨4, ![4, 1, 10, 128]⟩
abbrev S4x10x128 : Shape := ⟨3, ![4, 10, 128]⟩
abbrev S4x8x128 : Shape := ⟨3, ![4, 8, 128]⟩
abbrev S4x4x2x128 : Shape := ⟨4, ![4, 4, 2, 128]⟩
abbrev S4x4x1x128 : Shape := ⟨4, ![4, 4, 1, 128]⟩
abbrev S4x4x128 : Shape := ⟨3, ![4, 4, 128]⟩

abbrev nBuf : Space → Nat
  | .hbm => 94
  | .vmem => 12
  | .smem => 0
  | _ => 0

abbrev bufTy : (tb : Table) → Fin (tcTables nBuf tb) → BufTy
  | .hbm, ⟨0, _⟩ => ⟨S64x3x32768, .f32⟩
  | .hbm, ⟨1, _⟩ => ⟨S8x1x3x3x3, .f32⟩
  | .hbm, ⟨2, _⟩ => ⟨S8, .f32⟩
  | .hbm, ⟨3, _⟩ => ⟨S16x8x3x3x3, .f32⟩
  | .hbm, ⟨4, _⟩ => ⟨S16, .f32⟩
  | .hbm, ⟨5, _⟩ => ⟨S32x16x3x3x3, .f32⟩
  | .hbm, ⟨6, _⟩ => ⟨S32, .f32⟩
  | .hbm, ⟨7, _⟩ => ⟨S32, .i32⟩
  | .hbm, ⟨8, _⟩ => ⟨S32x1x1, .i32⟩
  | .hbm, ⟨9, _⟩ => ⟨S16, .i32⟩
  | .hbm, ⟨10, _⟩ => ⟨S1x16x1, .i32⟩
  | .hbm, ⟨11, _⟩ => ⟨S_, .i32⟩
  | .hbm, ⟨12, _⟩ => ⟨S1x16x1, .i32⟩
  | .hbm, ⟨13, _⟩ => ⟨S1x16x1, .i32⟩
  | .hbm, ⟨14, _⟩ => ⟨S32x16x1, .i32⟩
  | .hbm, ⟨15, _⟩ => ⟨S32x16x1, .i32⟩
  | .hbm, ⟨16, _⟩ => ⟨S32x16x1, .i32⟩
  | .hbm, ⟨17, _⟩ => ⟨S_, .i32⟩
  | .hbm, ⟨18, _⟩ => ⟨S32x16x1, .i32⟩
  | .hbm, ⟨19, _⟩ => ⟨S32x16x1, .i32⟩
  | .hbm, ⟨20, _⟩ => ⟨S3, .i32⟩
  | .hbm, ⟨21, _⟩ => ⟨S1x1x3, .i32⟩
  | .hbm, ⟨22, _⟩ => ⟨S32x16x3, .i32⟩
  | .hbm, ⟨23, _⟩ => ⟨S32x16x3, .i32⟩
  | .hbm, ⟨24, _⟩ => ⟨S32x16x3, .i1⟩
  | .hbm, ⟨25, _⟩ => ⟨S32x16x3, .f32⟩
  | .hbm, ⟨26, _⟩ => ⟨S8x1x3x3x32x16, .f32⟩
  | .hbm, ⟨27, _⟩ => ⟨S3x3x32x1x16x8, .f32⟩
  | .hbm, ⟨28, _⟩ => ⟨S9x32x128, .f32⟩
  | .hbm, ⟨29, _⟩ => ⟨S16, .i32⟩
  | .hbm, ⟨30, _⟩ => ⟨S16x1x1, .i32⟩
  | .hbm, ⟨31, _⟩ => ⟨S8, .i32⟩
  | .hbm, ⟨32, _⟩ => ⟨S1x8x1, .i32⟩
  | .hbm, ⟨33, _⟩ => ⟨S_, .i32⟩
  | .hbm, ⟨34, _⟩ => ⟨S1x8x1, .i32⟩
  | .hbm, ⟨35, _⟩ => ⟨S1x8x1, .i32⟩
  | .hbm, ⟨36, _⟩ => ⟨S16x8x1, .i32⟩
  | .hbm, ⟨37, _⟩ => ⟨S16x8x1, .i32⟩
  | .hbm, ⟨38, _⟩ => ⟨S16x8x1, .i32⟩
  | .hbm, ⟨39, _⟩ => ⟨S_, .i32⟩
  | .hbm, ⟨40, _⟩ => ⟨S16x8x1, .i32⟩
  | .hbm, ⟨41, _⟩ => ⟨S16x8x1, .i32⟩
  | .hbm, ⟨42, _⟩ => ⟨S3, .i32⟩
  | .hbm, ⟨43, _⟩ => ⟨S1x1x3, .i32⟩
  | .hbm, ⟨44, _⟩ => ⟨S16x8x3, .i32⟩
  | .hbm, ⟨45, _⟩ => ⟨S16x8x3, .i32⟩
  | .hbm, ⟨46, _⟩ => ⟨S16x8x3, .i1⟩
  | .hbm, ⟨47, _⟩ => ⟨S16x8x3, .f32⟩
  | .hbm, ⟨48, _⟩ => ⟨S16x8x3x3x16x8, .f32⟩
  | .hbm, ⟨49, _⟩ => ⟨S3x3x16x8x8x16, .f32⟩
  | .hbm, ⟨50, _⟩ => ⟨S9x128x128, .f32⟩
  | .hbm, ⟨51, _⟩ => ⟨S8, .i32⟩
  | .hbm, ⟨52, _⟩ => ⟨S8x1x1, .i32⟩
  | .hbm, ⟨53, _⟩ => ⟨S4, .i32⟩
  | .hbm, ⟨54, _⟩ => ⟨S1x4x1, .i32⟩
  | .hbm, ⟨55, _⟩ => ⟨S_, .i32⟩
  | .hbm, ⟨56, _⟩ => ⟨S1x4x1, .i32⟩
  | .hbm, ⟨57, _⟩ => ⟨S1x4x1, .i32⟩
  | .hbm, ⟨58, _⟩ => ⟨S8x4x1, .i32⟩
  | .hbm, ⟨59, _⟩ => ⟨S8x4x1, .i32⟩
  | .hbm, ⟨60, _⟩ => ⟨S8x4x1, .i32⟩
  | .hbm, ⟨61, _⟩ => ⟨S_, .i32⟩
  | .hbm, ⟨62, _⟩ => ⟨S8x4x1, .i32⟩
  | .hbm, ⟨63, _⟩ => ⟨S8x4x1, .i32⟩
  | .hbm, ⟨64, _⟩ => ⟨S3, .i32⟩
  | .hbm, ⟨65, _⟩ => ⟨S1x1x3, .i32⟩
  | .hbm, ⟨66, _⟩ => ⟨S8x4x3, .i32⟩
  | .hbm, ⟨67, _⟩ => ⟨S8x4x3, .i32⟩
  | .hbm, ⟨68, _⟩ => ⟨S8x4x3, .i1⟩
  | .hbm, ⟨69, _⟩ => ⟨S8x4x3, .f32⟩
  | .hbm, ⟨70, _⟩ => ⟨S32x16x3x3x8x4, .f32⟩
  | .hbm, ⟨71, _⟩ => ⟨S3x3x8x16x4x32, .f32⟩
  | .hbm, ⟨72, _⟩ => ⟨S9x128x128, .f32⟩
  | .hbm, ⟨73, _⟩ => ⟨S1x8, .f32⟩
  | .hbm, ⟨74, _⟩ => ⟨S16x8, .f32⟩
  | .hbm, ⟨75, _⟩ => ⟨S128, .f32⟩
  | .hbm, ⟨76, _⟩ => ⟨S1x128, .f32⟩
  | .hbm, ⟨77, _⟩ => ⟨S1x16, .f32⟩
  | .hbm, ⟨78, _⟩ => ⟨S8x16, .f32⟩
  | .hbm, ⟨79, _⟩ => ⟨S128, .f32⟩
  | .hbm, ⟨80, _⟩ => ⟨S1x128, .f32⟩
  | .hbm, ⟨81, _⟩ => ⟨S1x32, .f32⟩
  | .hbm, ⟨82, _⟩ => ⟨S4x32, .f32⟩
  | .hbm, ⟨83, _⟩ => ⟨S128, .f32⟩
  | .hbm, ⟨84, _⟩ => ⟨S1x128, .f32⟩
  | .hbm, ⟨85, _⟩ => ⟨S128, .f32⟩
  | .hbm, ⟨86, _⟩ => ⟨S128, .bf16⟩
  | .hbm, ⟨87, _⟩ => ⟨S128x1, .bf16⟩
  | .hbm, ⟨88, _⟩ => ⟨S128x4096, .bf16⟩
  | .hbm, ⟨89, _⟩ => ⟨S256, .f32⟩
  | .hbm, ⟨90, _⟩ => ⟨S256, .bf16⟩
  | .hbm, ⟨91, _⟩ => ⟨S256x1, .bf16⟩
  | .hbm, ⟨92, _⟩ => ⟨S256x4096, .bf16⟩
  | .hbm, ⟨93, _⟩ => ⟨S64x16x128, .f32⟩
  | .local _ .vmem, ⟨0, _⟩ => ⟨S1x3x32768, .f32⟩
  | .local _ .vmem, ⟨1, _⟩ => ⟨S1x3x32768, .f32⟩
  | .local _ .vmem, ⟨2, _⟩ => ⟨S128x4096, .bf16⟩
  | .local _ .vmem, ⟨3, _⟩ => ⟨S256x4096, .bf16⟩
  | .local _ .vmem, ⟨4, _⟩ => ⟨S9x32x128, .f32⟩
  | .local _ .vmem, ⟨5, _⟩ => ⟨S1x128, .f32⟩
  | .local _ .vmem, ⟨6, _⟩ => ⟨S9x128x128, .f32⟩
  | .local _ .vmem, ⟨7, _⟩ => ⟨S1x128, .f32⟩
  | .local _ .vmem, ⟨8, _⟩ => ⟨S9x128x128, .f32⟩
  | .local _ .vmem, ⟨9, _⟩ => ⟨S1x128, .f32⟩
  | .local _ .vmem, ⟨10, _⟩ => ⟨S1x16x128, .f32⟩
  | .local _ .vmem, ⟨11, _⟩ => ⟨S1x16x128, .f32⟩
  | _, _ => ⟨S64x3x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S9x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S64x3x32768 : Shape := ⟨3, ![64, 3, 32768]⟩
abbrev S8x1x3x3x3 : Shape := ⟨5, ![8, 1, 3, 3, 3]⟩
abbrev S8 : Shape := ⟨1, ![8]⟩
abbrev S16x8x3x3x3 : Shape := ⟨5, ![16, 8, 3, 3, 3]⟩
abbrev S16 : Shape := ⟨1, ![16]⟩
abbrev S32x16x3x3x3 : Shape := ⟨5, ![32, 16, 3, 3, 3]⟩
abbrev S32 : Shape := ⟨1, ![32]⟩
abbrev S64x32768x3 : Shape := ⟨3, ![64, 32768, 3]⟩
abbrev S_ : Shape := ⟨0, ![]⟩
abbrev S64x32768x1 : Shape := ⟨3, ![64, 32768, 1]⟩
abbrev S64x32768 : Shape := ⟨2, ![64, 32768]⟩
abbrev S64 : Shape := ⟨1, ![64]⟩
abbrev S64x1 : Shape := ⟨2, ![64, 1]⟩
abbrev S64x32x32x32 : Shape := ⟨4, ![64, 32, 32, 32]⟩
abbrev S64x32768x4 : Shape := ⟨3, ![64, 32768, 4]⟩
abbrev S64x1x32x32x32 : Shape := ⟨5, ![64, 1, 32, 32, 32]⟩
abbrev S64x1x34x34x34 : Shape := ⟨5, ![64, 1, 34, 34, 34]⟩
abbrev S64x1x34x34x16 : Shape := ⟨5, ![64, 1, 34, 34, 16]⟩
abbrev S64x1x34x34x1x16 : Shape := ⟨6, ![64, 1, 34, 34, 1, 16]⟩
abbrev S64x1x34x34x3x16 : Shape := ⟨6, ![64, 1, 34, 34, 3, 16]⟩
abbrev S64x1x34x16x3x16 : Shape := ⟨6, ![64, 1, 34, 16, 3, 16]⟩
abbrev S64x1x34x1x16x3x16 : Shape := ⟨7, ![64, 1, 34, 1, 16, 3, 16]⟩
abbrev S64x1x34x3x16x3x16 : Shape := ⟨7, ![64, 1, 34, 3, 16, 3, 16]⟩
abbrev S64x1x16x3x16x3x16 : Shape := ⟨7, ![64, 1, 16, 3, 16, 3, 16]⟩
abbrev S64x1x1x16x3x16x3x16 : Shape := ⟨8, ![64, 1, 1, 16, 3, 16, 3, 16]⟩
abbrev S64x1x3x16x3x16x3x16 : Shape := ⟨8, ![64, 1, 3, 16, 3, 16, 3, 16]⟩
abbrev S8x64x16x16x16 : Shape := ⟨5, ![8, 64, 16, 16, 16]⟩
abbrev S64x8x16x16x16 : Shape := ⟨5, ![64, 8, 16, 16, 16]⟩
abbrev S1x8x1x1x1 : Shape := ⟨5, ![1, 8, 1, 1, 1]⟩
abbrev S64x8x18x18x18 : Shape := ⟨5, ![64, 8, 18, 18, 18]⟩
abbrev S64x8x18x18x8 : Shape := ⟨5, ![64, 8, 18, 18, 8]⟩
abbrev S64x8x18x18x1x8 : Shape := ⟨6, ![64, 8, 18, 18, 1, 8]⟩
abbrev S64x8x18x18x3x8 : Shape := ⟨6, ![64, 8, 18, 18, 3, 8]⟩
abbrev S64x8x18x8x3x8 : Shape := ⟨6, ![64, 8, 18, 8, 3, 8]⟩
abbrev S64x8x18x1x8x3x8 : Shape := ⟨7, ![64, 8, 18, 1, 8, 3, 8]⟩
abbrev S64x8x18x3x8x3x8 : Shape := ⟨7, ![64, 8, 18, 3, 8, 3, 8]⟩
abbrev S64x8x8x3x8x3x8 : Shape := ⟨7, ![64, 8, 8, 3, 8, 3, 8]⟩
abbrev S64x8x1x8x3x8x3x8 : Shape := ⟨8, ![64, 8, 1, 8, 3, 8, 3, 8]⟩
abbrev S64x8x3x8x3x8x3x8 : Shape := ⟨8, ![64, 8, 3, 8, 3, 8, 3, 8]⟩
abbrev S16x64x8x8x8 : Shape := ⟨5, ![16, 64, 8, 8, 8]⟩
abbrev S64x16x8x8x8 : Shape := ⟨5, ![64, 16, 8, 8, 8]⟩
abbrev S1x16x1x1x1 : Shape := ⟨5, ![1, 16, 1, 1, 1]⟩
abbrev S64x16x10x10x10 : Shape := ⟨5, ![64, 16, 10, 10, 10]⟩
abbrev S64x16x10x10x4 : Shape := ⟨5, ![64, 16, 10, 10, 4]⟩
abbrev S64x16x10x10x1x4 : Shape := ⟨6, ![64, 16, 10, 10, 1, 4]⟩
abbrev S64x16x10x10x3x4 : Shape := ⟨6, ![64, 16, 10, 10, 3, 4]⟩
abbrev S64x16x10x4x3x4 : Shape := ⟨6, ![64, 16, 10, 4, 3, 4]⟩
abbrev S64x16x10x1x4x3x4 : Shape := ⟨7, ![64, 16, 10, 1, 4, 3, 4]⟩
abbrev S64x16x10x3x4x3x4 : Shape := ⟨7, ![64, 16, 10, 3, 4, 3, 4]⟩
abbrev S64x16x4x3x4x3x4 : Shape := ⟨7, ![64, 16, 4, 3, 4, 3, 4]⟩
abbrev S64x16x1x4x3x4x3x4 : Shape := ⟨8, ![64, 16, 1, 4, 3, 4, 3, 4]⟩
abbrev S64x16x3x4x3x4x3x4 : Shape := ⟨8, ![64, 16, 3, 4, 3, 4, 3, 4]⟩
abbrev S32x64x4x4x4 : Shape := ⟨5, ![32, 64, 4, 4, 4]⟩
abbrev S64x32x4x4x4 : Shape := ⟨5, ![64, 32, 4, 4, 4]⟩
abbrev S1x32x1x1x1 : Shape := ⟨5, ![1, 32, 1, 1, 1]⟩
abbrev S64x4x4x4x32 : Shape := ⟨5, ![64, 4, 4, 4, 32]⟩
abbrev S64x16x128 : Shape := ⟨3, ![64, 16, 128]⟩

abbrev nBuf : Space → Nat
  | .hbm => 172
  | .vmem => 0
  | .smem => 0
  | _ => 0

abbrev hbmTy0_0 (i : Nat) : BufTy := match i % 128 with
  | 0 => ⟨S64x3x32768, .f32⟩
  | 1 => ⟨S8x1x3x3x3, .f32⟩
  | 2 => ⟨S8, .f32⟩
  | 3 => ⟨S16x8x3x3x3, .f32⟩
  | 4 => ⟨S16, .f32⟩
  | 5 => ⟨S32x16x3x3x3, .f32⟩
  | 6 => ⟨S32, .f32⟩
  | 7 => ⟨S64x32768x3, .f32⟩
  | 8 => ⟨S_, .f32⟩
  | 9 => ⟨S64x32768x3, .f32⟩
  | 10 => ⟨S64x32768x3, .f32⟩
  | 11 => ⟨S_, .f32⟩
  | 12 => ⟨S64x32768x3, .f32⟩
  | 13 => ⟨S64x32768x3, .f32⟩
  | 14 => ⟨S_, .f32⟩
  | 15 => ⟨S64x32768x3, .f32⟩
  | 16 => ⟨S64x32768x3, .f32⟩
  | 17 => ⟨S64x32768x3, .i32⟩
  | 18 => ⟨S_, .i32⟩
  | 19 => ⟨S_, .i32⟩
  | 20 => ⟨S_, .i32⟩
  | 21 => ⟨S64x32768x3, .i32⟩
  | 22 => ⟨S64x32768x3, .i32⟩
  | 23 => ⟨S_, .i32⟩
  | 24 => ⟨S64x32768x3, .i32⟩
  | 25 => ⟨S64x32768x3, .i32⟩
  | 26 => ⟨S64x32768x1, .i32⟩
  | 27 => ⟨S64x32768, .i32⟩
  | 28 => ⟨S64x32768x1, .i32⟩
  | 29 => ⟨S64x32768, .i32⟩
  | 30 => ⟨S64x32768x1, .i32⟩
  | 31 => ⟨S64x32768, .i32⟩
  | 32 => ⟨S64, .i32⟩
  | 33 => ⟨S64x1, .i32⟩
  | 34 => ⟨S64x32768, .i32⟩
  | 35 => ⟨S_, .f32⟩
  | 36 => ⟨S64x32x32x32, .f32⟩
  | 37 => ⟨S_, .i32⟩
  | 38 => ⟨S64x32768, .i32⟩
  | 39 => ⟨S64x32768, .i1⟩
  | 40 => ⟨S_, .i32⟩
  | 41 => ⟨S64x32768, .i32⟩
  | 42 => ⟨S64x32768, .i32⟩
  | 43 => ⟨S64x32768, .i32⟩
  | 44 => ⟨S_, .i32⟩
  | 45 => ⟨S64x32768, .i32⟩
  | 46 => ⟨S64x32768, .i1⟩
  | 47 => ⟨S_, .i32⟩
  | 48 => ⟨S64x32768, .i32⟩
  | 49 => ⟨S64x32768, .i32⟩
  | 50 => ⟨S64x32768, .i32⟩
  | 51 => ⟨S_, .i32⟩
  | 52 => ⟨S64x32768, .i32⟩
  | 53 => ⟨S64x32768, .i1⟩
  | 54 => ⟨S_, .i32⟩
  | 55 => ⟨S64x32768, .i32⟩
  | 56 => ⟨S64x32768, .i32⟩
  | 57 => ⟨S64x32768, .i32⟩
  | 58 => ⟨S_, .i32⟩
  | 59 => ⟨S64x32768, .i32⟩
  | 60 => ⟨S64x32768, .i1⟩
  | 61 => ⟨S_, .i32⟩
  | 62 => ⟨S64x32768, .i32⟩
  | 63 => ⟨S64x32768, .i32⟩
  | 64 => ⟨S64x32768, .i32⟩
  | 65 => ⟨S64x32768x1, .i32⟩
  | 66 => ⟨S64x32768x1, .i32⟩
  | 67 => ⟨S64x32768x1, .i32⟩
  | 68 => ⟨S64x32768x1, .i32⟩
  | 69 => ⟨S64x32768x4, .i32⟩
  | 70 => ⟨S_, .f32⟩
  | 71 => ⟨S64x32768, .f32⟩
  | 72 => ⟨S64x32x32x32, .f32⟩
  | 73 => ⟨S64x1x32x32x32, .f32⟩
  | 74 => ⟨S_, .i32⟩
  | 75 => ⟨S_, .f32⟩
  | 76 => ⟨S64x1x34x34x34, .f32⟩
  | 77 => ⟨S64x1x34x34x16, .f32⟩
  | 78 => ⟨S64x1x34x34x16, .f32⟩
  | 79 => ⟨S64x1x34x34x16, .f32⟩
  | 80 => ⟨S64x1x34x34x1x16, .f32⟩
  | 81 => ⟨S64x1x34x34x1x16, .f32⟩
  | 82 => ⟨S64x1x34x34x1x16, .f32⟩
  | 83 => ⟨S64x1x34x34x3x16, .f32⟩
  | 84 => ⟨S64x1x34x16x3x16, .f32⟩
  | 85 => ⟨S64x1x34x16x3x16, .f32⟩
  | 86 => ⟨S64x1x34x16x3x16, .f32⟩
  | 87 => ⟨S64x1x34x1x16x3x16, .f32⟩
  | 88 => ⟨S64x1x34x1x16x3x16, .f32⟩
  | 89 => ⟨S64x1x34x1x16x3x16, .f32⟩
  | 90 => ⟨S64x1x34x3x16x3x16, .f32⟩
  | 91 => ⟨S64x1x16x3x16x3x16, .f32⟩
  | 92 => ⟨S64x1x16x3x16x3x16, .f32⟩
  | 93 => ⟨S64x1x16x3x16x3x16, .f32⟩
  | 94 => ⟨S64x1x1x16x3x16x3x16, .f32⟩
  | 95 => ⟨S64x1x1x16x3x16x3x16, .f32⟩
  | 96 => ⟨S64x1x1x16x3x16x3x16, .f32⟩
  | 97 => ⟨S64x1x3x16x3x16x3x16, .f32⟩
  | 98 => ⟨S8x64x16x16x16, .f32⟩
  | 99 => ⟨S64x8x16x16x16, .f32⟩
  | 100 => ⟨S1x8x1x1x1, .f32⟩
  | 101 => ⟨S64x8x16x16x16, .f32⟩
  | 102 => ⟨S64x8x16x16x16, .f32⟩
  | 103 => ⟨S_, .f32⟩
  | 104 => ⟨S64x8x16x16x16, .f32⟩
  | 105 => ⟨S64x8x16x16x16, .f32⟩
  | 106 => ⟨S_, .i32⟩
  | 107 => ⟨S_, .f32⟩
  | 108 => ⟨S64x8x18x18x18, .f32⟩
  | 109 => ⟨S64x8x18x18x8, .f32⟩
  | 110 => ⟨S64x8x18x18x8, .f32⟩
  | 111 => ⟨S64x8x18x18x8, .f32⟩
  | 112 => ⟨S64x8x18x18x1x8, .f32⟩
  | 113 => ⟨S64x8x18x18x1x8, .f32⟩
  | 114 => ⟨S64x8x18x18x1x8, .f32⟩
  | 115 => ⟨S64x8x18x18x3x8, .f32⟩
  | 116 => ⟨S64x8x18x8x3x8, .f32⟩
  | 117 => ⟨S64x8x18x8x3x8, .f32⟩
  | 118 => ⟨S64x8x18x8x3x8, .f32⟩
  | 119 => ⟨S64x8x18x1x8x3x8, .f32⟩
  | 120 => ⟨S64x8x18x1x8x3x8, .f32⟩
  | 121 => ⟨S64x8x18x1x8x3x8, .f32⟩
  | 122 => ⟨S64x8x18x3x8x3x8, .f32⟩
  | 123 => ⟨S64x8x8x3x8x3x8, .f32⟩
  | 124 => ⟨S64x8x8x3x8x3x8, .f32⟩
  | 125 => ⟨S64x8x8x3x8x3x8, .f32⟩
  | 126 => ⟨S64x8x1x8x3x8x3x8, .f32⟩
  | 127 => ⟨S64x8x1x8x3x8x3x8, .f32⟩
  | _ => ⟨S64x3x32768, .f32⟩

abbrev hbmTy0_1 (i : Nat) : BufTy := match i % 128 with
  | 0 => ⟨S64x8x1x8x3x8x3x8, .f32⟩
  | 1 => ⟨S64x8x3x8x3x8x3x8, .f32⟩
  | 2 => ⟨S16x64x8x8x8, .f32⟩
  | 3 => ⟨S64x16x8x8x8, .f32⟩
  | 4 => ⟨S1x16x1x1x1, .f32⟩
  | 5 => ⟨S64x16x8x8x8, .f32⟩
  | 6 => ⟨S64x16x8x8x8, .f32⟩
  | 7 => ⟨S_, .f32⟩
  | 8 => ⟨S64x16x8x8x8, .f32⟩
  | 9 => ⟨S64x16x8x8x8, .f32⟩
  | 10 => ⟨S_, .i32⟩
  | 11 => ⟨S_, .f32⟩
  | 12 => ⟨S64x16x10x10x10, .f32⟩
  | 13 => ⟨S64x16x10x10x4, .f32⟩
  | 14 => ⟨S64x16x10x10x4, .f32⟩
  | 15 => ⟨S64x16x10x10x4, .f32⟩
  | 16 => ⟨S64x16x10x10x1x4, .f32⟩
  | 17 => ⟨S64x16x10x10x1x4, .f32⟩
  | 18 => ⟨S64x16x10x10x1x4, .f32⟩
  | 19 => ⟨S64x16x10x10x3x4, .f32⟩
  | 20 => ⟨S64x16x10x4x3x4, .f32⟩
  | 21 => ⟨S64x16x10x4x3x4, .f32⟩
  | 22 => ⟨S64x16x10x4x3x4, .f32⟩
  | 23 => ⟨S64x16x10x1x4x3x4, .f32⟩
  | 24 => ⟨S64x16x10x1x4x3x4, .f32⟩
  | 25 => ⟨S64x16x10x1x4x3x4, .f32⟩
  | 26 => ⟨S64x16x10x3x4x3x4, .f32⟩
  | 27 => ⟨S64x16x4x3x4x3x4, .f32⟩
  | 28 => ⟨S64x16x4x3x4x3x4, .f32⟩
  | 29 => ⟨S64x16x4x3x4x3x4, .f32⟩
  | 30 => ⟨S64x16x1x4x3x4x3x4, .f32⟩
  | 31 => ⟨S64x16x1x4x3x4x3x4, .f32⟩
  | 32 => ⟨S64x16x1x4x3x4x3x4, .f32⟩
  | 33 => ⟨S64x16x3x4x3x4x3x4, .f32⟩
  | 34 => ⟨S32x64x4x4x4, .f32⟩
  | 35 => ⟨S64x32x4x4x4, .f32⟩
  | 36 => ⟨S1x32x1x1x1, .f32⟩
  | 37 => ⟨S64x32x4x4x4, .f32⟩
  | 38 => ⟨S64x32x4x4x4, .f32⟩
  | 39 => ⟨S_, .f32⟩
  | 40 => ⟨S64x32x4x4x4, .f32⟩
  | 41 => ⟨S64x32x4x4x4, .f32⟩
  | 42 => ⟨S64x4x4x4x32, .f32⟩
  | 43 => ⟨S64x16x128, .f32⟩
  | _ => ⟨S64x3x32768, .f32⟩

abbrev hbmTy (i : Nat) : BufTy := match i / 128 with
  | 0 => hbmTy0_0 i
  | 1 => hbmTy0_1 i
  | _ => ⟨S64x3x32768, .f32⟩

abbrev bufTy : (tb : Table) → Fin (tcTables nBuf tb) → BufTy
  | .hbm, ⟨i, _⟩ => hbmTy i
  | _, _ => ⟨S64x3x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_c_9 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_10 : Ref sig .tc := ⟨.hbm, 58, rfl⟩
abbrev main_v34 : Ref sig .tc := ⟨.hbm, 59, rfl⟩
abbrev main_v35 : Ref sig .tc := ⟨.hbm, 60, rfl⟩
abbrev main_c_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_13 : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call2_cst : Ref sig .tc := ⟨.hbm, 103, rfl⟩
abbrev main_call2_v0 : Ref sig .tc := ⟨.hbm, 104, rfl⟩
abbrev main_v74 : Ref sig .tc := ⟨.hbm, 105, rfl⟩
abbrev main_c_14 : Ref sig .tc := ⟨.hbm, 106, rfl⟩
abbrev main_call3_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_call4_cst : Ref sig .tc := ⟨.hbm, 135, rfl⟩
abbrev main_call4_v0 : Ref sig .tc := ⟨.hbm, 136, rfl⟩
abbrev main_v102 : Ref sig .tc := ⟨.hbm, 137, rfl⟩
abbrev main_c_15 : Ref sig .tc := ⟨.hbm, 138, rfl⟩
abbrev main_call5_v0 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_call6_cst : Ref sig .tc := ⟨.hbm, 167, rfl⟩
abbrev main_call6_v0 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩

abbrev nD : Nat := 1
abbrev τ : Topo := Topo.v7x

variable {F : FTy → Type} [FloatOps F]
-- ==== Proof.Cat.lean ====
module

public import Idealize.ShloMosaic.Lib.ValueIdx
public import Idealize.ShloMosaic.Lib.ValueIdxRank6
public import Idealize.ShloMosaic.Lib.Pipeline.Value

@[expose] public section

/-! Two arrays laid end to end, read by coordinates, on the axes the kernel uses. -/

namespace Decoder

open Idealize.ShloMosaic Idealize.ShloMosaic.ValueIdx

variable {α : Type} {a b c n0 n1 n2 n3 n4 n5 : ℕ}

theorem cat4_1_left (x : (⟨4, ![n0, a, n2, n3]⟩ : Shape).Idx → α) (y : (⟨4, ![n0, b, n2, n3]⟩ : Shape).Idx → α)
    (h : Shape.Concatenates [⟨4, ![n0, a, n2, n3]⟩, ⟨4, ![n0, b, n2, n3]⟩] ⟨4, ![n0, c, n2, n3]⟩ 1)
    (i : Fin n0) (t : Fin c) (j : Fin n2) (k : Fin n3) (t' : Fin a) (ht : t'.val = t.val) :
    concatenate ⟨4, ![n0, c, n2, n3]⟩ 1 [⟨_, x⟩, ⟨_, y⟩] h (ix4 i t j k) = x (ix4 i t' j k) := by
  refine concatenate_pair_apply_left (t := ⟨4, ![n0, c, n2, n3]⟩) (s₁ := ⟨4, ![n0, a, n2, n3]⟩)
    (s₂ := ⟨4, ![n0, b, n2, n3]⟩) 1 x y h (ix4 i t j k) rfl (ix4 i t' j k) ?_
  intro d
  match d with
  | ⟨0, _⟩ => rfl
  | ⟨1, _⟩ => exact ht
  | ⟨2, _⟩ => rfl
  | ⟨3, _⟩ => rfl

theorem cat4_1_right (x : (⟨4, ![n0, a, n2, n3]⟩ : Shape).Idx → α) (y : (⟨4, ![n0, b, n2, n3]⟩ : Shape).Idx → α)
    (h : Shape.Concatenates [⟨4, ![n0, a, n2, n3]⟩, ⟨4, ![n0, b, n2, n3]⟩] ⟨4, ![n0, c, n2, n3]⟩ 1)
    (i : Fin n0) (t : Fin c) (j : Fin n2) (k : Fin n3) (t' : Fin b) (ht : t'.val + a = t.val) :
    concatenate ⟨4, ![n0, c, n2, n3]⟩ 1 [⟨_, x⟩, ⟨_, y⟩] h (ix4 i t j k) = y (ix4 i t' j k) := by
  refine concatenate_pair_apply_right (t := ⟨4, ![n0, c, n2, n3]⟩) (s₁ := ⟨4, ![n0, a, n2, n3]⟩)
    (s₂ := ⟨4, ![n0, b, n2, n3]⟩) 1 x y h (ix4 i t j k) rfl rfl (ix4 i t' j k) ?_ ht
  intro d hd
  match d, hd with
  | ⟨0, _⟩, _ => rfl
  | ⟨1, _⟩, hd => exact absurd rfl hd
  | ⟨2, _⟩, _ => rfl
  | ⟨3, _⟩, _ => rfl

theorem cat4_2_left (x : (⟨4, ![n0, n1, a, n3]⟩ : Shape).Idx → α) (y : (⟨4, ![n0, n1, b, n3]⟩ : Shape).Idx → α)
    (h : Shape.Concatenates [⟨4, ![n0, n1, a, n3]⟩, ⟨4, ![n0, n1, b, n3]⟩] ⟨4, ![n0, n1, c, n3]⟩ 2)
    (i : Fin n0) (j : Fin n1) (t : Fin c) (k : Fin n3) (t' : Fin a) (ht : t'.val = t.val) :
    concatenate ⟨4, ![n0, n1, c, n3]⟩ 2 [⟨_, x⟩, ⟨_, y⟩] h (ix4 i j t k) = x (ix4 i j t' k) := by
  refine concatenate_pair_apply_left (t := ⟨4, ![n0, n1, c, n3]⟩) (s₁ := ⟨4, ![n0, n1, a, n3]⟩)
    (s₂ := ⟨4, ![n0, n1, b, n3]⟩) 2 x y h (ix4 i j t k) rfl (ix4 i j t' k) ?_
  intro d
  match d with
  | ⟨0, _⟩ => rfl
  | ⟨1, _⟩ => rfl
  | ⟨2, _⟩ => exact ht
  | ⟨3, _⟩ => rfl

theorem cat4_2_right (x : (⟨4, ![n0, n1, a, n3]⟩ : Shape).Idx → α) (y : (⟨4, ![n0, n1, b, n3]⟩ : Shape).Idx → α)
    (h : Shape.Concatenates [⟨4, ![n0, n1, a, n3]⟩, ⟨4, ![n0, n1, b, n3]⟩] ⟨4, ![n0, n1, c, n3]⟩ 2)
    (i : Fin n0) (j : Fin n1) (t : Fin c) (k : Fin n3) (t' : Fin b) (ht : t'.val + a = t.val) :
    concatenate ⟨4, ![n0, n1, c, n3]⟩ 2 [⟨_, x⟩, ⟨_, y⟩] h (ix4 i j t k) = y (ix4 i j t' k) := by
  refine concatenate_pair_apply_right (t := ⟨4, ![n0, n1, c, n3]⟩) (s₁ := ⟨4, ![n0, n1, a, n3]⟩)
    (s₂ := ⟨4, ![n0, n1, b, n3]⟩) 2 x y h (ix4 i j t k) rfl rfl (ix4 i j t' k) ?_ ht
  intro d hd
  match d, hd with
  | ⟨0, _⟩, _ => rfl
  | ⟨1, _⟩, _ => rfl
  | ⟨2, _⟩, hd => exact absurd rfl hd
  | ⟨3, _⟩, _ => rfl

theorem cat5_3 (x : Fin 2 → (⟨5, ![n0, n1, n2, 1, n4]⟩ : Shape).Idx → α)
    (h : Shape.Concatenates [⟨5, ![n0, n1, n2, 1, n4]⟩, ⟨5, ![n0, n1, n2, 1, n4]⟩] ⟨5, ![n0, n1, n2, 2, n4]⟩ 3)
    (i : Fin n0) (j : Fin n1) (k : Fin n2) (t : Fin 2) (l : Fin n4) :
    concatenate ⟨5, ![n0, n1, n2, 2, n4]⟩ 3 [⟨⟨5, ![n0, n1, n2, 1, n4]⟩, x 0⟩, ⟨⟨5, ![n0, n1, n2, 1, n4]⟩, x 1⟩] h (ix5 i j k t l) = x t (ix5 i j k 0 l) := by
  match t with
  | ⟨0, _⟩ =>
    refine concatenate_pair_apply_left (t := ⟨5, ![n0, n1, n2, 2, n4]⟩) (s₁ := ⟨5, ![n0, n1, n2, 1, n4]⟩)
      (s₂ := ⟨5, ![n0, n1, n2, 1, n4]⟩) 3 (x 0) (x 1) h _ rfl (ix5 i j k 0 l) ?_
    intro d
    match d with
    | ⟨0, _⟩ => rfl
    | ⟨1, _⟩ => rfl
    | ⟨2, _⟩ => rfl
    | ⟨3, _⟩ => rfl
    | ⟨4, _⟩ => rfl
  | ⟨1, _⟩ =>
    refine concatenate_pair_apply_right (t := ⟨5, ![n0, n1, n2, 2, n4]⟩) (s₁ := ⟨5, ![n0, n1, n2, 1, n4]⟩)
      (s₂ := ⟨5, ![n0, n1, n2, 1, n4]⟩) 3 (x 0) (x 1) h _ rfl rfl (ix5 i j k 0 l) ?_ rfl
    intro d hd
    match d, hd with
    | ⟨0, _⟩, _ => rfl
    | ⟨1, _⟩, _ => rfl
    | ⟨2, _⟩, _ => rfl
    | ⟨3, _⟩, hd => exact absurd rfl hd
    | ⟨4, _⟩, _ => rfl

theorem cat6_2 (x : Fin 2 → (⟨6, ![n0, n1, 1, n3, n4, n5]⟩ : Shape).Idx → α)
    (h : Shape.Concatenates [⟨6, ![n0, n1, 1, n3, n4, n5]⟩, ⟨6, ![n0, n1, 1, n3, n4, n5]⟩] ⟨6, ![n0, n1, 2, n3, n4, n5]⟩ 2)
    (i : Fin n0) (j : Fin n1) (t : Fin 2) (k : Fin n3) (l : Fin n4) (p : Fin n5) :
    concatenate ⟨6, ![n0, n1, 2, n3, n4, n5]⟩ 2
      [⟨⟨6, ![n0, n1, 1, n3, n4, n5]⟩, x 0⟩, ⟨⟨6, ![n0, n1, 1, n3, n4, n5]⟩, x 1⟩] h (ix6 i j t k l p) = x t (ix6 i j 0 k l p) := by
  match t with
  | ⟨0, _⟩ =>
    refine concatenate_pair_apply_left (t := ⟨6, ![n0, n1, 2, n3, n4, n5]⟩) (s₁ := ⟨6, ![n0, n1, 1, n3, n4, n5]⟩)
      (s₂ := ⟨6, ![n0, n1, 1, n3, n4, n5]⟩) 2 (x 0) (x 1) h _ rfl (ix6 i j 0 k l p) ?_
    intro d
    match d with
    | ⟨0, _⟩ => rfl
    | ⟨1, _⟩ => rfl
    | ⟨2, _⟩ => rfl
    | ⟨3, _⟩ => rfl
    | ⟨4, _⟩ => rfl
    | ⟨5, _⟩ => rfl
  | ⟨1, _⟩ =>
    refine concatenate_pair_apply_right (t := ⟨6, ![n0, n1, 2, n3, n4, n5]⟩) (s₁ := ⟨6, ![n0, n1, 1, n3, n4, n5]⟩)
      (s₂ := ⟨6, ![n0, n1, 1, n3, n4, n5]⟩) 2 (x 0) (x 1) h _ rfl rfl (ix6 i j 0 k l p) ?_ rfl
    intro d hd
    match d, hd with
    | ⟨0, _⟩, _ => rfl
    | ⟨1, _⟩, _ => rfl
    | ⟨2, _⟩, hd => exact absurd rfl hd
    | ⟨3, _⟩, _ => rfl
    | ⟨4, _⟩, _ => rfl
    | ⟨5, _⟩, _ => rfl

end Decoder
-- ==== Proof.KLayer.lean ====
module

public import Idealize.ShloMosaic.Lib.MatmulPlain
public import Idealize.ShloMosaic.Lib.ValueIdx
public import Idealize.ShloMosaic.Lib.ValueIdxRank6
public import Idealize.ShloMosaic.Lib.Pipeline.Value
public import proofs.«01_k».proof.Proof.Cat

@[expose] public section

/-! The kernel's transposed-convolution layer as operations on arrays of any sizes, and its values by index. -/

noncomputable section

namespace Decoder

open Idealize.ShloMosaic Idealize.ShloMosaic.ValueIdx

/-- An array of rank four read at two natural numbers on the middle axes, zero outside. -/
def rd4 {n0 n1 n2 n3 : ℕ} (X : FVec Ideal ⟨4, ![n0, n1, n2, n3]⟩ .f32) (n : Fin n0) (s t : ℕ) (c : Fin n3) : EReal :=
  if h : s < n1 ∧ t < n2 then X (ix4 n ⟨s, h.1⟩ ⟨t, h.2⟩ c) else 0

/-- An array of rank four read inside a border of zeros of width one on the middle axes. -/
def zb {n0 n1 n2 n3 : ℕ} (Y : FVec Ideal ⟨4, ![n0, n1, n2, n3]⟩ .f32) (n : Fin n0) (s t : ℕ) (c : Fin n3) : EReal :=
  if h : (1 ≤ s ∧ s ≤ n1) ∧ (1 ≤ t ∧ t ≤ n2) then Y (ix4 n ⟨s - 1, by omega⟩ ⟨t - 1, by omega⟩ c) else 0

/-- The shape facts of one layer: blocks of `nb` images, `q` by `q` input pixels with `Q = q + 2`, `M = nb q q` rows,
    `H = 2 q` output pixels. -/
structure KFacts (nb q Q ci co M H : ℕ) : Prop where
  hQ : Q = q + 2
  hM : M = nb * q * q
  hH : H = 2 * q
  hs : ∀ sn sr : Fin 3, (⟨4, ![nb, Q, Q, ci]⟩ : Shape).Slices ![0, sn.val, sr.val, 0] ⟨4, ![nb, q, q, ci]⟩
  hc : (⟨4, ![nb, q, q, ci]⟩ : Shape).ShapeCasts ⟨2, ![M, ci]⟩
  hk : (⟨4, ![1, 1, ci, co]⟩ : Shape).ShapeCasts ⟨2, ![ci, co]⟩
  hb0 : (⟨3, ![1, 1, co]⟩ : Shape).ShapeCasts ⟨1, ![co]⟩
  hb1 : (⟨1, ![co]⟩ : Shape).ShapeCasts ⟨2, ![1, co]⟩
  hb2 : (⟨2, ![1, co]⟩ : Shape).Broadcasts ⟨2, ![M, co]⟩
  h4 : (⟨2, ![M, co]⟩ : Shape).ShapeCasts ⟨4, ![nb, q, q, co]⟩
  h5 : (⟨4, ![nb, q, q, co]⟩ : Shape).ShapeCasts ⟨5, ![nb, q, q, 1, co]⟩
  hcat5 : Shape.Concatenates [⟨5, ![nb, q, q, 1, co]⟩, ⟨5, ![nb, q, q, 1, co]⟩] ⟨5, ![nb, q, q, 2, co]⟩ 3
  h6 : (⟨5, ![nb, q, q, 2, co]⟩ : Shape).ShapeCasts ⟨6, ![nb, q, 1, q, 2, co]⟩
  hcat6 : Shape.Concatenates [⟨6, ![nb, q, 1, q, 2, co]⟩, ⟨6, ![nb, q, 1, q, 2, co]⟩] ⟨6, ![nb, q, 2, q, 2, co]⟩ 2
  hH4 : (⟨6, ![nb, q, 2, q, 2, co]⟩ : Shape).ShapeCasts ⟨4, ![nb, H, H, co]⟩

/-- The shape facts of the border. -/
structure PFacts (nb H H1 Q co : ℕ) : Prop where
  hH1 : H1 = H + 1
  hQ : Q = H + 2
  p1 : Shape.Concatenates [⟨4, ![nb, 1, H, co]⟩, ⟨4, ![nb, H, H, co]⟩] ⟨4, ![nb, H1, H, co]⟩ 1
  p2 : Shape.Concatenates [⟨4, ![nb, H1, H, co]⟩, ⟨4, ![nb, 1, H, co]⟩] ⟨4, ![nb, Q, H, co]⟩ 1
  p3 : Shape.Concatenates [⟨4, ![nb, Q, 1, co]⟩, ⟨4, ![nb, Q, H, co]⟩] ⟨4, ![nb, Q, H1, co]⟩ 2
  p4 : Shape.Concatenates [⟨4, ![nb, Q, H1, co]⟩, ⟨4, ![nb, Q, 1, co]⟩] ⟨4, ![nb, Q, Q, co]⟩ 2

section
variable {nb q Q ci co M H H1 : ℕ}

/-- One tap: a shifted block of the padded input, flattened to rows, times a weight matrix. -/
def kTap (f : KFacts nb q Q ci co M H) (XP : FVec Ideal ⟨4, ![nb, Q, Q, ci]⟩ .f32) (sn sr : ℕ)
    (hn : (⟨4, ![nb, Q, Q, ci]⟩ : Shape).Slices ![0, sn, sr, 0] ⟨4, ![nb, q, q, ci]⟩)
    (K : FVec Ideal ⟨4, ![1, 1, ci, co]⟩ .f32) : FVec Ideal ⟨2, ![M, co]⟩ .f32 :=
  FloatOps.matmul (DotDims.plain M ci co) none
    (shapeCast ⟨2, ![M, ci]⟩ (extractStridedSlice ⟨4, ![nb, q, q, ci]⟩ ![0, sn, sr, 0] XP hn) f.hc)
    (shapeCast ⟨2, ![ci, co]⟩ K f.hk) (constant ⟨2, ![M, co]⟩ .f32 0x00000000#32)

/-- The four taps of output parity `(a, b)`, with bias and positive part. -/
def kSub (f : KFacts nb q Q ci co M H) (XP : FVec Ideal ⟨4, ![nb, Q, Q, ci]⟩ .f32) (a b : Fin 2)
    (K0 K1 K2 K3 : FVec Ideal ⟨4, ![1, 1, ci, co]⟩ .f32) (bias : FVec Ideal ⟨3, ![1, 1, co]⟩ .f32) :
    FVec Ideal ⟨2, ![M, co]⟩ .f32 :=
  maximumf
    (addf (addf (addf (addf
      (kTap f XP a.val b.val (f.hs ⟨a.val, by omega⟩ ⟨b.val, by omega⟩) K0)
      (kTap f XP a.val (b.val + 1) (f.hs ⟨a.val, by omega⟩ ⟨b.val + 1, by omega⟩) K1))
      (kTap f XP (a.val + 1) b.val (f.hs ⟨a.val + 1, by omega⟩ ⟨b.val, by omega⟩) K2))
      (kTap f XP (a.val + 1) (b.val + 1) (f.hs ⟨a.val + 1, by omega⟩ ⟨b.val + 1, by omega⟩) K3))
      (broadcastTo ⟨2, ![M, co]⟩ (shapeCast ⟨2, ![1, co]⟩ (shapeCast ⟨1, ![co]⟩ bias f.hb0) f.hb1) f.hb2))
    (broadcast ⟨2, ![M, co]⟩ (Scalar.ofBits .f32 0x00000000#32))

/-- The four parities interleaved into one image. -/
def kMerge (f : KFacts nb q Q ci co M H) (y00 y01 y10 y11 : FVec Ideal ⟨2, ![M, co]⟩ .f32) :
    FVec Ideal ⟨4, ![nb, H, H, co]⟩ .f32 :=
  shapeCast ⟨4, ![nb, H, H, co]⟩
    (concatenate ⟨6, ![nb, q, 2, q, 2, co]⟩ 2
      [⟨⟨6, ![nb, q, 1, q, 2, co]⟩, shapeCast ⟨6, ![nb, q, 1, q, 2, co]⟩
        (concatenate ⟨5, ![nb, q, q, 2, co]⟩ 3
          [⟨⟨5, ![nb, q, q, 1, co]⟩, shapeCast ⟨5, ![nb, q, q, 1, co]⟩ (shapeCast ⟨4, ![nb, q, q, co]⟩ y00 f.h4) f.h5⟩,
           ⟨⟨5, ![nb, q, q, 1, co]⟩, shapeCast ⟨5, ![nb, q, q, 1, co]⟩ (shapeCast ⟨4, ![nb, q, q, co]⟩ y01 f.h4) f.h5⟩]
          f.hcat5) f.h6⟩,
       ⟨⟨6, ![nb, q, 1, q, 2, co]⟩, shapeCast ⟨6, ![nb, q, 1, q, 2, co]⟩
        (concatenate ⟨5, ![nb, q, q, 2, co]⟩ 3
          [⟨⟨5, ![nb, q, q, 1, co]⟩, shapeCast ⟨5, ![nb, q, q, 1, co]⟩ (shapeCast ⟨4, ![nb, q, q, co]⟩ y10 f.h4) f.h5⟩,
           ⟨⟨5, ![nb, q, q, 1, co]⟩, shapeCast ⟨5, ![nb, q, q, 1, co]⟩ (shapeCast ⟨4, ![nb, q, q, co]⟩ y11 f.h4) f.h5⟩]
          f.hcat5) f.h6⟩]
      f.hcat6) f.hH4

/-- A border of zeros of width one around every image. -/
def kPad (g : PFacts nb H H1 Q co) (Y : FVec Ideal ⟨4, ![nb, H, H, co]⟩ .f32) : FVec Ideal ⟨4, ![nb, Q, Q, co]⟩ .f32 :=
  concatenate ⟨4, ![nb, Q, Q, co]⟩ 2
    [⟨⟨4, ![nb, Q, H1, co]⟩, concatenate ⟨4, ![nb, Q, H1, co]⟩ 2
      [⟨⟨4, ![nb, Q, 1, co]⟩, broadcast ⟨4, ![nb, Q, 1, co]⟩ (Scalar.sitofp .f32 0#32)⟩,
       ⟨⟨4, ![nb, Q, H, co]⟩, concatenate ⟨4, ![nb, Q, H, co]⟩ 1
        [⟨⟨4, ![nb, H1, H, co]⟩, concatenate ⟨4, ![nb, H1, H, co]⟩ 1
          [⟨⟨4, ![nb, 1, H, co]⟩, broadcast ⟨4, ![nb, 1, H, co]⟩ (Scalar.sitofp .f32 0#32)⟩,
           ⟨⟨4, ![nb, H, H, co]⟩, Y⟩] g.p1⟩,
         ⟨⟨4, ![nb, 1, H, co]⟩, broadcast ⟨4, ![nb, 1, H, co]⟩ (Scalar.sitofp .f32 0#32)⟩] g.p2⟩] g.p3⟩,
     ⟨⟨4, ![nb, Q, 1, co]⟩, broadcast ⟨4, ![nb, Q, 1, co]⟩ (Scalar.sitofp .f32 0#32)⟩] g.p4

theorem ideal_sitofp_zero : (Scalar.sitofp .f32 0#32 : Ideal .f32) = 0 := by
  show ((((0#32 : BitVec 32).toInt : ℝ)) : EReal) = 0
  simp

/-- The sum one tap contributes at an output. -/
def tapSum (XP : FVec Ideal ⟨4, ![nb, Q, Q, ci]⟩ .f32) (n : Fin nb) (s t : ℕ)
    (K : FVec Ideal ⟨4, ![1, 1, ci, co]⟩ .f32) (o : Fin co) : EReal :=
  ∑ k : Fin ci, rd4 XP n s t k * K (ix4 0 0 k o)

theorem kTap_apply (f : KFacts nb q Q ci co M H) (XP : FVec Ideal ⟨4, ![nb, Q, Q, ci]⟩ .f32) (sn sr : ℕ)
    (hn : (⟨4, ![nb, Q, Q, ci]⟩ : Shape).Slices ![0, sn, sr, 0] ⟨4, ![nb, q, q, ci]⟩)
    (h1 : sn ≤ 2) (h2 : sr ≤ 2)
    (K : FVec Ideal ⟨4, ![1, 1, ci, co]⟩ .f32) (n : Fin nb) (r c : Fin q) (m : Fin M) (o : Fin co)
    (hm : m.val = (n.val * q + r.val) * q + c.val) :
    kTap f XP sn sr hn K (ix2 m o) = tapSum XP n (sn + r.val) (sr + c.val) K o := by
  have hQ := f.hQ
  unfold kTap tapSum
  rw [Ideal.matmul_plain_apply]
  have h0 : (constant ⟨2, ![M, co]⟩ .f32 0x00000000#32 : FVec Ideal _ .f32) (ix2 m o) = 0 := Ideal.ofBits_zero_f32
  rw [h0, zero_add]
  refine Finset.sum_congr rfl fun k _ => ?_
  have hr := r.isLt
  have hc := c.isLt
  congr 1
  · rw [shapeCast_apply _ _ (ix2 m k) (ix4 n r c k) (by
      rw [Shape.rowMajor_val_four, Shape.rowMajor_val_two]
      show ((n.val * q + r.val) * q + c.val) * ci + k.val = m.val * ci + k.val
      rw [hm])]
    unfold rd4
    rw [dif_pos ⟨by omega, by omega⟩]
    exact extractStridedSlice_apply _ _ _ _ _ (fun a => by
      match a with
      | ⟨0, _⟩ => exact (Nat.zero_add _).symm
      | ⟨1, _⟩ => rfl
      | ⟨2, _⟩ => rfl
      | ⟨3, _⟩ => exact (Nat.zero_add _).symm)
  · exact shapeCast_apply _ _ (ix2 k o) (ix4 0 0 k o) (by
      rw [Shape.rowMajor_val_four, Shape.rowMajor_val_two]
      show ((0 * 1 + 0) * ci + k.val) * co + o.val = k.val * co + o.val
      simp)

/-- What one parity holds at an output row and channel. -/
def subVal (XP : FVec Ideal ⟨4, ![nb, Q, Q, ci]⟩ .f32) (a b : ℕ)
    (K0 K1 K2 K3 : FVec Ideal ⟨4, ![1, 1, ci, co]⟩ .f32) (bias : FVec Ideal ⟨3, ![1, 1, co]⟩ .f32)
    (n : Fin nb) (r c : ℕ) (o : Fin co) : EReal :=
  max (tapSum XP n (a + r) (b + c) K0 o + tapSum XP n (a + r) (b + 1 + c) K1 o
    + tapSum XP n (a + 1 + r) (b + c) K2 o + tapSum XP n (a + 1 + r) (b + 1 + c) K3 o + bias (ix3 0 0 o)) 0

theorem kSub_apply (f : KFacts nb q Q ci co M H) (XP : FVec Ideal ⟨4, ![nb, Q, Q, ci]⟩ .f32) (a b : Fin 2)
    (K0 K1 K2 K3 : FVec Ideal ⟨4, ![1, 1, ci, co]⟩ .f32) (bias : FVec Ideal ⟨3, ![1, 1, co]⟩ .f32)
    (n : Fin nb) (r c : Fin q) (m : Fin M) (o : Fin co) (hm : m.val = (n.val * q + r.val) * q + c.val) :
    kSub f XP a b K0 K1 K2 K3 bias (ix2 m o) = subVal XP a.val b.val K0 K1 K2 K3 bias n r.val c.val o := by
  have hb : broadcastTo ⟨2, ![M, co]⟩ (shapeCast ⟨2, ![1, co]⟩ (shapeCast ⟨1, ![co]⟩ bias f.hb0) f.hb1) f.hb2 (ix2 m o)
      = bias (ix3 0 0 o) := by
    rw [broadcastTo_apply _ _ (ix2 m o) (ix2 0 o) (fun a => by
      match a with
      | ⟨0, _⟩ => rfl
      | ⟨1, _⟩ =>
        show o.val = if co = 1 then 0 else o.val
        have := o.isLt
        split <;> omega)]
    rw [shapeCast_apply _ _ (ix2 0 o) (ix1 o) (by
      rw [Shape.rowMajor_val_one, Shape.rowMajor_val_two]
      show o.val = 0 * co + o.val
      omega)]
    exact shapeCast_apply _ _ (ix1 o) (ix3 0 0 o) (by
      rw [Shape.rowMajor_val_one, Shape.rowMajor_val_three]
      show (0 * 1 + 0) * co + o.val = o.val
      omega)
  have hz : (Scalar.ofBits .f32 0x00000000#32 : Ideal .f32) = 0 := Ideal.ofBits_zero_f32
  have ha2 := a.isLt
  have hb2 := b.isLt
  have t0 := kTap_apply f XP a.val b.val (f.hs ⟨a.val, by omega⟩ ⟨b.val, by omega⟩) (by omega) (by omega) K0 n r c m o hm
  have t1 := kTap_apply f XP a.val (b.val + 1) (f.hs ⟨a.val, by omega⟩ ⟨b.val + 1, by omega⟩) (by omega) (by omega) K1 n r c m o hm
  have t2 := kTap_apply f XP (a.val + 1) b.val (f.hs ⟨a.val + 1, by omega⟩ ⟨b.val, by omega⟩) (by omega) (by omega) K2 n r c m o hm
  have t3 := kTap_apply f XP (a.val + 1) (b.val + 1) (f.hs ⟨a.val + 1, by omega⟩ ⟨b.val + 1, by omega⟩) (by omega) (by omega) K3 n r c m o hm
  unfold subVal
  rw [← t0, ← t1, ← t2, ← t3, ← hb]
  conv_rhs => rw [← hz]
  rfl

theorem kMerge_apply (f : KFacts nb q Q ci co M H) (y : Fin 2 → Fin 2 → FVec Ideal ⟨2, ![M, co]⟩ .f32)
    (n : Fin nb) (i j : Fin H) (a b : Fin 2) (r c : Fin q) (m : Fin M) (o : Fin co)
    (hi : i.val = 2 * r.val + a.val) (hj : j.val = 2 * c.val + b.val)
    (hm : m.val = (n.val * q + r.val) * q + c.val) :
    kMerge f (y 0 0) (y 0 1) (y 1 0) (y 1 1) (ix4 n i j o) = y a b (ix2 m o) := by
  have hH := f.hH
  unfold kMerge
  rw [shapeCast_apply _ _ (ix4 n i j o) (ix6 n r a c b o) (by
    rw [Shape.rowMajor_val_four, Shape.rowMajor_val_six]
    show ((((n.val * q + r.val) * 2 + a.val) * q + c.val) * 2 + b.val) * co + o.val = ((n.val * H + i.val) * H + j.val) * co + o.val
    rw [hi, hj, hH]
    congr 2
    ring)]
  have flat : ∀ z : FVec Ideal ⟨2, ![M, co]⟩ .f32,
      shapeCast ⟨5, ![nb, q, q, 1, co]⟩ (shapeCast ⟨4, ![nb, q, q, co]⟩ z f.h4) f.h5 (ix5 n r c 0 o) = z (ix2 m o) := by
    intro z
    rw [shapeCast_apply _ _ (ix5 n r c 0 o) (ix4 n r c o) (by
      rw [Shape.rowMajor_val_four, Shape.rowMajor_val_five]
      show ((n.val * q + r.val) * q + c.val) * co + o.val = (((n.val * q + r.val) * q + c.val) * 1 + 0) * co + o.val
      simp)]
    exact shapeCast_apply _ _ (ix4 n r c o) (ix2 m o) (by
      rw [Shape.rowMajor_val_four, Shape.rowMajor_val_two]
      show m.val * co + o.val = ((n.val * q + r.val) * q + c.val) * co + o.val
      rw [hm])
  refine Eq.trans (cat6_2 (fun a => shapeCast ⟨6, ![nb, q, 1, q, 2, co]⟩
        (concatenate ⟨5, ![nb, q, q, 2, co]⟩ 3
          [⟨⟨5, ![nb, q, q, 1, co]⟩, shapeCast ⟨5, ![nb, q, q, 1, co]⟩ (shapeCast ⟨4, ![nb, q, q, co]⟩ (y a 0) f.h4) f.h5⟩,
           ⟨⟨5, ![nb, q, q, 1, co]⟩, shapeCast ⟨5, ![nb, q, q, 1, co]⟩ (shapeCast ⟨4, ![nb, q, q, co]⟩ (y a 1) f.h4) f.h5⟩]
          f.hcat5) f.h6) f.hcat6 n r a c b o) ?_
  refine Eq.trans (shapeCast_apply _ _ (ix6 n r 0 c b o) (ix5 n r c b o) (by
    rw [Shape.rowMajor_val_five, Shape.rowMajor_val_six]
    show (((n.val * q + r.val) * q + c.val) * 2 + b.val) * co + o.val
      = ((((n.val * q + r.val) * 1 + 0) * q + c.val) * 2 + b.val) * co + o.val
    simp)) ?_
  exact (cat5_3 (fun b => shapeCast ⟨5, ![nb, q, q, 1, co]⟩ (shapeCast ⟨4, ![nb, q, q, co]⟩ (y a b) f.h4) f.h5)
    f.hcat5 n r c b o).trans (flat (y a b))

theorem kPad_apply (g : PFacts nb H H1 Q co) (Y : FVec Ideal ⟨4, ![nb, H, H, co]⟩ .f32) (n : Fin nb) (s t : ℕ)
    (o : Fin co) : rd4 (kPad g Y) n s t o = zb Y n s t o := by
  have hQ := g.hQ
  have hH1 := g.hH1
  unfold rd4 zb
  by_cases hin : s < Q ∧ t < Q
  swap
  · rw [dif_neg hin, dif_neg (by omega)]
  rw [dif_pos hin]
  obtain ⟨hs, ht⟩ := hin
  unfold kPad
  have hz := ideal_sitofp_zero
  by_cases t1 : t = H + 1
  · rw [dif_neg (by omega)]
    exact (cat4_2_right _ _ g.p4 n ⟨s, hs⟩ ⟨t, ht⟩ o 0 (by show 0 + H1 = t; omega)).trans hz
  refine (cat4_2_left _ _ g.p4 n ⟨s, hs⟩ ⟨t, ht⟩ o ⟨t, by omega⟩ rfl).trans ?_
  by_cases t0 : t = 0
  · rw [dif_neg (by omega)]
    exact (cat4_2_left _ _ g.p3 n ⟨s, hs⟩ ⟨t, by omega⟩ o 0 t0.symm).trans hz
  refine (cat4_2_right _ _ g.p3 n ⟨s, hs⟩ ⟨t, by omega⟩ o ⟨t - 1, by omega⟩ (by show t - 1 + 1 = t; omega)).trans ?_
  by_cases s1 : s = H + 1
  · rw [dif_neg (by omega)]
    exact (cat4_1_right _ _ g.p2 n ⟨s, hs⟩ ⟨t - 1, by omega⟩ o 0 (by show 0 + H1 = s; omega)).trans hz
  refine (cat4_1_left _ _ g.p2 n ⟨s, hs⟩ ⟨t - 1, by omega⟩ o ⟨s, by omega⟩ rfl).trans ?_
  by_cases s0 : s = 0
  · rw [dif_neg (by omega)]
    exact (cat4_1_left _ _ g.p1 n ⟨s, by omega⟩ ⟨t - 1, by omega⟩ o 0 s0.symm).trans hz
  rw [dif_pos (by omega)]
  exact cat4_1_right _ _ g.p1 n ⟨s, by omega⟩ ⟨t - 1, by omega⟩ o ⟨s - 1, by omega⟩ (by show s - 1 + 1 = s; omega)

end

end Decoder
-- ==== Proof.RLayer.lean ====
module

public import Idealize.ShloMosaic.Lib.ValueIdx
public import Idealize.ShloMosaic.Lib.KernelVsHost
public import Idealize.ShloMosaic.Lib.Pipeline.Value
public import Idealize.ShloMosaic.PureOps.Ideal.Laws

@[expose] public section

/-! The reference's transposed-convolution layer as operations on arrays of any sizes, and its values by index. -/

noncomputable section

namespace Decoder

open Idealize.ShloMosaic
open Idealize.ShloMosaic.ValueIdx

/-- The rank-zero shape of a scalar. -/
abbrev S0 : Shape := ⟨0, ![]⟩

/-- An image read inside a border of zeros of width one. -/
def zr {P B C h0 h1 : ℕ} (X : FVec Ideal ⟨5, ![P, B, C, h0, h1]⟩ .f32) (p : Fin P) (b : Fin B) (c : Fin C) (s t : ℕ) :
    EReal :=
  if h : (1 ≤ s ∧ s ≤ h0) ∧ (1 ≤ t ∧ t ≤ h1) then X (ix5 p b c ⟨s - 1, by omega⟩ ⟨t - 1, by omega⟩) else 0

/-- The dilated and padded image by index: pixels at even places, zeros elsewhere. -/
def zd {P B C h0 h1 : ℕ} (X : FVec Ideal ⟨5, ![P, B, C, h0, h1]⟩ .f32) (p : Fin P) (b : Fin B) (c : Fin C) (s t : ℕ) :
    EReal :=
  if s % 2 = 0 ∧ t % 2 = 0 then zr X p b c (s / 2) (t / 2) else 0

/-- The shape facts of one layer: `P` patches, `B` images, `C` channels of `h` by `h` pixels to `O` channels of `H` by
    `H` with `H = 2 h`, the dilated image being `D` by `D` with `D = 2 h + 3`. -/
structure RFacts (P B C O h H D : ℕ) : Prop where
  hD : D = 2 * h + 3
  hH : H = 2 * h
  hp : (⟨5, ![P, B, C, h, h]⟩ : Shape).Pads ![0, 0, 0, 2, 2] ![0, 0, 0, 2, 2] ![0, 0, 0, 1, 1] ⟨5, ![P, B, C, D, D]⟩
  h0 : 0 < S0.numel
  hsx : ∀ ky kx : Fin 4, (⟨5, ![P, B, C, D, D]⟩ : Shape).Slices ![0, 0, 0, ky.val, kx.val] ⟨5, ![P, B, C, H, H]⟩
  hsw : ∀ ky kx : Fin 4, (⟨5, ![P, C, O, 4, 4]⟩ : Shape).Slices ![0, 0, 0, ky.val, kx.val] ⟨5, ![P, C, O, 1, 1]⟩
  hw : (⟨5, ![P, C, O, 1, 1]⟩ : Shape).ShapeCasts ⟨3, ![P, C, O]⟩
  wf : DotDims.WF ⟨3, ![P, C, O]⟩ ⟨5, ![P, B, C, H, H]⟩ ⟨5, ![P, O, B, H, H]⟩ [1] [2] [2] [1, 3, 4] [0] [0]
  ht : (⟨5, ![P, O, B, H, H]⟩ : Shape).Transposes [0, 2, 1, 3, 4] ⟨5, ![P, B, O, H, H]⟩
  hz : S0.BroadcastsInDim ⟨5, ![P, B, O, H, H]⟩ ![]
  hb1 : (⟨2, ![P, O]⟩ : Shape).BroadcastsInDim ⟨5, ![P, 1, O, 1, 1]⟩ ![0, 2]
  hb2 : (⟨5, ![P, 1, O, 1, 1]⟩ : Shape).BroadcastsInDim ⟨5, ![P, B, O, H, H]⟩ ![0, 1, 2, 3, 4]

section
variable {P B C O h H D : ℕ}

/-- The contraction over the input channels, patch by patch. -/
def rDot (f : RFacts P B C O h H D) : DotDims ⟨3, ![P, C, O]⟩ ⟨5, ![P, B, C, H, H]⟩ ⟨5, ![P, O, B, H, H]⟩ where
  lhsContracting := [1]
  rhsContracting := [2]
  lhsNonContracting := [2]
  rhsNonContracting := [1, 3, 4]
  lhsBatch := [0]
  rhsBatch := [0]
  wf := f.wf

/-- The scalar zero. -/
def rZero : FVec Ideal S0 .f32 := constant S0 .f32 0x00000000#32

/-- The dilated and padded image. -/
def rPad (f : RFacts P B C O h H D) (X : FVec Ideal ⟨5, ![P, B, C, h, h]⟩ .f32) : FVec Ideal ⟨5, ![P, B, C, D, D]⟩ .f32 :=
  pad ⟨5, ![P, B, C, D, D]⟩ ![0, 0, 0, 2, 2] ![0, 0, 0, 2, 2] ![0, 0, 0, 1, 1] X rZero f.hp f.h0

/-- One tap of the reference. -/
def rTap (f : RFacts P B C O h H D) (XD : FVec Ideal ⟨5, ![P, B, C, D, D]⟩ .f32)
    (wr : FVec Ideal ⟨5, ![P, C, O, 4, 4]⟩ .f32) (ky kx : Fin 4) : FVec Ideal ⟨5, ![P, B, O, H, H]⟩ .f32 :=
  transpose ⟨5, ![P, B, O, H, H]⟩ [0, 2, 1, 3, 4]
    (Host.dotGeneral (rDot f) none
      (shapeCast ⟨3, ![P, C, O]⟩ (extractStridedSlice ⟨5, ![P, C, O, 1, 1]⟩ ![0, 0, 0, ky.val, kx.val] wr (f.hsw ky kx)) f.hw)
      (extractStridedSlice ⟨5, ![P, B, C, H, H]⟩ ![0, 0, 0, ky.val, kx.val] XD (f.hsx ky kx)))
    f.ht

/-- Four taps of one kernel row added on. -/
def rRow (f : RFacts P B C O h H D) (XD : FVec Ideal ⟨5, ![P, B, C, D, D]⟩ .f32)
    (wr : FVec Ideal ⟨5, ![P, C, O, 4, 4]⟩ .f32) (ky : Fin 4) (acc : FVec Ideal ⟨5, ![P, B, O, H, H]⟩ .f32) :
    FVec Ideal ⟨5, ![P, B, O, H, H]⟩ .f32 :=
  addf (addf (addf (addf acc (rTap f XD wr ky 0)) (rTap f XD wr ky 1)) (rTap f XD wr ky 2)) (rTap f XD wr ky 3)

/-- One transposed-convolution layer of the reference with bias and positive part. -/
def rLayer (f : RFacts P B C O h H D) (X : FVec Ideal ⟨5, ![P, B, C, h, h]⟩ .f32)
    (w : FVec Ideal ⟨5, ![P, C, O, 4, 4]⟩ .f32) (bias : FVec Ideal ⟨2, ![P, O]⟩ .f32) :
    FVec Ideal ⟨5, ![P, B, O, H, H]⟩ .f32 :=
  maximumf
    (addf
      (rRow f (rPad f X) (Host.reverse [3, 4] w) 3 (rRow f (rPad f X) (Host.reverse [3, 4] w) 2
        (rRow f (rPad f X) (Host.reverse [3, 4] w) 1 (rRow f (rPad f X) (Host.reverse [3, 4] w) 0
          (broadcastInDim ⟨5, ![P, B, O, H, H]⟩ ![] f.hz rZero)))))
      (broadcastInDim ⟨5, ![P, B, O, H, H]⟩ ![0, 1, 2, 3, 4] f.hb2
        (broadcastInDim ⟨5, ![P, 1, O, 1, 1]⟩ ![0, 2] f.hb1 bias)))
    (broadcastInDim ⟨5, ![P, B, O, H, H]⟩ ![] f.hz rZero)

theorem rZero_apply (i : S0.Idx) : rZero i = 0 := Ideal.ofBits_zero_f32

theorem rPad_apply (f : RFacts P B C O h H D) (X : FVec Ideal ⟨5, ![P, B, C, h, h]⟩ .f32)
    (p : Fin P) (b : Fin B) (c : Fin C) (s t : Fin D) :
    rPad f X (ix5 p b c s t) = zd X p b c s.val t.val := by
  have hD := f.hD
  unfold rPad zd zr
  have hs := s.isLt
  have ht := t.isLt
  by_cases e : (s.val % 2 = 0 ∧ t.val % 2 = 0) ∧ ((1 ≤ s.val / 2 ∧ s.val / 2 ≤ h) ∧ (1 ≤ t.val / 2 ∧ t.val / 2 ≤ h))
  · rw [if_pos e.1, dif_pos e.2]
    obtain ⟨⟨e1, e2⟩, ⟨e3, e4⟩, e5, e6⟩ := e
    exact pad_apply_of_inside _ _ _ X rZero f.hp f.h0 (ix5 p b c s t) (ix5 p b c ⟨s.val / 2 - 1, by omega⟩ ⟨t.val / 2 - 1, by omega⟩)
      (fun a => by
        match a with
        | ⟨0, _⟩ => show p.val = 0 + p.val * (0 + 1); omega
        | ⟨1, _⟩ => show b.val = 0 + b.val * (0 + 1); omega
        | ⟨2, _⟩ => show c.val = 0 + c.val * (0 + 1); omega
        | ⟨3, _⟩ => show s.val = 2 + (s.val / 2 - 1) * (1 + 1); omega
        | ⟨4, _⟩ => show t.val = 2 + (t.val / 2 - 1) * (1 + 1); omega)
  · have lhs : pad ⟨5, ![P, B, C, D, D]⟩ ![0, 0, 0, 2, 2] ![0, 0, 0, 2, 2] ![0, 0, 0, 1, 1] X rZero f.hp f.h0
        (ix5 p b c s t) = 0 := by
      by_cases e3 : 2 ≤ s.val ∧ (s.val - 2) % 2 = 0 ∧ (s.val - 2) / 2 < h
      · exact (pad_apply_of_not_inside _ _ _ X rZero f.hp f.h0 (ix5 p b c s t) (4 : Fin 5) (by
          show ¬(2 ≤ t.val ∧ (t.val - 2) % 2 = 0 ∧ (t.val - 2) / 2 < h)
          omega)).trans (rZero_apply _)
      · exact (pad_apply_of_not_inside _ _ _ X rZero f.hp f.h0 (ix5 p b c s t) (3 : Fin 5) e3).trans (rZero_apply _)
    rw [lhs]
    by_cases e1 : s.val % 2 = 0 ∧ t.val % 2 = 0
    · rw [if_pos e1, dif_neg (fun e2 => e ⟨e1, e2⟩)]
    · rw [if_neg e1]

theorem rDot_apply (f : RFacts P B C O h H D) (x : FVec Ideal ⟨3, ![P, C, O]⟩ .f32)
    (y : FVec Ideal ⟨5, ![P, B, C, H, H]⟩ .f32) (p : Fin P) (o : Fin O) (b : Fin B) (i j : Fin H) :
    Host.dotGeneral (rDot f) none x y (ix5 p o b i j) = ∑ k : Fin C, x (ix3 p k o) * y (ix5 p b k i j) := by
  simp only [Host.dotGeneral]
  rw [Ideal.dotGeneral_apply, ← Equiv.sum_comp (contrEquiv1 (rDot f) C rfl rfl).symm]
  refine Finset.sum_congr rfl fun k _ => ?_
  have hk := contrEquiv1_symm_val (rDot f) C rfl rfl k
  generalize (contrEquiv1 (rDot f) C rfl rfl).symm k = q at hk
  have l0 : ((rDot f).lhsIdx (ix5 p o b i j) q 0).val = p.val := by
    unfold DotDims.lhsIdx
    rw [dif_pos (show (0 : Fin (⟨3, ![P, C, O]⟩ : Shape).rank) ∈ (rDot f).lhsBatch from (by decide : (0 : Fin 3) ∈ ([0] : List (Fin 3))))]
    rfl
  have l2 : ((rDot f).lhsIdx (ix5 p o b i j) q 2).val = o.val := by
    unfold DotDims.lhsIdx
    rw [dif_neg (show ¬(2 : Fin (⟨3, ![P, C, O]⟩ : Shape).rank) ∈ (rDot f).lhsBatch from (by decide : ¬(2 : Fin 3) ∈ ([0] : List (Fin 3)))),
      dif_pos (show (2 : Fin (⟨3, ![P, C, O]⟩ : Shape).rank) ∈ (rDot f).lhsNonContracting from (by decide : (2 : Fin 3) ∈ ([2] : List (Fin 3))))]
    rfl
  have r0 : ((rDot f).rhsIdx (ix5 p o b i j) q 0).val = p.val := by
    unfold DotDims.rhsIdx
    rw [dif_pos (show (0 : Fin (⟨5, ![P, B, C, H, H]⟩ : Shape).rank) ∈ (rDot f).rhsBatch from (by decide : (0 : Fin 5) ∈ ([0] : List (Fin 5))))]
    rfl
  have r1 : ((rDot f).rhsIdx (ix5 p o b i j) q 1).val = b.val := by
    unfold DotDims.rhsIdx
    rw [dif_neg (show ¬(1 : Fin (⟨5, ![P, B, C, H, H]⟩ : Shape).rank) ∈ (rDot f).rhsBatch from (by decide : ¬(1 : Fin 5) ∈ ([0] : List (Fin 5)))),
      dif_pos (show (1 : Fin (⟨5, ![P, B, C, H, H]⟩ : Shape).rank) ∈ (rDot f).rhsNonContracting from (by decide : (1 : Fin 5) ∈ ([1, 3, 4] : List (Fin 5))))]
    rfl
  have r3 : ((rDot f).rhsIdx (ix5 p o b i j) q 3).val = i.val := by
    unfold DotDims.rhsIdx
    rw [dif_neg (show ¬(3 : Fin (⟨5, ![P, B, C, H, H]⟩ : Shape).rank) ∈ (rDot f).rhsBatch from (by decide : ¬(3 : Fin 5) ∈ ([0] : List (Fin 5)))),
      dif_pos (show (3 : Fin (⟨5, ![P, B, C, H, H]⟩ : Shape).rank) ∈ (rDot f).rhsNonContracting from (by decide : (3 : Fin 5) ∈ ([1, 3, 4] : List (Fin 5))))]
    rfl
  have r4 : ((rDot f).rhsIdx (ix5 p o b i j) q 4).val = j.val := by
    unfold DotDims.rhsIdx
    rw [dif_neg (show ¬(4 : Fin (⟨5, ![P, B, C, H, H]⟩ : Shape).rank) ∈ (rDot f).rhsBatch from (by decide : ¬(4 : Fin 5) ∈ ([0] : List (Fin 5)))),
      dif_pos (show (4 : Fin (⟨5, ![P, B, C, H, H]⟩ : Shape).rank) ∈ (rDot f).rhsNonContracting from (by decide : (4 : Fin 5) ∈ ([1, 3, 4] : List (Fin 5))))]
    rfl
  have el : (rDot f).lhsIdx (ix5 p o b i j) q = ix3 p k o := funext fun a => Fin.ext (by
    match a with
    | ⟨0, _⟩ => exact l0
    | ⟨1, _⟩ => exact ((rDot f).lhsIdx_val_of_single rfl _ q).trans hk
    | ⟨2, _⟩ => exact l2)
  have er : (rDot f).rhsIdx (ix5 p o b i j) q = ix5 p b k i j := funext fun a => Fin.ext (by
    match a with
    | ⟨0, _⟩ => exact r0
    | ⟨1, _⟩ => exact r1
    | ⟨2, _⟩ => exact ((rDot f).rhsIdx_val_of_single rfl _ q).trans hk
    | ⟨3, _⟩ => exact r3
    | ⟨4, _⟩ => exact r4)
  rw [el, er]

/-- What one tap contributes at an output pixel. -/
def rTapSum (X : FVec Ideal ⟨5, ![P, B, C, h, h]⟩ .f32) (w : FVec Ideal ⟨5, ![P, C, O, 4, 4]⟩ .f32) (ky kx : Fin 4)
    (p : Fin P) (b : Fin B) (o : Fin O) (i j : ℕ) : EReal :=
  ∑ k : Fin C, w (ix5 p k o ky.rev kx.rev) * zd X p b k (ky.val + i) (kx.val + j)

theorem rTap_apply (f : RFacts P B C O h H D) (X : FVec Ideal ⟨5, ![P, B, C, h, h]⟩ .f32)
    (w : FVec Ideal ⟨5, ![P, C, O, 4, 4]⟩ .f32) (ky kx : Fin 4) (p : Fin P) (b : Fin B) (o : Fin O) (i j : Fin H) :
    rTap f (rPad f X) (Host.reverse [3, 4] w) ky kx (ix5 p b o i j) = rTapSum X w ky kx p b o i.val j.val := by
  have hD := f.hD
  have hH := f.hH
  have hi := i.isLt
  have hj := j.isLt
  have hky := ky.isLt
  have hkx := kx.isLt
  unfold rTap rTapSum
  rw [transpose_apply _ _ _ (ix5 p b o i j) (ix5 p o b i j) (fun a => by
    match a with
    | ⟨0, _⟩ => rfl
    | ⟨1, _⟩ => rfl
    | ⟨2, _⟩ => rfl
    | ⟨3, _⟩ => rfl
    | ⟨4, _⟩ => rfl)]
  rw [rDot_apply]
  refine Finset.sum_congr rfl fun k _ => ?_
  congr 1
  · rw [shapeCast_apply _ _ (ix3 p k o) (ix5 p k o 0 0) (by
      rw [Shape.rowMajor_val_five, Shape.rowMajor_val_three]
      show (((p.val * C + k.val) * O + o.val) * 1 + 0) * 1 + 0 = (p.val * C + k.val) * O + o.val
      omega)]
    rw [extractStridedSlice_apply _ _ _ (ix5 p k o 0 0) (ix5 p k o ky kx) (fun a => by
      match a with
      | ⟨0, _⟩ => exact (Nat.zero_add _).symm
      | ⟨1, _⟩ => exact (Nat.zero_add _).symm
      | ⟨2, _⟩ => exact (Nat.zero_add _).symm
      | ⟨3, _⟩ => rfl
      | ⟨4, _⟩ => rfl)]
    show w _ = w _
    refine congrArg w (funext fun a => ?_)
    match a with
    | ⟨0, _⟩ => rfl
    | ⟨1, _⟩ => rfl
    | ⟨2, _⟩ => rfl
    | ⟨3, _⟩ => rfl
    | ⟨4, _⟩ => rfl
  · rw [extractStridedSlice_apply _ _ _ (ix5 p b k i j) (ix5 p b k ⟨ky.val + i.val, by omega⟩ ⟨kx.val + j.val, by omega⟩) (fun a => by
      match a with
      | ⟨0, _⟩ => exact (Nat.zero_add _).symm
      | ⟨1, _⟩ => exact (Nat.zero_add _).symm
      | ⟨2, _⟩ => exact (Nat.zero_add _).symm
      | ⟨3, _⟩ => rfl
      | ⟨4, _⟩ => rfl)]
    exact rPad_apply f X p b k _ _

/-- One kernel row's sum at an output pixel. -/
def rRowSum (X : FVec Ideal ⟨5, ![P, B, C, h, h]⟩ .f32) (w : FVec Ideal ⟨5, ![P, C, O, 4, 4]⟩ .f32) (ky : Fin 4)
    (p : Fin P) (b : Fin B) (o : Fin O) (i j : ℕ) (acc : EReal) : EReal :=
  acc + rTapSum X w ky 0 p b o i j + rTapSum X w ky 1 p b o i j + rTapSum X w ky 2 p b o i j + rTapSum X w ky 3 p b o i j

theorem rRow_apply (f : RFacts P B C O h H D) (X : FVec Ideal ⟨5, ![P, B, C, h, h]⟩ .f32)
    (w : FVec Ideal ⟨5, ![P, C, O, 4, 4]⟩ .f32) (ky : Fin 4) (acc : FVec Ideal ⟨5, ![P, B, O, H, H]⟩ .f32)
    (p : Fin P) (b : Fin B) (o : Fin O) (i j : Fin H) :
    rRow f (rPad f X) (Host.reverse [3, 4] w) ky acc (ix5 p b o i j)
      = rRowSum X w ky p b o i.val j.val (acc (ix5 p b o i j)) := by
  unfold rRowSum
  rw [← rTap_apply f X w ky 0 p b o i j, ← rTap_apply f X w ky 1 p b o i j, ← rTap_apply f X w ky 2 p b o i j,
    ← rTap_apply f X w ky 3 p b o i j]
  rfl

theorem rLayer_apply (f : RFacts P B C O h H D) (X : FVec Ideal ⟨5, ![P, B, C, h, h]⟩ .f32)
    (w : FVec Ideal ⟨5, ![P, C, O, 4, 4]⟩ .f32) (bias : FVec Ideal ⟨2, ![P, O]⟩ .f32)
    (p : Fin P) (b : Fin B) (o : Fin O) (i j : Fin H) :
    rLayer f X w bias (ix5 p b o i j)
      = max (rRowSum X w 3 p b o i.val j.val (rRowSum X w 2 p b o i.val j.val
          (rRowSum X w 1 p b o i.val j.val (rRowSum X w 0 p b o i.val j.val 0))) + bias (ix2 p o)) 0 := by
  have hz : broadcastInDim ⟨5, ![P, B, O, H, H]⟩ ![] f.hz rZero (ix5 p b o i j) = 0 :=
    (broadcastInDim_apply _ f.hz rZero (ix5 p b o i j) ix0 (fun a => a.elim0)).trans (rZero_apply _)
  have hb : broadcastInDim ⟨5, ![P, B, O, H, H]⟩ ![0, 1, 2, 3, 4] f.hb2
        (broadcastInDim ⟨5, ![P, 1, O, 1, 1]⟩ ![0, 2] f.hb1 bias) (ix5 p b o i j) = bias (ix2 p o) := by
    rw [broadcastInDim_apply _ f.hb2 _ (ix5 p b o i j) (ix5 p 0 o 0 0) (fun a => by
      match a with
      | ⟨0, _⟩ => show p.val = if P = 1 then 0 else p.val; have := p.isLt; split <;> omega
      | ⟨1, _⟩ => rfl
      | ⟨2, _⟩ => show o.val = if O = 1 then 0 else o.val; have := o.isLt; split <;> omega
      | ⟨3, _⟩ => rfl
      | ⟨4, _⟩ => rfl)]
    exact broadcastInDim_apply _ f.hb1 _ (ix5 p 0 o 0 0) (ix2 p o) (fun a => by
      match a with
      | ⟨0, _⟩ => show p.val = if P = 1 then 0 else p.val; have := p.isLt; split <;> omega
      | ⟨1, _⟩ => show o.val = if O = 1 then 0 else o.val; have := o.isLt; split <;> omega)
  unfold rLayer
  show max (rRow f _ _ 3 _ (ix5 p b o i j) + broadcastInDim _ _ f.hb2 _ (ix5 p b o i j)) (broadcastInDim _ _ f.hz _ (ix5 p b o i j)) = _
  rw [hb, hz, rRow_apply, rRow_apply, rRow_apply, rRow_apply, hz]

end

end Decoder
-- ==== Proof.Layer.lean ====
module

public import proofs.«01_k».proof.Proof.KLayer
public import proofs.«01_k».proof.Proof.RLayer

@[expose] public section

/-! The kernel's layer by sub-pixels and the reference's layer by taps on the dilated image hold the same values. -/

noncomputable section

namespace Decoder

open Idealize.ShloMosaic Idealize.ShloMosaic.ValueIdx

variable {nb q Q ci co M H P B D : ℕ}

/-- The place of a kernel tap among the sixteen: output parity first, then the offset inside the parity. -/
def tapNo (a b dn dr : Fin 2) : Fin 16 := ⟨((a.val * 2 + b.val) * 2 + dn.val) * 2 + dr.val, by omega⟩

/-- The tap of the four by four kernel that parity `a` uses at offset `d`. -/
def tapOf (a d : Fin 2) : Fin 4 := ⟨a.val + 2 * d.val, by omega⟩

/-- One parity of the kernel's layer from its sixteen tap matrices. -/
def kPar (f : KFacts nb q Q ci co M H) (XP : FVec Ideal ⟨4, ![nb, Q, Q, ci]⟩ .f32)
    (K : Fin 16 → FVec Ideal ⟨4, ![1, 1, ci, co]⟩ .f32) (bias : FVec Ideal ⟨3, ![1, 1, co]⟩ .f32) (a b : Fin 2) :
    FVec Ideal ⟨2, ![M, co]⟩ .f32 :=
  kSub f XP a b (K (tapNo a b 0 0)) (K (tapNo a b 0 1)) (K (tapNo a b 1 0)) (K (tapNo a b 1 1)) bias

/-- The kernel's layer: the four parities interleaved. -/
def kLayer (f : KFacts nb q Q ci co M H) (XP : FVec Ideal ⟨4, ![nb, Q, Q, ci]⟩ .f32)
    (K : Fin 16 → FVec Ideal ⟨4, ![1, 1, ci, co]⟩ .f32) (bias : FVec Ideal ⟨3, ![1, 1, co]⟩ .f32) :
    FVec Ideal ⟨4, ![nb, H, H, co]⟩ .f32 :=
  kMerge f (kPar f XP K bias 0 0) (kPar f XP K bias 0 1) (kPar f XP K bias 1 0) (kPar f XP K bias 1 1)

theorem rTapSum_zero (X : FVec Ideal ⟨5, ![P, B, ci, q, q]⟩ .f32) (w : FVec Ideal ⟨5, ![P, ci, co, 4, 4]⟩ .f32)
    (ky kx : Fin 4) (p : Fin P) (b : Fin B) (o : Fin co) (i j : ℕ)
    (h : ¬((ky.val + i) % 2 = 0 ∧ (kx.val + j) % 2 = 0)) : rTapSum X w ky kx p b o i j = 0 := by
  unfold rTapSum zd
  simp only [if_neg h, mul_zero, Finset.sum_const_zero]

theorem rTapSum_keep (XP : FVec Ideal ⟨4, ![nb, Q, Q, ci]⟩ .f32) (K : FVec Ideal ⟨4, ![1, 1, ci, co]⟩ .f32)
    (X : FVec Ideal ⟨5, ![P, B, ci, q, q]⟩ .f32) (w : FVec Ideal ⟨5, ![P, ci, co, 4, 4]⟩ .f32)
    (a b dn dr : Fin 2) (p : Fin P) (n : Fin nb) (m : Fin B) (o : Fin co)
    (hX : ∀ (s t : ℕ) (c : Fin ci), rd4 XP n s t c = zr X p m c s t)
    (hK : ∀ k : Fin ci, K (ix4 0 0 k o) = w (ix5 p k o (tapOf a dn).rev (tapOf b dr).rev)) (r c : ℕ) :
    rTapSum X w (tapOf a dn) (tapOf b dr) p m o (2 * r + a.val) (2 * c + b.val)
      = tapSum XP n (a.val + dn.val + r) (b.val + dr.val + c) K o := by
  unfold rTapSum tapSum zd
  refine Finset.sum_congr rfl fun k _ => ?_
  have e1 : (tapOf a dn).val + (2 * r + a.val) = 2 * (a.val + dn.val + r) := by simp only [tapOf]; omega
  have e2 : (tapOf b dr).val + (2 * c + b.val) = 2 * (b.val + dr.val + c) := by simp only [tapOf]; omega
  rw [e1, e2, if_pos ⟨by omega, by omega⟩, Nat.mul_div_cancel_left _ (by omega), Nat.mul_div_cancel_left _ (by omega),
    hK k, hX, mul_comm]

/-- The two layers agree at every output of one parity. -/
theorem subVal_eq (f : RFacts P B ci co q H D) (XP : FVec Ideal ⟨4, ![nb, Q, Q, ci]⟩ .f32)
    (K : Fin 16 → FVec Ideal ⟨4, ![1, 1, ci, co]⟩ .f32) (kb : FVec Ideal ⟨3, ![1, 1, co]⟩ .f32)
    (X : FVec Ideal ⟨5, ![P, B, ci, q, q]⟩ .f32) (w : FVec Ideal ⟨5, ![P, ci, co, 4, 4]⟩ .f32)
    (bias : FVec Ideal ⟨2, ![P, co]⟩ .f32) (p : Fin P) (n : Fin nb) (m : Fin B) (o : Fin co)
    (hX : ∀ (s t : ℕ) (c : Fin ci), rd4 XP n s t c = zr X p m c s t)
    (hK : ∀ (a b dn dr : Fin 2) (k : Fin ci),
      K (tapNo a b dn dr) (ix4 0 0 k o) = w (ix5 p k o (tapOf a dn).rev (tapOf b dr).rev))
    (hb : kb (ix3 0 0 o) = bias (ix2 p o)) (a b : Fin 2) (r c : ℕ) (i j : Fin H)
    (hi : i.val = 2 * r + a.val) (hj : j.val = 2 * c + b.val) :
    subVal XP a.val b.val (K (tapNo a b 0 0)) (K (tapNo a b 0 1)) (K (tapNo a b 1 0)) (K (tapNo a b 1 1)) kb n r c o
      = rLayer f X w bias (ix5 p m o i j) := by
  rw [rLayer_apply, hi, hj]
  unfold subVal
  have k00 : rTapSum X w (tapOf a 0) (tapOf b 0) p m o (2 * r + a.val) (2 * c + b.val)
      = tapSum XP n (a.val + r) (b.val + c) (K (tapNo a b 0 0)) o :=
    rTapSum_keep XP (K (tapNo a b 0 0)) X w a b 0 0 p n m o hX (hK a b 0 0) r c
  have k01 : rTapSum X w (tapOf a 0) (tapOf b 1) p m o (2 * r + a.val) (2 * c + b.val)
      = tapSum XP n (a.val + r) (b.val + 1 + c) (K (tapNo a b 0 1)) o :=
    rTapSum_keep XP (K (tapNo a b 0 1)) X w a b 0 1 p n m o hX (hK a b 0 1) r c
  have k10 : rTapSum X w (tapOf a 1) (tapOf b 0) p m o (2 * r + a.val) (2 * c + b.val)
      = tapSum XP n (a.val + 1 + r) (b.val + c) (K (tapNo a b 1 0)) o :=
    rTapSum_keep XP (K (tapNo a b 1 0)) X w a b 1 0 p n m o hX (hK a b 1 0) r c
  have k11 : rTapSum X w (tapOf a 1) (tapOf b 1) p m o (2 * r + a.val) (2 * c + b.val)
      = tapSum XP n (a.val + 1 + r) (b.val + 1 + c) (K (tapNo a b 1 1)) o :=
    rTapSum_keep XP (K (tapNo a b 1 1)) X w a b 1 1 p n m o hX (hK a b 1 1) r c
  have z := fun (ky kx : Fin 4) => rTapSum_zero X w ky kx p m o (2 * r + a.val) (2 * c + b.val)
  rw [← k00, ← k01, ← k10, ← k11, hb]
  congr 2
  unfold rRowSum
  clear k00 k01 k10 k11 hK hX
  have ha := a.isLt
  have hb2 := b.isLt
  match a, b with
  | ⟨0, _⟩, ⟨0, _⟩ =>
    rw [z 0 1 (by simp), z 0 3 (by simp), z 1 0 (by simp), z 1 1 (by simp),
      z 1 2 (by simp), z 1 3 (by simp), z 2 1 (by simp), z 2 3 (by simp),
      z 3 0 (by simp), z 3 1 (by simp), z 3 2 (by simp), z 3 3 (by simp)]
    simp only [add_zero, zero_add]
    rfl
  | ⟨0, _⟩, ⟨1, _⟩ =>
    rw [z 0 0 (by simp), z 0 2 (by simp), z 1 0 (by simp), z 1 1 (by simp),
      z 1 2 (by simp), z 1 3 (by simp), z 2 0 (by simp), z 2 2 (by simp),
      z 3 0 (by simp), z 3 1 (by simp), z 3 2 (by simp), z 3 3 (by simp)]
    simp only [add_zero, zero_add]
    rfl
  | ⟨1, _⟩, ⟨0, _⟩ =>
    rw [z 1 1 (by simp), z 1 3 (by simp), z 0 0 (by simp), z 0 1 (by simp),
      z 0 2 (by simp), z 0 3 (by simp), z 3 1 (by simp), z 3 3 (by simp),
      z 2 0 (by simp), z 2 1 (by simp), z 2 2 (by simp), z 2 3 (by simp)]
    simp only [add_zero, zero_add]
    rfl
  | ⟨1, _⟩, ⟨1, _⟩ =>
    rw [z 1 0 (by simp), z 1 2 (by simp), z 0 0 (by simp), z 0 1 (by simp),
      z 0 2 (by simp), z 0 3 (by simp), z 3 0 (by simp), z 3 2 (by simp),
      z 2 0 (by simp), z 2 1 (by simp), z 2 2 (by simp), z 2 3 (by simp)]
    simp only [add_zero, zero_add]
    rfl

/-- One parity's rows are the reference layer's pixels of that parity. -/
theorem kPar_eq (g : KFacts nb q Q ci co M H) (f : RFacts P B ci co q H D) (XP : FVec Ideal ⟨4, ![nb, Q, Q, ci]⟩ .f32)
    (K : Fin 16 → FVec Ideal ⟨4, ![1, 1, ci, co]⟩ .f32) (kb : FVec Ideal ⟨3, ![1, 1, co]⟩ .f32)
    (X : FVec Ideal ⟨5, ![P, B, ci, q, q]⟩ .f32) (w : FVec Ideal ⟨5, ![P, ci, co, 4, 4]⟩ .f32)
    (bias : FVec Ideal ⟨2, ![P, co]⟩ .f32) (p : Fin P) (n : Fin nb) (m : Fin B) (o : Fin co)
    (hX : ∀ (s t : ℕ) (c : Fin ci), rd4 XP n s t c = zr X p m c s t)
    (hK : ∀ (a b dn dr : Fin 2) (k : Fin ci),
      K (tapNo a b dn dr) (ix4 0 0 k o) = w (ix5 p k o (tapOf a dn).rev (tapOf b dr).rev))
    (hb : kb (ix3 0 0 o) = bias (ix2 p o)) (a b : Fin 2) (r c : Fin q) (i j : Fin H)
    (hi : i.val = 2 * r.val + a.val) (hj : j.val = 2 * c.val + b.val) (x : Fin M)
    (hx : x.val = (n.val * q + r.val) * q + c.val) :
    kPar g XP K kb a b (ix2 x o) = rLayer f X w bias (ix5 p m o i j) := by
  unfold kPar
  rw [kSub_apply g XP a b _ _ _ _ kb n r c x o hx]
  exact subVal_eq f XP K kb X w bias p n m o hX hK hb a b r.val c.val i j hi hj

/-- The whole layer agrees, pixel by pixel. -/
theorem kLayer_eq (g : KFacts nb q Q ci co M H) (f : RFacts P B ci co q H D) (XP : FVec Ideal ⟨4, ![nb, Q, Q, ci]⟩ .f32)
    (K : Fin 16 → FVec Ideal ⟨4, ![1, 1, ci, co]⟩ .f32) (kb : FVec Ideal ⟨3, ![1, 1, co]⟩ .f32)
    (X : FVec Ideal ⟨5, ![P, B, ci, q, q]⟩ .f32) (w : FVec Ideal ⟨5, ![P, ci, co, 4, 4]⟩ .f32)
    (bias : FVec Ideal ⟨2, ![P, co]⟩ .f32) (p : Fin P) (n : Fin nb) (m : Fin B) (o : Fin co)
    (hX : ∀ (s t : ℕ) (c : Fin ci), rd4 XP n s t c = zr X p m c s t)
    (hK : ∀ (a b dn dr : Fin 2) (k : Fin ci),
      K (tapNo a b dn dr) (ix4 0 0 k o) = w (ix5 p k o (tapOf a dn).rev (tapOf b dr).rev))
    (hb : kb (ix3 0 0 o) = bias (ix2 p o)) (i j : Fin H) :
    kLayer g XP K kb (ix4 n i j o) = rLayer f X w bias (ix5 p m o i j) := by
  have hH := g.hH
  have hM := g.hM
  have hi := i.isLt
  have hj := j.isLt
  have hxM : (n.val * q + i.val / 2) * q + j.val / 2 < M := by
    rw [hM]
    have h1 : n.val * q + i.val / 2 + 1 ≤ nb * q := by
      have : (n.val + 1) * q ≤ nb * q := Nat.mul_le_mul_right _ n.isLt
      have e : (n.val + 1) * q = n.val * q + q := by ring
      omega
    have h2 := Nat.mul_le_mul_right q h1
    have e : (n.val * q + i.val / 2 + 1) * q = (n.val * q + i.val / 2) * q + q := by ring
    omega
  unfold kLayer
  rw [kMerge_apply g (kPar g XP K kb) n i j ⟨i.val % 2, by omega⟩ ⟨j.val % 2, by omega⟩ ⟨i.val / 2, by omega⟩
    ⟨j.val / 2, by omega⟩ ⟨(n.val * q + i.val / 2) * q + j.val / 2, hxM⟩ o (by simp only []; omega) (by simp only []; omega) rfl]
  exact kPar_eq g f XP K kb X w bias p n m o hX hK hb _ _ ⟨i.val / 2, by omega⟩ ⟨j.val / 2, by omega⟩ i j
    (by simp only []; omega) (by simp only []; omega) _ rfl

/-- The next layer's padded input is the reference's image read inside its border. -/
theorem kLayer_pad_eq {H1 Q' : ℕ} (g : KFacts nb q Q ci co M H) (g' : PFacts nb H H1 Q' co) (f : RFacts P B ci co q H D)
    (XP : FVec Ideal ⟨4, ![nb, Q, Q, ci]⟩ .f32)
    (K : Fin 16 → FVec Ideal ⟨4, ![1, 1, ci, co]⟩ .f32) (kb : FVec Ideal ⟨3, ![1, 1, co]⟩ .f32)
    (X : FVec Ideal ⟨5, ![P, B, ci, q, q]⟩ .f32) (w : FVec Ideal ⟨5, ![P, ci, co, 4, 4]⟩ .f32)
    (bias : FVec Ideal ⟨2, ![P, co]⟩ .f32) (p : Fin P) (n : Fin nb) (m : Fin B)
    (hX : ∀ (s t : ℕ) (c : Fin ci), rd4 XP n s t c = zr X p m c s t)
    (hK : ∀ (o : Fin co) (a b dn dr : Fin 2) (k : Fin ci),
      K (tapNo a b dn dr) (ix4 0 0 k o) = w (ix5 p k o (tapOf a dn).rev (tapOf b dr).rev))
    (hb : ∀ o : Fin co, kb (ix3 0 0 o) = bias (ix2 p o)) (s t : ℕ) (o : Fin co) :
    rd4 (kPad g' (kLayer g XP K kb)) n s t o = zr (rLayer f X w bias) p m o s t := by
  rw [kPad_apply]
  unfold zb zr
  by_cases h : (1 ≤ s ∧ s ≤ H) ∧ (1 ≤ t ∧ t ≤ H)
  · rw [dif_pos h, dif_pos h]
    exact kLayer_eq g f XP K kb X w bias p n m o hX (hK o) (hb o) _ _
  · rw [dif_neg h, dif_neg h]

end Decoder
-- ==== Proof.KBridge.lean ====
module

public import proofs.«01_k».proof.Proof.Layer
public import proofs.«01_k».proof.Proof.Gen.KernelIdeal.Frame

@[expose] public section

set_option maxRecDepth 16384

/-! What the kernel's body leaves in its output block, as the layers on its input blocks. -/

noncomputable section

namespace Decoder

open Idealize.ShloMosaic Cert.KernelIdeal Cert.KernelIdeal.Gen

/-- One tap's weight matrix, loaded from a patch's sixteen. -/
def kwl {ci co : ℕ} (x : Vec Ideal ⟨4, ![1, 16, ci, co]⟩ .f32) (t : Fin 16) : FVec Ideal ⟨4, ![1, 1, ci, co]⟩ .f32 :=
  View.ld x (Rect.unit (s := ⟨4, ![1, 16, ci, co]⟩) ![0, t.val, 0, 0] ![1, 1, ci, co] (fun a => by
    match a with
    | ⟨0, _⟩ => exact le_refl 1
    | ⟨1, _⟩ => exact t.isLt
    | ⟨2, _⟩ => exact (Nat.zero_add ci).le
    | ⟨3, _⟩ => exact (Nat.zero_add co).le))

theorem kf1 : KFacts 8 4 6 256 128 128 8 := by constructor <;> decide
theorem kf2 : KFacts 8 8 10 128 64 512 16 := by constructor <;> decide
theorem kf3 : KFacts 8 16 18 64 64 2048 32 := by constructor <;> decide
theorem kf4 : KFacts 8 32 34 64 32 8192 64 := by constructor <;> decide
theorem pf0 : PFacts 8 4 5 6 256 := by constructor <;> decide
theorem pf1 : PFacts 8 8 9 10 128 := by constructor <;> decide
theorem pf2 : PFacts 8 16 17 18 64 := by constructor <;> decide
theorem pf3 : PFacts 8 32 33 34 64 := by constructor <;> decide

/-- Slice `n` of the bridge's rows: the 256 channels of one of the sixteen pixels. -/
def pixelRows (v : FVec Ideal ⟨2, ![8, 4096]⟩ .f32) (n : Fin 16) : FVec Ideal ⟨3, ![8, 1, 256]⟩ .f32 :=
  shapeCast ⟨3, ![8, 1, 256]⟩ (extractStridedSlice ⟨2, ![8, 256]⟩ ![0, 256 * n.val] v
    ((by decide : ∀ n : Fin 16, (⟨2, ![8, 4096]⟩ : Shape).Slices ![0, 256 * n.val] ⟨2, ![8, 256]⟩) n)) (by decide)

/-- The first layer's input image: the bridge's rows with the bias added, laid out by pixels. -/
def headImg (v : FVec Ideal ⟨2, ![8, 4096]⟩ .f32) (b : FVec Ideal ⟨3, ![1, 1, 4096]⟩ .f32) :
    FVec Ideal ⟨4, ![8, 4, 4, 256]⟩ .f32 :=
  shapeCast ⟨4, ![8, 4, 4, 256]⟩ (concatenate ⟨3, ![8, 16, 256]⟩ 1
    (List.ofFn fun n : Fin 16 => (⟨⟨3, ![8, 1, 256]⟩, pixelRows (addf v (broadcastTo ⟨2, ![8, 4096]⟩
      (shapeCast ⟨2, ![1, 4096]⟩ (shapeCast ⟨1, ![4096]⟩ b (by decide)) (by decide)) (by decide))) n⟩ :
      (s : Shape) × (s.Idx → Ideal .f32)))
    concatenates_S8x1x256_S8x1x256_S8x1x256_S8x1x256_S8x1x256_S8x1x256_S8x1x256_S8x1x256_S8x1x256_S8x1x256_S8x1x256_S8x1x256_S8x1x256_S8x1x256_S8x1x256_S8x1x256_S8x16x256_d1)
    (by decide)

theorem pay3_eq (v : FVec Ideal ⟨2, ![8, 4096]⟩ .f32) (b : FVec Ideal ⟨3, ![1, 1, 4096]⟩ .f32) :
    k0_pay3 v b = kPad pf0 (headImg v b) := by
  rfl

/-- The block's result from the last layer's four parities: their mean, the one by one convolution, its bias. -/
def tailOut (y00 y01 y10 y11 : FVec Ideal ⟨2, ![8192, 32]⟩ .f32) (w : FVec Ideal ⟨3, ![1, 32, 3]⟩ .f32)
    (b : FVec Ideal ⟨3, ![1, 1, 3]⟩ .f32) : FVec Ideal ⟨3, ![8, 1024, 3]⟩ .f32 :=
  shapeCast ⟨3, ![8, 1024, 3]⟩ (addf
    (FloatOps.matmul (DotDims.plain 8192 32 3) none
      (mulf (addf (addf (addf y00 y01) y10) y11) (broadcast ⟨2, ![8192, 32]⟩ (Scalar.ofBits .f32 0x3E800000#32)))
      (shapeCast ⟨2, ![32, 3]⟩ w (by decide)) (constant ⟨2, ![8192, 3]⟩ .f32 0x00000000#32))
    (broadcastTo ⟨2, ![8192, 3]⟩ (shapeCast ⟨2, ![1, 3]⟩ (shapeCast ⟨1, ![3]⟩ b (by decide)) (by decide)) (by decide)))
    (by decide)

section
variable (x0 : Vec Ideal S1x8x2048 .f32) (x1 : Vec Ideal S2048x128 .f32) (x2 : Vec Ideal S1x128 .f32)
  (x3 : Vec Ideal S128x256 .f32) (x4 : Vec Ideal S1x256 .f32) (x5 : Vec Ideal S256x128 .f32) (x6 : Vec Ideal S1x1x128 .f32)
  (x7 : Vec Ideal S1x128x4096 .f32) (x8 : Vec Ideal S1x1x4096 .f32) (x9 : Vec Ideal S1x16x256x128 .f32)
  (x10 : Vec Ideal S1x1x128 .f32) (x11 : Vec Ideal S1x16x128x64 .f32) (x12 : Vec Ideal S1x1x64 .f32)
  (x13 : Vec Ideal S1x16x64x64 .f32) (x14 : Vec Ideal S1x1x64 .f32) (x15 : Vec Ideal S1x16x64x32 .f32)
  (x16 : Vec Ideal S1x1x32 .f32) (x17 : Vec Ideal S1x32x3 .f32) (x18 : Vec Ideal S1x1x3 .f32)

/-- The padded input of the first layer. -/
def in1 : FVec Ideal ⟨4, ![8, 6, 6, 256]⟩ .f32 :=
  kPad pf0 (headImg (k0_pay2 (View.ld x0 r0_0) (View.ld x1 r0_1) (View.ld x2 r0_2) (View.ld x3 r0_3) (View.ld x4 r0_4)
    (View.ld x5 r0_5) (View.ld x6 r0_6) (View.ld x7 r0_7)) (View.ld x8 r0_8))

theorem in1_eq : k0_pay72 x0 x1 x2 x3 x4 x5 x6 x7 x8 x9 x10 x11 x12 x13 x14 x15 x16 x17 x18 = in1 x0 x1 x2 x3 x4 x5 x6 x7 x8 := by
  rfl

theorem pad1_eq :
    k0_pay20 (k0_pay79 x0 x1 x2 x3 x4 x5 x6 x7 x8 x9 x10 x11 x12 x13 x14 x15 x16 x17 x18)
      (k0_pay80 x0 x1 x2 x3 x4 x5 x6 x7 x8 x9 x10 x11 x12 x13 x14 x15 x16 x17 x18)
      (k0_pay81 x0 x1 x2 x3 x4 x5 x6 x7 x8 x9 x10 x11 x12 x13 x14 x15 x16 x17 x18)
      (k0_pay82 x0 x1 x2 x3 x4 x5 x6 x7 x8 x9 x10 x11 x12 x13 x14 x15 x16 x17 x18)
      = kPad pf1 (kLayer kf1 (in1 x0 x1 x2 x3 x4 x5 x6 x7 x8) (kwl x9) (View.ld x10 r0_6)) := by
  rfl

theorem pad2_eq :
    k0_pay92 x0 x1 x2 x3 x4 x5 x6 x7 x8 x9 x10 x11 x12 x13 x14 x15 x16 x17 x18
      = kPad pf2 (kLayer kf2 (kPad pf1 (kLayer kf1 (in1 x0 x1 x2 x3 x4 x5 x6 x7 x8) (kwl x9) (View.ld x10 r0_6)))
          (kwl x11) (View.ld x12 r0_25)) := by
  rw [← pad1_eq x0 x1 x2 x3 x4 x5 x6 x7 x8 x9 x10 x11 x12 x13 x14 x15 x16 x17 x18]
  rfl

/-- The padded input of the last layer. -/
def in4 : FVec Ideal ⟨4, ![8, 34, 34, 64]⟩ .f32 :=
  kPad pf3 (kLayer kf3
    (kPad pf2 (kLayer kf2 (kPad pf1 (kLayer kf1 (in1 x0 x1 x2 x3 x4 x5 x6 x7 x8) (kwl x9) (View.ld x10 r0_6)))
          (kwl x11) (View.ld x12 r0_25))) (kwl x13) (View.ld x14 r0_25))

theorem pad3_eq :
    k0_pay55 (k0_pay97 x0 x1 x2 x3 x4 x5 x6 x7 x8 x9 x10 x11 x12 x13 x14 x15 x16 x17 x18)
      (k0_pay98 x0 x1 x2 x3 x4 x5 x6 x7 x8 x9 x10 x11 x12 x13 x14 x15 x16 x17 x18)
      (k0_pay99 x0 x1 x2 x3 x4 x5 x6 x7 x8 x9 x10 x11 x12 x13 x14 x15 x16 x17 x18)
      (k0_pay100 x0 x1 x2 x3 x4 x5 x6 x7 x8 x9 x10 x11 x12 x13 x14 x15 x16 x17 x18)
      (k0_pay101 x0 x1 x2 x3 x4 x5 x6 x7 x8 x9 x10 x11 x12 x13 x14 x15 x16 x17 x18)
      = in4 x0 x1 x2 x3 x4 x5 x6 x7 x8 x9 x10 x11 x12 x13 x14 := by
  unfold in4
  rw [← pad2_eq x0 x1 x2 x3 x4 x5 x6 x7 x8 x9 x10 x11 x12 x13 x14 x15 x16 x17 x18]
  rfl

/-- What the body leaves in its output block. -/
theorem out_eq : out0_19 x0 x1 x2 x3 x4 x5 x6 x7 x8 x9 x10 x11 x12 x13 x14 x15 x16 x17 x18
    = View.canon [⟨r0_77, tailOut
        (kPar kf4 (in4 x0 x1 x2 x3 x4 x5 x6 x7 x8 x9 x10 x11 x12 x13 x14) (kwl x15) (View.ld x16 r0_58) 0 0)
        (kPar kf4 (in4 x0 x1 x2 x3 x4 x5 x6 x7 x8 x9 x10 x11 x12 x13 x14) (kwl x15) (View.ld x16 r0_58) 0 1)
        (kPar kf4 (in4 x0 x1 x2 x3 x4 x5 x6 x7 x8 x9 x10 x11 x12 x13 x14) (kwl x15) (View.ld x16 r0_58) 1 0)
        (kPar kf4 (in4 x0 x1 x2 x3 x4 x5 x6 x7 x8 x9 x10 x11 x12 x13 x14) (kwl x15) (View.ld x16 r0_58) 1 1)
        (View.ld x17 r0_75) (View.ld x18 r0_76)⟩] := by
  rw [← pad3_eq x0 x1 x2 x3 x4 x5 x6 x7 x8 x9 x10 x11 x12 x13 x14 x15 x16 x17 x18]
  rfl

end

end Decoder
-- ==== Proof.KHead.lean ====
module

public import proofs.«01_k».proof.Proof.KBridge
public import Idealize.ShloMosaic.Lib.Pipeline.ValueKit.Tiles

@[expose] public section

set_option maxRecDepth 16384

/-! The kernel's dense head: three products with biases, the bridge, and the image it lays out. -/

noncomputable section

namespace Decoder

open Idealize.ShloMosaic
open Idealize.ShloMosaic.ValueIdx Cert.KernelIdeal Cert.KernelIdeal.Gen

/-- The place in the batch's feature row that the reference reads at channel-major place `q`. -/
def unperm (q : Fin 2048) : Fin 2048 := ⟨q.val % 64 * 32 + q.val / 64, by omega⟩
/-- The channel-major place of the feature row's place `q`. -/
def perm (q : Fin 2048) : Fin 2048 := ⟨q.val % 32 * 64 + q.val / 32, by omega⟩

def permEquiv : Fin 2048 ≃ Fin 2048 where
  toFun := perm
  invFun := unperm
  left_inv q := Fin.ext (by simp only [perm, unperm]; omega)
  right_inv q := Fin.ext (by simp only [perm, unperm]; omega)

section
variable (f3 : FVec Ideal ⟨2, ![64, 2048]⟩ .f32) (efw : FVec Ideal ⟨2, ![128, 2048]⟩ .f32) (efb : FVec Ideal ⟨1, ![128]⟩ .f32)
  (bw : FVec Ideal ⟨2, ![256, 128]⟩ .f32) (bb : FVec Ideal ⟨1, ![256]⟩ .f32) (pw : FVec Ideal ⟨2, ![512, 256]⟩ .f32)
  (pb : FVec Ideal ⟨1, ![512]⟩ .f32) (riw : FVec Ideal ⟨3, ![4, 4096, 128]⟩ .f32) (rib : FVec Ideal ⟨2, ![4, 4096]⟩ .f32)

/-- The latent code. -/
def latV (m : Fin 64) (k : Fin 128) : EReal := (∑ q : Fin 2048, f3 (ix2 m (unperm q)) * efw (ix2 k q)) + efb (ix1 k)
/-- The bridge's hidden layer. -/
def hidV (m : Fin 64) (l : Fin 256) : EReal :=
  max ((∑ k : Fin 128, latV f3 efw efb m k * bw (ix2 l k)) + bb (ix1 l)) 0
/-- The patch features. -/
def ftV (m : Fin 64) (j : Fin 512) : EReal :=
  max ((∑ l : Fin 256, hidV f3 efw efb bw bb m l * pw (ix2 j l)) + pb (ix1 j)) 0
/-- A patch's first image, flattened. -/
def rowV (p : Fin 4) (m : Fin 64) (y : Fin 4096) : EReal :=
  (∑ j : Fin 128, ftV f3 efw efb bw bb pw pb m ⟨p.val * 128 + j.val, by omega⟩ * riw (ix3 p y j)) + rib (ix2 p y)
end

theorem mm_apply {M K N : ℕ} (A : FVec Ideal ⟨2, ![M, K]⟩ .f32) (W : FVec Ideal ⟨2, ![K, N]⟩ .f32) (i : Fin M) (j : Fin N) :
    FloatOps.matmul (DotDims.plain M K N) none A W (constant ⟨2, ![M, N]⟩ .f32 0x00000000#32) (ix2 i j)
      = ∑ k : Fin K, A (ix2 i k) * W (ix2 k j) := by
  rw [Ideal.matmul_plain_apply]
  have h0 : (constant ⟨2, ![M, N]⟩ .f32 0x00000000#32 : FVec Ideal _ .f32) (ix2 i j) = 0 := Ideal.ofBits_zero_f32
  rw [h0, zero_add]

theorem rowBias_apply {M N : ℕ} (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (i : Fin M) (j : Fin N) :
    broadcastTo ⟨2, ![M, N]⟩ (shapeCast ⟨2, ![1, N]⟩ b h1) h2 (ix2 i j) = b (ix1 j) := by
  rw [broadcastTo_apply _ _ (ix2 i j) (ix2 0 j) (fun a => by
    match a with
    | ⟨0, _⟩ => rfl
    | ⟨1, _⟩ =>
      show j.val = if N = 1 then 0 else j.val
      have := j.isLt
      split <;> omega)]
  exact shapeCast_apply _ _ (ix2 0 j) (ix1 j) (by
    rw [Shape.rowMajor_val_one, Shape.rowMajor_val_two]
    show j.val = 0 * N + j.val
    omega)

/-- A product with a bias row. -/
def kLin {M K N : ℕ} (A : FVec Ideal ⟨2, ![M, K]⟩ .f32) (W : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩) :
    FVec Ideal ⟨2, ![M, N]⟩ .f32 :=
  addf (FloatOps.matmul (DotDims.plain M K N) none A W (constant ⟨2, ![M, N]⟩ .f32 0x00000000#32))
    (broadcastTo ⟨2, ![M, N]⟩ (shapeCast ⟨2, ![1, N]⟩ b h1) h2)

theorem kLin_apply {M K N : ℕ} (A : FVec Ideal ⟨2, ![M, K]⟩ .f32) (W : FVec Ideal ⟨2, ![K, N]⟩ .f32)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (i : Fin M) (j : Fin N) :
    kLin A W b h1 h2 (ix2 i j) = (∑ k : Fin K, A (ix2 i k) * W (ix2 k j)) + b (ix1 j) := by
  rw [← mm_apply A W i j, ← rowBias_apply b h1 h2 i j]
  rfl

/-- The positive part. -/
def kRelu {s : Shape} (A : FVec Ideal s .f32) : FVec Ideal s .f32 :=
  maximumf A (broadcast s (Scalar.ofBits .f32 0x00000000#32))

theorem kRelu_apply {s : Shape} (A : FVec Ideal s .f32) (i : s.Idx) : kRelu A i = max (A i) 0 := by
  have hz : (Scalar.ofBits .f32 0x00000000#32 : Ideal .f32) = 0 := Ideal.ofBits_zero_f32
  conv_rhs => rw [← hz]
  rfl

/-- A reshape that drops leading axes of extent one, from rank two. -/
theorem drop1_apply {N : ℕ} (x : FVec Ideal ⟨2, ![1, N]⟩ .f32) (h : (⟨2, ![1, N]⟩ : Shape).ShapeCasts ⟨1, ![N]⟩) (j : Fin N) :
    shapeCast ⟨1, ![N]⟩ x h (ix1 j) = x (ix2 0 j) :=
  shapeCast_apply _ _ (ix1 j) (ix2 0 j) (by
    rw [Shape.rowMajor_val_one, Shape.rowMajor_val_two]
    show 0 * N + j.val = j.val
    omega)

theorem drop11_apply {N : ℕ} (x : FVec Ideal ⟨3, ![1, 1, N]⟩ .f32) (h : (⟨3, ![1, 1, N]⟩ : Shape).ShapeCasts ⟨1, ![N]⟩)
    (j : Fin N) : shapeCast ⟨1, ![N]⟩ x h (ix1 j) = x (ix3 0 0 j) :=
  shapeCast_apply _ _ (ix1 j) (ix3 0 0 j) (by
    rw [Shape.rowMajor_val_one, Shape.rowMajor_val_three]
    show (0 * 1 + 0) * N + j.val = j.val
    omega)

theorem dropM_apply {M N : ℕ} (x : FVec Ideal ⟨3, ![1, M, N]⟩ .f32) (h : (⟨3, ![1, M, N]⟩ : Shape).ShapeCasts ⟨2, ![M, N]⟩)
    (i : Fin M) (j : Fin N) : shapeCast ⟨2, ![M, N]⟩ x h (ix2 i j) = x (ix3 0 i j) :=
  shapeCast_apply _ _ (ix2 i j) (ix3 0 i j) (by
    rw [Shape.rowMajor_val_two, Shape.rowMajor_val_three]
    show (0 * M + i.val) * N + j.val = i.val * N + j.val
    rw [Nat.zero_mul, Nat.zero_add])

/-- The dense head on one block. -/
def headRows (x0 : FVec Ideal ⟨3, ![1, 8, 2048]⟩ .f32) (x1 : FVec Ideal ⟨2, ![2048, 128]⟩ .f32) (x2 : FVec Ideal ⟨2, ![1, 128]⟩ .f32)
    (x3 : FVec Ideal ⟨2, ![128, 256]⟩ .f32) (x4 : FVec Ideal ⟨2, ![1, 256]⟩ .f32) (x5 : FVec Ideal ⟨2, ![256, 128]⟩ .f32)
    (x6 : FVec Ideal ⟨3, ![1, 1, 128]⟩ .f32) (x7 : FVec Ideal ⟨3, ![1, 128, 4096]⟩ .f32) : FVec Ideal ⟨2, ![8, 4096]⟩ .f32 :=
  FloatOps.matmul (DotDims.plain 8 128 4096) none
    (kRelu (kLin (kRelu (kLin (kLin (shapeCast ⟨2, ![8, 2048]⟩ x0 (by decide)) (shapeCast ⟨2, ![2048, 128]⟩ x1 (by decide))
      (shapeCast ⟨1, ![128]⟩ x2 (by decide)) (by decide) (by decide)) (shapeCast ⟨2, ![128, 256]⟩ x3 (by decide))
      (shapeCast ⟨1, ![256]⟩ x4 (by decide)) (by decide) (by decide))) (shapeCast ⟨2, ![256, 128]⟩ x5 (by decide))
      (shapeCast ⟨1, ![128]⟩ x6 (by decide)) (by decide) (by decide)))
    (shapeCast ⟨2, ![128, 4096]⟩ x7 (by decide)) (constant ⟨2, ![8, 4096]⟩ .f32 0x00000000#32)

theorem pay2_eq (x0 : FVec Ideal ⟨3, ![1, 8, 2048]⟩ .f32) (x1 : FVec Ideal ⟨2, ![2048, 128]⟩ .f32) (x2 : FVec Ideal ⟨2, ![1, 128]⟩ .f32)
    (x3 : FVec Ideal ⟨2, ![128, 256]⟩ .f32) (x4 : FVec Ideal ⟨2, ![1, 256]⟩ .f32) (x5 : FVec Ideal ⟨2, ![256, 128]⟩ .f32)
    (x6 : FVec Ideal ⟨3, ![1, 1, 128]⟩ .f32) (x7 : FVec Ideal ⟨3, ![1, 128, 4096]⟩ .f32) :
    k0_pay2 x0 x1 x2 x3 x4 x5 x6 x7 = headRows x0 x1 x2 x3 x4 x5 x6 x7 := by
  rfl

theorem headImg_apply (v : FVec Ideal ⟨2, ![8, 4096]⟩ .f32) (b : FVec Ideal ⟨3, ![1, 1, 4096]⟩ .f32) (n : Fin 8) (i j : Fin 4)
    (c : Fin 256) (y : Fin 4096) (hy : y.val = (4 * i.val + j.val) * 256 + c.val) :
    headImg v b (ix4 n i j c) = v (ix2 n y) + b (ix3 0 0 y) := by
  unfold headImg
  let s : Fin 16 := ⟨4 * i.val + j.val, by omega⟩
  rw [shapeCast_apply _ _ (ix4 n i j c) (ix3 n s c) (by
    rw [Shape.rowMajor_val_three, Shape.rowMajor_val_four]
    show (n.val * 16 + (4 * i.val + j.val)) * 256 + c.val = ((n.val * 4 + i.val) * 4 + j.val) * 256 + c.val
    omega)]
  refine (concatenate_ofFn_unit_apply (t := ⟨3, ![8, 16, 256]⟩) (s₁ := ⟨3, ![8, 1, 256]⟩) 1 _ _ rfl rfl (ix3 n s c)
    s rfl (ix3 n 0 c) (fun a ha => by
      match a with
      | ⟨0, _⟩ => rfl
      | ⟨1, _⟩ => exact absurd rfl ha
      | ⟨2, _⟩ => rfl)).trans ?_
  unfold pixelRows
  rw [shapeCast_apply _ _ (ix3 n 0 c) (ix2 n c) (by
    rw [Shape.rowMajor_val_two, Shape.rowMajor_val_three]
    show n.val * 256 + c.val = (n.val * 1 + 0) * 256 + c.val
    omega)]
  refine (extractStridedSlice_apply _ _ _ (ix2 n c) (ix2 n y) (fun a => by
    match a with
    | ⟨0, _⟩ => exact (Nat.zero_add _).symm
    | ⟨1, _⟩ =>
      show y.val = 256 * (4 * i.val + j.val) + c.val
      omega)).trans ?_
  rw [← drop11_apply b (by decide) y, ← rowBias_apply (M := 8) (shapeCast ⟨1, ![4096]⟩ b (by decide)) (by decide) (by decide) n y]
  rfl

/-- The patch's channel-major place of pixel-major place `y`. -/
def chan (y : Fin 4096) : Fin 4096 := ⟨y.val % 256 * 16 + y.val / 256, by omega⟩

section
variable (f3 : FVec Ideal ⟨2, ![64, 2048]⟩ .f32) (efw : FVec Ideal ⟨2, ![128, 2048]⟩ .f32) (efb : FVec Ideal ⟨1, ![128]⟩ .f32)
  (bw : FVec Ideal ⟨2, ![256, 128]⟩ .f32) (bb : FVec Ideal ⟨1, ![256]⟩ .f32) (pw : FVec Ideal ⟨2, ![512, 256]⟩ .f32)
  (pb : FVec Ideal ⟨1, ![512]⟩ .f32) (riw : FVec Ideal ⟨3, ![4, 4096, 128]⟩ .f32) (rib : FVec Ideal ⟨2, ![4, 4096]⟩ .f32)
  (x0 : FVec Ideal ⟨3, ![1, 8, 2048]⟩ .f32) (x1 : FVec Ideal ⟨2, ![2048, 128]⟩ .f32) (x2 : FVec Ideal ⟨2, ![1, 128]⟩ .f32)
  (x3 : FVec Ideal ⟨2, ![128, 256]⟩ .f32) (x4 : FVec Ideal ⟨2, ![1, 256]⟩ .f32) (x5 : FVec Ideal ⟨2, ![256, 128]⟩ .f32)
  (x6 : FVec Ideal ⟨3, ![1, 1, 128]⟩ .f32) (x7 : FVec Ideal ⟨3, ![1, 128, 4096]⟩ .f32) (x8 : FVec Ideal ⟨3, ![1, 1, 4096]⟩ .f32)

/-- The block's arrays are parts of the whole arguments: batch rows `8 g + n`, patch `p`. -/
structure HeadArgs (g : Fin 8) (p : Fin 4) : Prop where
  h0 : ∀ (n : Fin 8) (q : Fin 2048), x0 (ix3 0 n q) = f3 (ix2 ⟨8 * g.val + n.val, by omega⟩ q)
  h1 : ∀ (q : Fin 2048) (k : Fin 128), x1 (ix2 q k) = efw (ix2 k (perm q))
  h2 : ∀ k : Fin 128, x2 (ix2 0 k) = efb (ix1 k)
  h3 : ∀ (k : Fin 128) (l : Fin 256), x3 (ix2 k l) = bw (ix2 l k)
  h4 : ∀ l : Fin 256, x4 (ix2 0 l) = bb (ix1 l)
  h5 : ∀ (l : Fin 256) (j : Fin 128), x5 (ix2 l j) = pw (ix2 ⟨p.val * 128 + j.val, by omega⟩ l)
  h6 : ∀ j : Fin 128, x6 (ix3 0 0 j) = pb (ix1 ⟨p.val * 128 + j.val, by omega⟩)
  h7 : ∀ (j : Fin 128) (y : Fin 4096), x7 (ix3 0 j y) = riw (ix3 p (chan y) j)
  h8 : ∀ y : Fin 4096, x8 (ix3 0 0 y) = rib (ix2 p (chan y))

variable {f3 efw efb bw bb pw pb riw rib x0 x1 x2 x3 x4 x5 x6 x7 x8}

theorem head_eq {g : Fin 8} {p : Fin 4}
    (h : HeadArgs f3 efw efb bw bb pw pb riw rib x0 x1 x2 x3 x4 x5 x6 x7 x8 g p) (n : Fin 8) (y : Fin 4096) :
    headRows x0 x1 x2 x3 x4 x5 x6 x7 (ix2 n y) + x8 (ix3 0 0 y)
      = rowV f3 efw efb bw bb pw pb riw rib p ⟨8 * g.val + n.val, by omega⟩ (chan y) := by
  unfold headRows
  rw [mm_apply, h.h8]
  unfold rowV
  congr 1
  refine Finset.sum_congr rfl fun j _ => ?_
  rw [dropM_apply, h.h7, kRelu_apply, kLin_apply, drop11_apply, h.h6]
  unfold ftV
  congr 3
  refine Finset.sum_congr rfl fun l _ => ?_
  rw [shapeCast_self x5, h.h5, kRelu_apply, kLin_apply, drop1_apply, h.h4]
  unfold hidV
  congr 3
  refine Finset.sum_congr rfl fun k _ => ?_
  rw [shapeCast_self x3, h.h3, kLin_apply, drop1_apply, h.h2]
  unfold latV
  congr 2
  refine Fintype.sum_equiv permEquiv _ _ fun q => ?_
  rw [shapeCast_self x1, h.h1, dropM_apply, h.h0]
  show _ = f3 (ix2 _ (unperm (perm q))) * _
  rw [show unperm (perm q) = q from permEquiv.left_inv q]
  rfl

end

end Decoder
-- ==== Proof.RBridge.lean ====
module

public import proofs.«01_k».proof.Proof.RLayer
public import proofs.«01_k».proof.Proof.Gen.ReferenceIdeal.Read

@[expose] public section

set_option maxRecDepth 16384

/-! The reference's four layers are the transposed-convolution layer of `RLayer`. -/

noncomputable section

namespace Decoder

open Idealize.ShloMosaic
open Cert.ReferenceIdeal Cert.ReferenceIdeal.Read Cert.ReferenceIdeal.Gen

theorem rf1 : RFacts 4 64 256 128 4 8 11 := by constructor <;> decide
theorem rf2 : RFacts 4 64 128 64 8 16 19 := by constructor <;> decide
theorem rf3 : RFacts 4 64 64 64 16 32 35 := by constructor <;> decide
theorem rf4 : RFacts 4 64 64 32 32 64 67 := by constructor <;> decide

variable (x0 : FVec Ideal S64x2048 .f32)
  (x1 : FVec Ideal S128x2048 .f32)
  (x2 : FVec Ideal S128 .f32)
  (x3 : FVec Ideal S256x128 .f32)
  (x4 : FVec Ideal S256 .f32)
  (x5 : FVec Ideal S512x256 .f32)
  (x6 : FVec Ideal S512 .f32)
  (x7 : FVec Ideal S4x4096x128 .f32)
  (x8 : FVec Ideal S4x4096 .f32)
  (x9 : FVec Ideal S4x256x128x4x4 .f32)
  (x10 : FVec Ideal S4x128 .f32)
  (x11 : FVec Ideal S4x128x64x4x4 .f32)
  (x12 : FVec Ideal S4x64 .f32)
  (x13 : FVec Ideal S4x64x64x4x4 .f32)
  (x14 : FVec Ideal S4x64 .f32)
  (x15 : FVec Ideal S4x64x32x4x4 .f32)
  (x16 : FVec Ideal S4x32 .f32)

theorem layer1_eq : val_main_v128 (F := Ideal) x0 x1 x2 x3 x4 x5 x6 x7 x8 x9 x10
    = rLayer rf1 (val_main_v25 (F := Ideal) x0 x1 x2 x3 x4 x5 x6 x7 x8) x9 x10 := by
  rfl

theorem layer2_eq : val_main_v231 (F := Ideal) x0 x1 x2 x3 x4 x5 x6 x7 x8 x9 x10 x11 x12
    = rLayer rf2 (val_main_v128 (F := Ideal) x0 x1 x2 x3 x4 x5 x6 x7 x8 x9 x10) x11 x12 := by
  rfl

theorem layer3_eq : val_main_v334 (F := Ideal) x0 x1 x2 x3 x4 x5 x6 x7 x8 x9 x10 x11 x12 x13 x14
    = rLayer rf3 (val_main_v231 (F := Ideal) x0 x1 x2 x3 x4 x5 x6 x7 x8 x9 x10 x11 x12) x13 x14 := by
  rfl

theorem layer4_eq : val_main_v437 (F := Ideal) x0 x1 x2 x3 x4 x5 x6 x7 x8 x9 x10 x11 x12 x13 x14 x15 x16
    = rLayer rf4 (val_main_v334 (F := Ideal) x0 x1 x2 x3 x4 x5 x6 x7 x8 x9 x10 x11 x12 x13 x14) x15 x16 := by
  rfl

end Decoder
-- ==== Proof.RHead.lean ====
module

public import proofs.«01_k».proof.Proof.KHead
public import proofs.«01_k».proof.Proof.Gen.ReferenceIdeal.Read

@[expose] public section

set_option maxRecDepth 16384

/-! The reference's dense head, read at an index. -/

noncomputable section

namespace Decoder

open Idealize.ShloMosaic
open Idealize.ShloMosaic.ValueIdx
open Cert.ReferenceIdeal Cert.ReferenceIdeal.Read

variable (x0 : FVec Ideal S64x2048 .f32) (x1 : FVec Ideal S128x2048 .f32) (x2 : FVec Ideal S128 .f32)
  (x3 : FVec Ideal S256x128 .f32) (x4 : FVec Ideal S256 .f32) (x5 : FVec Ideal S512x256 .f32) (x6 : FVec Ideal S512 .f32)
  (x7 : FVec Ideal S4x4096x128 .f32) (x8 : FVec Ideal S4x4096 .f32)

theorem feat_ref (m : Fin 64) (q : Fin 2048) : val_main_v2 (F := Ideal) x0 (ix2 m q) = x0 (ix2 m (unperm q)) := by
  rw [val_main_v2_apply, val_main_v1_apply, val_main_v0_apply]
  refine congrArg x0 (funext fun a => Fin.ext ?_)
  have h16 : (m.val * 2048 + q.val) / 16 = (m.val * 2048 + q.val) / 4 / 4 := by omega
  have h64 : (m.val * 2048 + q.val) / 64 % 32 = q.val / 64 := by omega
  have h20 : (m.val * 2048 + q.val) / 2048 = m.val := by omega
  have hq : ((m.val * 4 + (m.val * 2048 + q.val) / 16 % 4) * 4 + (m.val * 2048 + q.val) / 4 % 4) * 4 + (m.val * 2048 + q.val) % 4 = m.val * 64 + q.val % 64 := by omega
  match a with
  | ⟨0, _⟩ =>
    show (((((m.val * 2048 + q.val) / 2048 * 4 + (m.val * 2048 + q.val) / 16 % 4) * 4 + (m.val * 2048 + q.val) / 4 % 4) * 4
      + (m.val * 2048 + q.val) % 4) * 32 + (m.val * 2048 + q.val) / 64 % 32) / 2048 = m.val
    rw [h20, hq, h64]; omega
  | ⟨1, _⟩ =>
    show (((((m.val * 2048 + q.val) / 2048 * 4 + (m.val * 2048 + q.val) / 16 % 4) * 4 + (m.val * 2048 + q.val) / 4 % 4) * 4
      + (m.val * 2048 + q.val) % 4) * 32 + (m.val * 2048 + q.val) / 64 % 32) % 2048 = q.val % 64 * 32 + q.val / 64
    rw [h20, hq, h64]; omega

/-- The positive part as the reference spells it. -/
theorem relu_ref {s : Shape} (A : FVec Ideal s .f32) (i : s.Idx) :
    (FloatOps.maximumf (A i) (FloatOps.ofBits .f32 0x00000000#32 : Ideal .f32) : Ideal .f32) = max (A i) 0 := by
  rw [show (FloatOps.ofBits .f32 0x00000000#32 : Ideal .f32) = 0 from Ideal.ofBits_zero_f32]
  rfl

theorem lat_ref (m : Fin 64) (k : Fin 128) : val_main_v7 (F := Ideal) x0 x1 x2 (ix2 m k) = latV x0 x1 x2 m k := by
  rw [val_main_v7_apply, val_main_v4_apply, val_main_v6_apply, val_main_v5_apply]
  refine congrArg₂ (· + ·) (Finset.sum_congr rfl fun q _ => congrArg₂ (· * ·) ?_ ?_) (congrArg x2 ?_)
  · rw [← feat_ref x0]
    refine congrArg _ (funext fun a => ?_)
    match a with
    | ⟨0, _⟩ => rfl
    | ⟨1, _⟩ => rfl
  · rw [val_main_v3_apply]
    refine congrArg x1 (funext fun a => ?_)
    match a with
    | ⟨0, _⟩ => rfl
    | ⟨1, _⟩ => rfl
  · refine funext fun a => ?_
    match a with
    | ⟨0, _⟩ => rfl

theorem hid_ref (m : Fin 64) (l : Fin 256) : val_main_v13 (F := Ideal) x0 x1 x2 x3 x4 (ix2 m l) = hidV x0 x1 x2 x3 x4 m l := by
  rw [val_main_v13_apply, val_main_call0_v0_apply, val_main_call0_cst_apply, relu_ref, val_main_v12_apply, val_main_v9_apply,
    val_main_v11_apply, val_main_v10_apply]
  refine congrArg (max · 0) (congrArg₂ (· + ·) (Finset.sum_congr rfl fun q _ => congrArg₂ (· * ·) ?_ ?_) (congrArg x4 ?_))
  · rw [← lat_ref x0 x1 x2]
    refine congrArg _ (funext fun a => ?_)
    match a with
    | ⟨0, _⟩ => rfl
    | ⟨1, _⟩ => rfl
  · rw [val_main_v8_apply]
    refine congrArg x3 (funext fun a => ?_)
    match a with
    | ⟨0, _⟩ => rfl
    | ⟨1, _⟩ => rfl
  · refine funext fun a => ?_
    match a with
    | ⟨0, _⟩ => rfl

theorem ft_ref (m : Fin 64) (j : Fin 512) :
    val_main_v19 (F := Ideal) x0 x1 x2 x3 x4 x5 x6 (ix2 m j) = ftV x0 x1 x2 x3 x4 x5 x6 m j := by
  rw [val_main_v19_apply, val_main_call1_v0_apply, val_main_call1_cst_apply, relu_ref, val_main_v18_apply, val_main_v15_apply,
    val_main_v17_apply, val_main_v16_apply]
  refine congrArg (max · 0) (congrArg₂ (· + ·) (Finset.sum_congr rfl fun q _ => congrArg₂ (· * ·) ?_ ?_) (congrArg x6 ?_))
  · rw [← hid_ref x0 x1 x2 x3 x4]
    refine congrArg _ (funext fun a => ?_)
    match a with
    | ⟨0, _⟩ => rfl
    | ⟨1, _⟩ => rfl
  · rw [val_main_v14_apply]
    refine congrArg x5 (funext fun a => ?_)
    match a with
    | ⟨0, _⟩ => rfl
    | ⟨1, _⟩ => rfl
  · refine funext fun a => ?_
    match a with
    | ⟨0, _⟩ => rfl

theorem row_ref (p : Fin 4) (m : Fin 64) (y : Fin 4096) :
    val_main_v24 (F := Ideal) x0 x1 x2 x3 x4 x5 x6 x7 x8 (ix3 p m y) = rowV x0 x1 x2 x3 x4 x5 x6 x7 x8 p m y := by
  rw [val_main_v24_apply, val_main_v21_apply, val_main_v23_apply, val_main_v22_apply]
  refine congrArg₂ (· + ·) (Finset.sum_congr rfl fun j _ => congrArg₂ (· * ·) ?_ (congrArg x7 ?_)) (congrArg x8 ?_)
  · rw [← ft_ref x0 x1 x2 x3 x4 x5 x6, val_main_v20_apply]
    refine congrArg _ (funext fun a => Fin.ext ?_)
    match a with
    | ⟨0, _⟩ => show ((m.val * 4 + p.val) * 128 + j.val) / 512 = m.val; omega
    | ⟨1, _⟩ => show ((m.val * 4 + p.val) * 128 + j.val) % 512 = p.val * 128 + j.val; omega
  · refine funext fun a => ?_
    match a with
    | ⟨0, _⟩ => rfl
    | ⟨1, _⟩ => rfl
    | ⟨2, _⟩ => rfl
  · refine funext fun a => ?_
    match a with
    | ⟨0, _⟩ => rfl
    | ⟨1, _⟩ => rfl

/-- The first image of a patch, read at a channel and a pixel. -/
theorem img_ref (p : Fin 4) (m : Fin 64) (c : Fin 256) (i j : Fin 4) :
    val_main_v25 (F := Ideal) x0 x1 x2 x3 x4 x5 x6 x7 x8 (ix5 p m c i j)
      = rowV x0 x1 x2 x3 x4 x5 x6 x7 x8 p m ⟨c.val * 16 + i.val * 4 + j.val, by omega⟩ := by
  rw [← row_ref x0 x1 x2 x3 x4 x5 x6 x7 x8, val_main_v25_apply]
  refine congrArg _ (funext fun a => Fin.ext ?_)
  match a with
  | ⟨0, _⟩ => show ((((p.val * 64 + m.val) * 256 + c.val) * 4 + i.val) * 4 + j.val) / 262144 = p.val; omega
  | ⟨1, _⟩ => show ((((p.val * 64 + m.val) * 256 + c.val) * 4 + i.val) * 4 + j.val) / 4096 % 64 = m.val; omega
  | ⟨2, _⟩ =>
    show ((((p.val * 64 + m.val) * 256 + c.val) * 4 + i.val) * 4 + j.val) % 4096 = c.val * 16 + i.val * 4 + j.val; omega

end Decoder
-- ==== Proof.HostOps.lean ====
module

public import proofs.«01_k».proof.Proof.KHead

@[expose] public section

/-! The host's weight preparations, read by index. -/

noncomputable section

namespace Decoder

open Idealize.ShloMosaic Idealize.ShloMosaic.ValueIdx

/-- An index of a rank seven shape. -/
abbrev ix7 {n0 n1 n2 n3 n4 n5 n6 : ℕ} (a : Fin n0) (b : Fin n1) (c : Fin n2) (d : Fin n3) (e : Fin n4) (f : Fin n5) (g : Fin n6) :
    (⟨7, ![n0, n1, n2, n3, n4, n5, n6]⟩ : Shape).Idx :=
  fun x => match x with
    | ⟨0, _⟩ => a
    | ⟨1, _⟩ => b
    | ⟨2, _⟩ => c
    | ⟨3, _⟩ => d
    | ⟨4, _⟩ => e
    | ⟨5, _⟩ => f
    | ⟨6, _⟩ => g

theorem rowMajor_seven {n0 n1 n2 n3 n4 n5 n6 : ℕ} (i : (⟨7, ![n0, n1, n2, n3, n4, n5, n6]⟩ : Shape).Idx) :
    ((⟨7, ![n0, n1, n2, n3, n4, n5, n6]⟩ : Shape).rowMajor i).val
      = ((((((i 0).val * n1 + (i 1).val) * n2 + (i 2).val) * n3 + (i 3).val) * n4 + (i 4).val) * n5 + (i 5).val) * n6 + (i 6).val := by
  show (Shape.rowMajorPi ![n0, n1, n2, n3, n4, n5, n6] i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

variable {P ci co : ℕ}

/-- The sixteen tap matrices of every patch: the kernel mirrored, both its axes split by parity, taps first. -/
def tapMats (w : FVec Ideal ⟨5, ![P, ci, co, 4, 4]⟩ .f32)
    (h1 : (⟨5, ![P, ci, co, 4, 4]⟩ : Shape).ShapeCasts ⟨7, ![P, ci, co, 2, 2, 2, 2]⟩)
    (h2 : (⟨7, ![P, ci, co, 2, 2, 2, 2]⟩ : Shape).Transposes [0, 4, 6, 3, 5, 1, 2] ⟨7, ![P, 2, 2, 2, 2, ci, co]⟩)
    (h3 : (⟨7, ![P, 2, 2, 2, 2, ci, co]⟩ : Shape).ShapeCasts ⟨4, ![P, 16, ci, co]⟩) : FVec Ideal ⟨4, ![P, 16, ci, co]⟩ .f32 :=
  shapeCast ⟨4, ![P, 16, ci, co]⟩ (transpose ⟨7, ![P, 2, 2, 2, 2, ci, co]⟩ [0, 4, 6, 3, 5, 1, 2]
    (shapeCast ⟨7, ![P, ci, co, 2, 2, 2, 2]⟩ (Host.reverse [3, 4] w) h1) h2) h3

theorem tapMats_apply (w : FVec Ideal ⟨5, ![P, ci, co, 4, 4]⟩ .f32)
    (h1 : (⟨5, ![P, ci, co, 4, 4]⟩ : Shape).ShapeCasts ⟨7, ![P, ci, co, 2, 2, 2, 2]⟩)
    (h2 : (⟨7, ![P, ci, co, 2, 2, 2, 2]⟩ : Shape).Transposes [0, 4, 6, 3, 5, 1, 2] ⟨7, ![P, 2, 2, 2, 2, ci, co]⟩)
    (h3 : (⟨7, ![P, 2, 2, 2, 2, ci, co]⟩ : Shape).ShapeCasts ⟨4, ![P, 16, ci, co]⟩)
    (p : Fin P) (a b dn dr : Fin 2) (k : Fin ci) (o : Fin co) :
    tapMats w h1 h2 h3 (ix4 p (tapNo a b dn dr) k o) = w (ix5 p k o (tapOf a dn).rev (tapOf b dr).rev) := by
  unfold tapMats
  refine (shapeCast_apply _ h3 (ix4 p (tapNo a b dn dr) k o) (ix7 p a b dn dr k o) ?_).trans ?_
  · rw [rowMajor_seven, Shape.rowMajor_val_four]
    show (((((p.val * 2 + a.val) * 2 + b.val) * 2 + dn.val) * 2 + dr.val) * ci + k.val) * co + o.val
      = ((p.val * 16 + (((a.val * 2 + b.val) * 2 + dn.val) * 2 + dr.val)) * ci + k.val) * co + o.val
    rw [show (((p.val * 2 + a.val) * 2 + b.val) * 2 + dn.val) * 2 + dr.val
      = p.val * 16 + (((a.val * 2 + b.val) * 2 + dn.val) * 2 + dr.val) by omega]
  refine (transpose_apply [0, 4, 6, 3, 5, 1, 2] _ h2 (ix7 p a b dn dr k o) (ix7 p k o dn a dr b) (fun x => by
    match x with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)).trans ?_
  refine (shapeCast_apply _ h1 (ix7 p k o dn a dr b) (ix5 p k o (tapOf a dn) (tapOf b dr)) ?_).trans ?_
  · rw [rowMajor_seven, Shape.rowMajor_val_five]
    show (((p.val * ci + k.val) * co + o.val) * 4 + (a.val + 2 * dn.val)) * 4 + (b.val + 2 * dr.val)
      = (((((p.val * ci + k.val) * co + o.val) * 2 + dn.val) * 2 + a.val) * 2 + dr.val) * 2 + b.val
    generalize (p.val * ci + k.val) * co + o.val = z
    omega
  · exact congrArg w (funext fun x => by
      match x with
      | ⟨0, _⟩ => rfl
      | ⟨1, _⟩ => rfl
      | ⟨2, _⟩ => rfl
      | ⟨3, _⟩ => rfl
      | ⟨4, _⟩ => rfl)

/-- A bias given a middle axis of extent one. -/
theorem midOne_apply {N : ℕ} (b : FVec Ideal ⟨2, ![P, N]⟩ .f32) (h : (⟨2, ![P, N]⟩ : Shape).ShapeCasts ⟨3, ![P, 1, N]⟩)
    (p : Fin P) (o : Fin N) : shapeCast ⟨3, ![P, 1, N]⟩ b h (ix3 p 0 o) = b (ix2 p o) :=
  shapeCast_apply _ _ (ix3 p 0 o) (ix2 p o) (by
    rw [Shape.rowMajor_val_two, Shape.rowMajor_val_three]
    show p.val * N + o.val = (p.val * 1 + 0) * N + o.val
    rw [Nat.mul_one, Nat.add_zero])

theorem addOne_apply {N : ℕ} (b : FVec Ideal ⟨1, ![N]⟩ .f32) (h : (⟨1, ![N]⟩ : Shape).ShapeCasts ⟨2, ![1, N]⟩) (o : Fin N) :
    shapeCast ⟨2, ![1, N]⟩ b h (ix2 0 o) = b (ix1 o) :=
  shapeCast_apply _ _ (ix2 0 o) (ix1 o) (by
    rw [Shape.rowMajor_val_two, Shape.rowMajor_val_one]
    show o.val = 0 * N + o.val
    omega)

theorem flip_apply {M N : ℕ} (x : FVec Ideal ⟨2, ![M, N]⟩ .f32) (h : (⟨2, ![M, N]⟩ : Shape).Transposes [1, 0] ⟨2, ![N, M]⟩)
    (i : Fin N) (j : Fin M) : transpose ⟨2, ![N, M]⟩ [1, 0] x h (ix2 i j) = x (ix2 j i) :=
  transpose_apply [1, 0] x h (ix2 i j) (ix2 j i) (fun a => by
    match a with
    | ⟨0, _⟩ => rfl
    | ⟨1, _⟩ => rfl)

/-- The feature weights, channels moved last. -/
theorem efw_apply (w : FVec Ideal ⟨2, ![128, 2048]⟩ .f32) (h1 : (⟨2, ![128, 2048]⟩ : Shape).ShapeCasts ⟨5, ![128, 32, 4, 4, 4]⟩)
    (h2 : (⟨5, ![128, 32, 4, 4, 4]⟩ : Shape).Transposes [2, 3, 4, 1, 0] ⟨5, ![4, 4, 4, 32, 128]⟩)
    (h3 : (⟨5, ![4, 4, 4, 32, 128]⟩ : Shape).ShapeCasts ⟨2, ![2048, 128]⟩) (q : Fin 2048) (k : Fin 128) :
    shapeCast ⟨2, ![2048, 128]⟩ (transpose ⟨5, ![4, 4, 4, 32, 128]⟩ [2, 3, 4, 1, 0]
      (shapeCast ⟨5, ![128, 32, 4, 4, 4]⟩ w h1) h2) h3 (ix2 q k) = w (ix2 k (perm q)) := by
  have hq := q.isLt
  let z : Fin 4 := ⟨q.val / 512, by omega⟩
  let y : Fin 4 := ⟨q.val / 128 % 4, by omega⟩
  let x : Fin 4 := ⟨q.val / 32 % 4, by omega⟩
  let c : Fin 32 := ⟨q.val % 32, by omega⟩
  refine (shapeCast_apply _ h3 (ix2 q k) (ix5 z y x c k) ?_).trans ?_
  · rw [Shape.rowMajor_val_five, Shape.rowMajor_val_two]
    show (((q.val / 512 * 4 + q.val / 128 % 4) * 4 + q.val / 32 % 4) * 32 + q.val % 32) * 128 + k.val = q.val * 128 + k.val
    omega
  refine (transpose_apply [2, 3, 4, 1, 0] _ h2 (ix5 z y x c k) (ix5 k c z y x) (fun a => by
    match a with
    | ⟨0, _⟩ => rfl
    | ⟨1, _⟩ => rfl
    | ⟨2, _⟩ => rfl
    | ⟨3, _⟩ => rfl
    | ⟨4, _⟩ => rfl)).trans ?_
  exact shapeCast_apply _ h1 (ix5 k c z y x) (ix2 k (perm q)) (by
    rw [Shape.rowMajor_val_five, Shape.rowMajor_val_two]
    show k.val * 2048 + (q.val % 32 * 64 + q.val / 32)
      = (((k.val * 32 + q.val % 32) * 4 + q.val / 512) * 4 + q.val / 128 % 4) * 4 + q.val / 32 % 4
    omega)

/-- The bridge's weights, pixel-major and contraction first. -/
theorem riw_apply (w : FVec Ideal ⟨3, ![4, 4096, 128]⟩ .f32) (h1 : (⟨3, ![4, 4096, 128]⟩ : Shape).ShapeCasts ⟨4, ![4, 256, 16, 128]⟩)
    (h2 : (⟨4, ![4, 256, 16, 128]⟩ : Shape).Transposes [0, 3, 2, 1] ⟨4, ![4, 128, 16, 256]⟩)
    (h3 : (⟨4, ![4, 128, 16, 256]⟩ : Shape).ShapeCasts ⟨3, ![4, 128, 4096]⟩) (p : Fin 4) (j : Fin 128) (y : Fin 4096) :
    shapeCast ⟨3, ![4, 128, 4096]⟩ (transpose ⟨4, ![4, 128, 16, 256]⟩ [0, 3, 2, 1]
      (shapeCast ⟨4, ![4, 256, 16, 128]⟩ w h1) h2) h3 (ix3 p j y) = w (ix3 p (chan y) j) := by
  have hy := y.isLt
  let s : Fin 16 := ⟨y.val / 256, by omega⟩
  let c : Fin 256 := ⟨y.val % 256, by omega⟩
  refine (shapeCast_apply _ h3 (ix3 p j y) (ix4 p j s c) ?_).trans ?_
  · rw [Shape.rowMajor_val_four, Shape.rowMajor_val_three]
    show ((p.val * 128 + j.val) * 16 + y.val / 256) * 256 + y.val % 256 = (p.val * 128 + j.val) * 4096 + y.val
    omega
  refine (transpose_apply [0, 3, 2, 1] _ h2 (ix4 p j s c) (ix4 p c s j) (fun a => by
    match a with
    | ⟨0, _⟩ => rfl
    | ⟨1, _⟩ => rfl
    | ⟨2, _⟩ => rfl
    | ⟨3, _⟩ => rfl)).trans ?_
  exact shapeCast_apply _ h1 (ix4 p c s j) (ix3 p (chan y) j) (by
    rw [Shape.rowMajor_val_four, Shape.rowMajor_val_three]
    show (p.val * 4096 + (y.val % 256 * 16 + y.val / 256)) * 128 + j.val
      = ((p.val * 256 + y.val % 256) * 16 + y.val / 256) * 128 + j.val
    omega)

/-- The bridge's bias, pixel-major. -/
theorem rib_apply (w : FVec Ideal ⟨2, ![4, 4096]⟩ .f32) (h1 : (⟨2, ![4, 4096]⟩ : Shape).ShapeCasts ⟨3, ![4, 256, 16]⟩)
    (h2 : (⟨3, ![4, 256, 16]⟩ : Shape).Transposes [0, 2, 1] ⟨3, ![4, 16, 256]⟩)
    (h3 : (⟨3, ![4, 16, 256]⟩ : Shape).ShapeCasts ⟨3, ![4, 1, 4096]⟩) (p : Fin 4) (y : Fin 4096) :
    shapeCast ⟨3, ![4, 1, 4096]⟩ (transpose ⟨3, ![4, 16, 256]⟩ [0, 2, 1]
      (shapeCast ⟨3, ![4, 256, 16]⟩ w h1) h2) h3 (ix3 p 0 y) = w (ix2 p (chan y)) := by
  have hy := y.isLt
  let s : Fin 16 := ⟨y.val / 256, by omega⟩
  let c : Fin 256 := ⟨y.val % 256, by omega⟩
  refine (shapeCast_apply _ h3 (ix3 p 0 y) (ix3 p s c) ?_).trans ?_
  · rw [Shape.rowMajor_val_three, Shape.rowMajor_val_three]
    show (p.val * 16 + y.val / 256) * 256 + y.val % 256 = (p.val * 1 + 0) * 4096 + y.val
    omega
  refine (transpose_apply [0, 2, 1] _ h2 (ix3 p s c) (ix3 p c s) (fun a => by
    match a with
    | ⟨0, _⟩ => rfl
    | ⟨1, _⟩ => rfl
    | ⟨2, _⟩ => rfl)).trans ?_
  exact shapeCast_apply _ h1 (ix3 p c s) (ix2 p (chan y)) (by
    rw [Shape.rowMajor_val_two, Shape.rowMajor_val_three]
    show p.val * 4096 + (y.val % 256 * 16 + y.val / 256) = (p.val * 256 + y.val % 256) * 16 + y.val / 256
    omega)

/-- The last convolution's weights, contraction first. -/
theorem rxw_apply (w : FVec Ideal ⟨5, ![4, 3, 32, 1, 1]⟩ .f32) (h1 : (⟨5, ![4, 3, 32, 1, 1]⟩ : Shape).ShapeCasts ⟨3, ![4, 3, 32]⟩)
    (h2 : (⟨3, ![4, 3, 32]⟩ : Shape).Transposes [0, 2, 1] ⟨3, ![4, 32, 3]⟩) (p : Fin 4) (k : Fin 32) (o : Fin 3) :
    transpose ⟨3, ![4, 32, 3]⟩ [0, 2, 1] (shapeCast ⟨3, ![4, 3, 32]⟩ w h1) h2 (ix3 p k o) = w (ix5 p o k 0 0) := by
  refine (transpose_apply [0, 2, 1] _ h2 (ix3 p k o) (ix3 p o k) (fun a => by
    match a with
    | ⟨0, _⟩ => rfl
    | ⟨1, _⟩ => rfl
    | ⟨2, _⟩ => rfl)).trans ?_
  exact shapeCast_apply _ h1 (ix3 p o k) (ix5 p o k 0 0) (by
    rw [Shape.rowMajor_val_three, Shape.rowMajor_val_five]
    show (((p.val * 3 + o.val) * 32 + k.val) * 1 + 0) * 1 + 0 = (p.val * 3 + o.val) * 32 + k.val
    omega)

/-- The features in blocks of eight batch rows. -/
theorem f3_apply (x : FVec Ideal ⟨2, ![64, 2048]⟩ .f32) (h : (⟨2, ![64, 2048]⟩ : Shape).ShapeCasts ⟨3, ![8, 8, 2048]⟩)
    (g n : Fin 8) (q : Fin 2048) :
    shapeCast ⟨3, ![8, 8, 2048]⟩ x h (ix3 g n q) = x (ix2 ⟨8 * g.val + n.val, by omega⟩ q) :=
  shapeCast_apply _ _ (ix3 g n q) (ix2 ⟨8 * g.val + n.val, by omega⟩ q) (by
    rw [Shape.rowMajor_val_two, Shape.rowMajor_val_three]
    show (8 * g.val + n.val) * 2048 + q.val = (g.val * 8 + n.val) * 2048 + q.val
    omega)

/-- The patch bias, by patches. -/
theorem pb_apply (x : FVec Ideal ⟨1, ![512]⟩ .f32) (h : (⟨1, ![512]⟩ : Shape).ShapeCasts ⟨3, ![4, 1, 128]⟩)
    (p : Fin 4) (j : Fin 128) :
    shapeCast ⟨3, ![4, 1, 128]⟩ x h (ix3 p 0 j) = x (ix1 ⟨p.val * 128 + j.val, by omega⟩) :=
  shapeCast_apply _ _ (ix3 p 0 j) (ix1 ⟨p.val * 128 + j.val, by omega⟩) (by
    rw [Shape.rowMajor_val_one, Shape.rowMajor_val_three]
    show p.val * 128 + j.val = (p.val * 1 + 0) * 128 + j.val
    omega)

end Decoder
-- ==== Proof.RTail.lean ====
module

public import proofs.«01_k».proof.Proof.HostOps
public import proofs.«01_k».proof.Proof.Gen.ReferenceIdeal.Read
public import Idealize.ShloMosaic.Lib.IdealHost

@[expose] public section

set_option maxRecDepth 16384

/-! The reference's tail: the two by two mean, the one by one convolution and the layout of the result. -/

noncomputable section

namespace Decoder

open Idealize.ShloMosaic
open Idealize.ShloMosaic.ValueIdx
open Cert.ReferenceIdeal Cert.ReferenceIdeal.Read Cert.ReferenceIdeal.Gen

/-- The four pixels under one pixel of the mean, added up. -/
def poolV (X : FVec Ideal S4x64x32x64x64 .f32) (p : Fin 4) (m : Fin 64) (o r c : Fin 32) : EReal :=
  X (ix5 p m o ⟨2 * r.val + 0, by omega⟩ ⟨2 * c.val + 0, by omega⟩) + X (ix5 p m o ⟨2 * r.val + 0, by omega⟩ ⟨2 * c.val + 1, by omega⟩)
    + X (ix5 p m o ⟨2 * r.val + 1, by omega⟩ ⟨2 * c.val + 0, by omega⟩) + X (ix5 p m o ⟨2 * r.val + 1, by omega⟩ ⟨2 * c.val + 1, by omega⟩)

/-- The host's sum over the two pooling axes. -/
theorem pool_sum (X : FVec Ideal S4x64x32x32x2x32x2 .f32) (init : EReal) (p : Fin 4) (m : Fin 64) (o r c : Fin 32) :
    Ideal.hostReduceAdd reducesTo_S4x64x32x32x2x32x2_S4x64x32x32x32_d4_6 X init (ix5 p m o r c)
      = init + ∑ a : Fin 2, ∑ b : Fin 2, X (ix7 p m o r a c b) := by
  unfold Ideal.hostReduceAdd
  refine congrArg (init + ·) ?_
  rw [← Fintype.sum_prod_type']
  refine (Finset.sum_bij (fun k _ => ix7 p m o r k.1 c k.2) ?_ ?_ ?_ (fun _ _ => rfl)).symm
  · intro k _
    refine Finset.mem_filter.mpr ⟨Finset.mem_univ _, funext fun b => Fin.ext ?_⟩
    match b with
    | ⟨0, _⟩ => rfl
    | ⟨1, _⟩ => rfl
    | ⟨2, _⟩ => rfl
    | ⟨3, _⟩ => rfl
    | ⟨4, _⟩ => rfl
  · intro k _ k' _ e
    exact Prod.ext (congrFun e 4) (congrFun e 6)
  · intro i hi
    have e := (Finset.mem_filter.mp hi).2
    refine ⟨(i 4, i 6), Finset.mem_univ _, funext fun b => Fin.ext ?_⟩
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => exact (congrArg Fin.val (congrFun e 4)).symm
    | ⟨6, _⟩ => rfl

/-- The image split into two by two tiles. -/
theorem split_apply (X : FVec Ideal S4x64x32x64x64 .f32) (p : Fin 4) (m : Fin 64) (o r c : Fin 32) (a b : Fin 2) :
    shapeCast S4x64x32x32x2x32x2 X shapeCasts_S4x64x32x64x64_S4x64x32x32x2x32x2 (ix7 p m o r a c b)
      = X (ix5 p m o ⟨2 * r.val + a.val, by omega⟩ ⟨2 * c.val + b.val, by omega⟩) := by
  refine shapeCast_apply _ _ _ _ ?_
  rw [rowMajor_seven, Shape.rowMajor_val_five]
  show (((p.val * 64 + m.val) * 32 + o.val) * 64 + (2 * r.val + a.val)) * 64 + (2 * c.val + b.val)
    = (((((p.val * 64 + m.val) * 32 + o.val) * 32 + r.val) * 2 + a.val) * 32 + c.val) * 2 + b.val
  omega

theorem four : (FloatOps.ofBits .f32 0x40800000#32 : Ideal .f32) = ((4 : ℝ) : EReal) := by
  show Ideal.ofBits .f32 0x40800000#32 = _
  simp [Ideal.ofBits, Ideal.ieee, -EReal.coe_mul]; norm_num
theorem quarter : (Scalar.ofBits .f32 0x3E800000#32 : Ideal .f32) = ((4 : ℝ)⁻¹ : ℝ) := by
  show Ideal.ofBits .f32 0x3E800000#32 = _
  simp [Ideal.ofBits, Ideal.ieee, -EReal.coe_mul]; norm_num

/-- Dividing by four is multiplying by a quarter. -/
theorem div_four (x : EReal) : Ideal.div x ((4 : ℝ) : EReal) = x * ((4 : ℝ)⁻¹ : ℝ) := by
  unfold Ideal.div
  rw [if_neg (by norm_num), EReal.coe_inv]

variable (x0 : FVec Ideal S64x2048 .f32)
  (x1 : FVec Ideal S128x2048 .f32)
  (x2 : FVec Ideal S128 .f32)
  (x3 : FVec Ideal S256x128 .f32)
  (x4 : FVec Ideal S256 .f32)
  (x5 : FVec Ideal S512x256 .f32)
  (x6 : FVec Ideal S512 .f32)
  (x7 : FVec Ideal S4x4096x128 .f32)
  (x8 : FVec Ideal S4x4096 .f32)
  (x9 : FVec Ideal S4x256x128x4x4 .f32)
  (x10 : FVec Ideal S4x128 .f32)
  (x11 : FVec Ideal S4x128x64x4x4 .f32)
  (x12 : FVec Ideal S4x64 .f32)
  (x13 : FVec Ideal S4x64x64x4x4 .f32)
  (x14 : FVec Ideal S4x64 .f32)
  (x15 : FVec Ideal S4x64x32x4x4 .f32)
  (x16 : FVec Ideal S4x32 .f32)
  (x17 : FVec Ideal S4x3x32x1x1 .f32)
  (x18 : FVec Ideal S4x3 .f32)

/-- The mean of four pixels. -/
theorem mean_ref (p : Fin 4) (m : Fin 64) (o r c : Fin 32) :
    val_main_v441 (F := Ideal) x0 x1 x2 x3 x4 x5 x6 x7 x8 x9 x10 x11 x12 x13 x14 x15 x16 (ix5 p m o r c)
      = poolV (val_main_v437 (F := Ideal) x0 x1 x2 x3 x4 x5 x6 x7 x8 x9 x10 x11 x12 x13 x14 x15 x16) p m o r c * ((4 : ℝ)⁻¹ : ℝ) := by
  rw [val_main_v441_apply, val_main_v440_apply, val_main_cst_8_apply, four]
  refine (div_four _).trans (congrArg (· * (((4 : ℝ)⁻¹ : ℝ) : EReal)) ?_)
  unfold val_main_v439 val_main_v438
  generalize val_main_v437 (F := Ideal) x0 x1 x2 x3 x4 x5 x6 x7 x8 x9 x10 x11 x12 x13 x14 x15 x16 = X
  rw [hostReduceAdd_apply, pool_sum]
  have hz : val_main_cst_7 (F := Ideal) (Shape.Idx.first h_S_) = 0 := Ideal.ofBits_zero_f32
  rw [hz, zero_add, Fin.sum_univ_two, Fin.sum_univ_two, Fin.sum_univ_two]
  rw [split_apply, split_apply, split_apply, split_apply]
  unfold poolV
  rw [← add_assoc]
  rfl

/-- The reference's result at a batch row, a point and a coordinate. -/
theorem result_ref (m : Fin 64) (p : Fin 4) (r c : Fin 32) (k : Fin 3) :
    val_main_v450 (F := Ideal) x0 x1 x2 x3 x4 x5 x6 x7 x8 x9 x10 x11 x12 x13 x14 x15 x16 x17 x18 (ix3 m ⟨p.val * 1024 + (r.val * 32 + c.val), by omega⟩ k)
      = (∑ o : Fin 32, x17 (ix5 p k o 0 0) * (poolV (val_main_v437 (F := Ideal) x0 x1 x2 x3 x4 x5 x6 x7 x8 x9 x10 x11 x12 x13 x14 x15 x16) p m o r c * ((4 : ℝ)⁻¹ : ℝ)))
        + x18 (ix2 p k) := by
  rw [val_main_v450_apply, val_main_v449_apply, val_main_v448_apply]
  have e : idx_main_v448 (idx_main_v449 (idx_main_v450 (ix3 m ⟨p.val * 1024 + (r.val * 32 + c.val), by omega⟩ k)))
      = ix5 p m k r c := by
    have e1 : idx_main_v450 (ix3 m ⟨p.val * 1024 + (r.val * 32 + c.val), by omega⟩ k)
        = ix4 m p ⟨r.val * 32 + c.val, by omega⟩ k := by
      refine funext fun a => Fin.ext ?_
      match a with
      | ⟨0, _⟩ => show ((m.val * 4096 + (p.val * 1024 + (r.val * 32 + c.val))) * 3 + k.val) / 12288 = m.val; omega
      | ⟨1, _⟩ => show ((m.val * 4096 + (p.val * 1024 + (r.val * 32 + c.val))) * 3 + k.val) / 3072 % 4 = p.val; omega
      | ⟨2, _⟩ => show ((m.val * 4096 + (p.val * 1024 + (r.val * 32 + c.val))) * 3 + k.val) / 3 % 1024 = r.val * 32 + c.val; omega
      | ⟨3, _⟩ => show ((m.val * 4096 + (p.val * 1024 + (r.val * 32 + c.val))) * 3 + k.val) % 3 = k.val; omega
    rw [e1]
    refine funext fun a => Fin.ext ?_
    match a with
    | ⟨0, _⟩ => show (((p.val * 64 + m.val) * 3 + k.val) * 1024 + (r.val * 32 + c.val)) / 196608 = p.val; omega
    | ⟨1, _⟩ => show (((p.val * 64 + m.val) * 3 + k.val) * 1024 + (r.val * 32 + c.val)) / 3072 % 64 = m.val; omega
    | ⟨2, _⟩ => show (((p.val * 64 + m.val) * 3 + k.val) * 1024 + (r.val * 32 + c.val)) / 1024 % 3 = k.val; omega
    | ⟨3, _⟩ => show (((p.val * 64 + m.val) * 3 + k.val) * 1024 + (r.val * 32 + c.val)) / 32 % 32 = r.val; omega
    | ⟨4, _⟩ => show (((p.val * 64 + m.val) * 3 + k.val) * 1024 + (r.val * 32 + c.val)) % 32 = c.val; omega
  rw [e, val_main_v447_apply, val_main_v444_apply, val_main_v443_apply, val_main_v446_apply, val_main_v445_apply]
  refine congrArg₂ (· + ·) (Finset.sum_congr rfl fun o _ => congrArg₂ (· * ·) ?_ ?_) (congrArg x18 ?_)
  · rw [val_main_v442_apply]
    refine congrArg x17 (funext fun a => Fin.ext ?_)
    match a with
    | ⟨0, _⟩ => show ((p.val * 3 + k.val) * 32 + o.val) / 96 = p.val; omega
    | ⟨1, _⟩ => show ((p.val * 3 + k.val) * 32 + o.val) / 32 % 3 = k.val; omega
    | ⟨2, _⟩ => show ((p.val * 3 + k.val) * 32 + o.val) / 1 % 32 = o.val; omega
    | ⟨3, _⟩ => rfl
    | ⟨4, _⟩ => rfl
  · rw [← mean_ref x0 x1 x2 x3 x4 x5 x6 x7 x8 x9 x10 x11 x12 x13 x14 x15 x16]
    refine congrArg _ (funext fun a => ?_)
    match a with
    | ⟨0, _⟩ => rfl
    | ⟨1, _⟩ => rfl
    | ⟨2, _⟩ => rfl
    | ⟨3, _⟩ => rfl
    | ⟨4, _⟩ => rfl
  · refine funext fun a => ?_
    match a with
    | ⟨0, _⟩ => rfl
    | ⟨1, _⟩ => rfl

end Decoder
-- ==== Proof.BlockVal.lean ====
module

public import proofs.«01_k».proof.Proof.KHead
public import proofs.«01_k».proof.Proof.Layer
public import proofs.«01_k».proof.Proof.RBridge
public import proofs.«01_k».proof.Proof.RHead
public import proofs.«01_k».proof.Proof.RTail

@[expose] public section

set_option maxRecDepth 16384

/-! What one block computes: the reference's result on the block's batch rows and patch. -/

noncomputable section

namespace Decoder

open Idealize.ShloMosaic
open Idealize.ShloMosaic.ValueIdx
open Cert.KernelIdeal.Gen Cert.ReferenceIdeal.Read

theorem at_zero3 : (![0, 0, 0] : Fin 3 → Nat) = fun _ => 0 := funext fun a => by fin_cases a <;> rfl
theorem at_zero2 : (![0, 0] : Fin 2 → Nat) = fun _ => 0 := funext fun a => by fin_cases a <;> rfl

/-- One tap's matrix inside a layer's block of weights. -/
theorem kwl_apply {ci co : ℕ} (x : Vec Ideal ⟨4, ![1, 16, ci, co]⟩ .f32) (t : Fin 16) (k : Fin ci) (o : Fin co) :
    kwl x t (ix4 0 0 k o) = x (ix4 0 t k o) := by
  unfold kwl
  refine View.ld_unit_apply_of x _ _ _ (ix4 0 0 k o) (ix4 0 t k o) (fun a => ?_)
  match a with
  | ⟨0, _⟩ => rfl
  | ⟨1, _⟩ => rfl
  | ⟨2, _⟩ => exact (Nat.zero_add _).symm
  | ⟨3, _⟩ => exact (Nat.zero_add _).symm

/-- A layer's blocks of weights and biases hold the taps of patch `p`. -/
structure ConvArgs {ci co : ℕ} (p : Fin 4) (w : FVec Ideal ⟨5, ![4, ci, co, 4, 4]⟩ .f32) (bias : FVec Ideal ⟨2, ![4, co]⟩ .f32)
    (x : FVec Ideal ⟨4, ![1, 16, ci, co]⟩ .f32) (kb : FVec Ideal ⟨3, ![1, 1, co]⟩ .f32) : Prop where
  taps : ∀ (a b dn dr : Fin 2) (k : Fin ci) (o : Fin co),
    x (ix4 0 (tapNo a b dn dr) k o) = w (ix5 p k o (tapOf a dn).rev (tapOf b dr).rev)
  bias : ∀ o : Fin co, kb (ix3 0 0 o) = bias (ix2 p o)

/-- The tail by index. -/
theorem tailOut_apply (y00 y01 y10 y11 : FVec Ideal ⟨2, ![8192, 32]⟩ .f32) (w : FVec Ideal ⟨3, ![1, 32, 3]⟩ .f32)
    (b : FVec Ideal ⟨3, ![1, 1, 3]⟩ .f32) (n : Fin 8) (r c : Fin 32) (k : Fin 3) (x : Fin 8192)
    (hx : x.val = (n.val * 32 + r.val) * 32 + c.val) :
    tailOut y00 y01 y10 y11 w b (ix3 n ⟨r.val * 32 + c.val, by omega⟩ k)
      = (∑ o : Fin 32, (y00 (ix2 x o) + y01 (ix2 x o) + y10 (ix2 x o) + y11 (ix2 x o)) * ((4 : ℝ)⁻¹ : ℝ) * w (ix3 0 o k))
        + b (ix3 0 0 k) := by
  unfold tailOut
  rw [shapeCast_apply _ _ _ (ix2 x k) (by
    rw [Shape.rowMajor_val_two, Shape.rowMajor_val_three]
    show x.val * 3 + k.val = (n.val * 1024 + (r.val * 32 + c.val)) * 3 + k.val
    rw [hx]; omega)]
  refine congrArg₂ (· + ·) ?_ ?_
  · rw [mm_apply]
    refine Finset.sum_congr rfl fun o _ => ?_
    rw [dropM_apply, ← quarter]
    rfl
  · rw [rowBias_apply, drop11_apply]

variable {a0 : FVec Ideal ⟨2, ![64, 2048]⟩ .f32}
  {a1 : FVec Ideal ⟨2, ![128, 2048]⟩ .f32}
  {a2 : FVec Ideal ⟨1, ![128]⟩ .f32}
  {a3 : FVec Ideal ⟨2, ![256, 128]⟩ .f32}
  {a4 : FVec Ideal ⟨1, ![256]⟩ .f32}
  {a5 : FVec Ideal ⟨2, ![512, 256]⟩ .f32}
  {a6 : FVec Ideal ⟨1, ![512]⟩ .f32}
  {a7 : FVec Ideal ⟨3, ![4, 4096, 128]⟩ .f32}
  {a8 : FVec Ideal ⟨2, ![4, 4096]⟩ .f32}
  {a9 : FVec Ideal ⟨5, ![4, 256, 128, 4, 4]⟩ .f32}
  {a10 : FVec Ideal ⟨2, ![4, 128]⟩ .f32}
  {a11 : FVec Ideal ⟨5, ![4, 128, 64, 4, 4]⟩ .f32}
  {a12 : FVec Ideal ⟨2, ![4, 64]⟩ .f32}
  {a13 : FVec Ideal ⟨5, ![4, 64, 64, 4, 4]⟩ .f32}
  {a14 : FVec Ideal ⟨2, ![4, 64]⟩ .f32}
  {a15 : FVec Ideal ⟨5, ![4, 64, 32, 4, 4]⟩ .f32}
  {a16 : FVec Ideal ⟨2, ![4, 32]⟩ .f32}
  {a17 : FVec Ideal ⟨5, ![4, 3, 32, 1, 1]⟩ .f32}
  {a18 : FVec Ideal ⟨2, ![4, 3]⟩ .f32}
variable {x0 : Vec Ideal Cert.KernelIdeal.S1x8x2048 .f32}
  {x1 : Vec Ideal Cert.KernelIdeal.S2048x128 .f32}
  {x2 : Vec Ideal Cert.KernelIdeal.S1x128 .f32}
  {x3 : Vec Ideal Cert.KernelIdeal.S128x256 .f32}
  {x4 : Vec Ideal Cert.KernelIdeal.S1x256 .f32}
  {x5 : Vec Ideal Cert.KernelIdeal.S256x128 .f32}
  {x6 : Vec Ideal Cert.KernelIdeal.S1x1x128 .f32}
  {x7 : Vec Ideal Cert.KernelIdeal.S1x128x4096 .f32}
  {x8 : Vec Ideal Cert.KernelIdeal.S1x1x4096 .f32}
  {x9 : Vec Ideal Cert.KernelIdeal.S1x16x256x128 .f32}
  {x10 : Vec Ideal Cert.KernelIdeal.S1x1x128 .f32}
  {x11 : Vec Ideal Cert.KernelIdeal.S1x16x128x64 .f32}
  {x12 : Vec Ideal Cert.KernelIdeal.S1x1x64 .f32}
  {x13 : Vec Ideal Cert.KernelIdeal.S1x16x64x64 .f32}
  {x14 : Vec Ideal Cert.KernelIdeal.S1x1x64 .f32}
  {x15 : Vec Ideal Cert.KernelIdeal.S1x16x64x32 .f32}
  {x16 : Vec Ideal Cert.KernelIdeal.S1x1x32 .f32}
  {x17 : Vec Ideal Cert.KernelIdeal.S1x32x3 .f32}
  {x18 : Vec Ideal Cert.KernelIdeal.S1x1x3 .f32}

/-- The first layer's padded input is the reference's first image inside its border. -/
theorem in1_read {g : Fin 8} {p : Fin 4} (h : HeadArgs a0 a1 a2 a3 a4 a5 a6 a7 a8 x0 x1 x2 x3 x4 x5 x6 x7 x8 g p) (n : Fin 8) (s t : ℕ) (c : Fin 256) :
    rd4 (in1 x0 x1 x2 x3 x4 x5 x6 x7 x8) n s t c
      = zr (val_main_v25 (F := Ideal) a0 a1 a2 a3 a4 a5 a6 a7 a8) p ⟨8 * g.val + n.val, by omega⟩ c s t := by
  unfold in1
  rw [kPad_apply]
  have e0 : View.ld x0 r0_0 = x0 := View.ld_unit_zero at_zero3 _ x0
  have e1 : View.ld x1 r0_1 = x1 := View.ld_unit_zero at_zero2 _ x1
  have e2 : View.ld x2 r0_2 = x2 := View.ld_unit_zero at_zero2 _ x2
  have e3 : View.ld x3 r0_3 = x3 := View.ld_unit_zero at_zero2 _ x3
  have e4 : View.ld x4 r0_4 = x4 := View.ld_unit_zero at_zero2 _ x4
  have e5 : View.ld x5 r0_5 = x5 := View.ld_unit_zero at_zero2 _ x5
  have e6 : View.ld x6 r0_6 = x6 := View.ld_unit_zero at_zero3 _ x6
  have e7 : View.ld x7 r0_7 = x7 := View.ld_unit_zero at_zero3 _ x7
  have e8 : View.ld x8 r0_8 = x8 := View.ld_unit_zero at_zero3 _ x8
  rw [e0, e1, e2, e3, e4, e5, e6, e7, e8, pay2_eq]
  unfold zb zr
  by_cases hb : (1 ≤ s ∧ s ≤ 4) ∧ (1 ≤ t ∧ t ≤ 4)
  · rw [dif_pos hb, dif_pos hb]
    let y : Fin 4096 := ⟨(4 * (s - 1) + (t - 1)) * 256 + c.val, by omega⟩
    let i : Fin 4 := ⟨s - 1, by omega⟩
    let j : Fin 4 := ⟨t - 1, by omega⟩
    refine (headImg_apply (headRows x0 x1 x2 x3 x4 x5 x6 x7) x8 n i j c y rfl).trans ((head_eq h n y).trans ?_)
    refine Eq.trans ?_ (img_ref a0 a1 a2 a3 a4 a5 a6 a7 a8 p ⟨8 * g.val + n.val, by omega⟩ c i j).symm
    refine congrArg (rowV a0 a1 a2 a3 a4 a5 a6 a7 a8 p ⟨8 * g.val + n.val, by omega⟩) (Fin.ext ?_)
    show ((4 * (s - 1) + (t - 1)) * 256 + c.val) % 256 * 16 + ((4 * (s - 1) + (t - 1)) * 256 + c.val) / 256
      = c.val * 16 + (s - 1) * 4 + (t - 1)
    omega
  · rw [dif_neg hb, dif_neg hb]

/-- The last layer's padded input is the reference's third image inside its border. -/
theorem in4_read {g : Fin 8} {p : Fin 4} (h : HeadArgs a0 a1 a2 a3 a4 a5 a6 a7 a8 x0 x1 x2 x3 x4 x5 x6 x7 x8 g p)
    (h1 : ConvArgs p a9 a10 x9 x10) (h2 : ConvArgs p a11 a12 x11 x12) (h3 : ConvArgs p a13 a14 x13 x14)
    (n : Fin 8) (s t : ℕ) (c : Fin 64) :
    rd4 (in4 x0 x1 x2 x3 x4 x5 x6 x7 x8 x9 x10 x11 x12 x13 x14) n s t c
      = zr (val_main_v334 (F := Ideal) a0 a1 a2 a3 a4 a5 a6 a7 a8 a9 a10 a11 a12 a13 a14) p ⟨8 * g.val + n.val, by omega⟩ c s t := by
  unfold in4
  have e10 : View.ld x10 r0_6 = x10 := View.ld_unit_zero at_zero3 _ x10
  have e12 : View.ld x12 r0_25 = x12 := View.ld_unit_zero at_zero3 _ x12
  have e14 : View.ld x14 r0_25 = x14 := View.ld_unit_zero at_zero3 _ x14
  rw [e10, e12, e14, layer3_eq, layer2_eq, layer1_eq]
  refine kLayer_pad_eq kf3 pf3 rf3 _ _ _ _ a13 a14 p n _ (fun s t c => ?_)
    (fun o a b dn dr k => (kwl_apply x13 _ k o).trans (h3.taps a b dn dr k o)) h3.bias s t c
  refine kLayer_pad_eq kf2 pf2 rf2 _ _ _ _ a11 a12 p n _ (fun s t c => ?_)
    (fun o a b dn dr k => (kwl_apply x11 _ k o).trans (h2.taps a b dn dr k o)) h2.bias s t c
  refine kLayer_pad_eq kf1 pf1 rf1 _ _ _ _ a9 a10 p n _ (fun s t c => ?_)
    (fun o a b dn dr k => (kwl_apply x9 _ k o).trans (h1.taps a b dn dr k o)) h1.bias s t c
  exact in1_read h n s t c

/-- The block's result is the reference's result there. -/
theorem block_eq {g : Fin 8} {p : Fin 4} (h : HeadArgs a0 a1 a2 a3 a4 a5 a6 a7 a8 x0 x1 x2 x3 x4 x5 x6 x7 x8 g p)
    (h1 : ConvArgs p a9 a10 x9 x10) (h2 : ConvArgs p a11 a12 x11 x12) (h3 : ConvArgs p a13 a14 x13 x14)
    (h4 : ConvArgs p a15 a16 x15 x16) (hw : ∀ (o : Fin 32) (k : Fin 3), x17 (ix3 0 o k) = a17 (ix5 p k o 0 0))
    (hb : ∀ k : Fin 3, x18 (ix3 0 0 k) = a18 (ix2 p k)) (n : Fin 8) (r c : Fin 32) (k : Fin 3) :
    out0_19 x0 x1 x2 x3 x4 x5 x6 x7 x8 x9 x10 x11 x12 x13 x14 x15 x16 x17 x18 (ix3 n ⟨r.val * 32 + c.val, by omega⟩ k)
      = val_main_v450 (F := Ideal) a0 a1 a2 a3 a4 a5 a6 a7 a8 a9 a10 a11 a12 a13 a14 a15 a16 a17 a18
          (ix3 ⟨8 * g.val + n.val, by omega⟩ ⟨p.val * 1024 + (r.val * 32 + c.val), by omega⟩ k) := by
  rw [out_eq, View.canon_unit_zero at_zero3]
  have e16 : View.ld x16 r0_58 = x16 := View.ld_unit_zero at_zero3 _ x16
  have e17 : View.ld x17 r0_75 = x17 := View.ld_unit_zero at_zero3 _ x17
  have e18 : View.ld x18 r0_76 = x18 := View.ld_unit_zero at_zero3 _ x18
  rw [e16, e17, e18]
  rw [tailOut_apply _ _ _ _ _ _ n r c k ⟨(n.val * 32 + r.val) * 32 + c.val, by omega⟩ rfl, result_ref, hb]
  refine congrArg (· + _) (Finset.sum_congr rfl fun o _ => ?_)
  rw [hw, mul_comm]
  refine congrArg (_ * ·) (congrArg (· * _) ?_)
  rw [layer4_eq]
  have key : ∀ (a b : Fin 2),
      kPar kf4 (in4 x0 x1 x2 x3 x4 x5 x6 x7 x8 x9 x10 x11 x12 x13 x14) (kwl x15) x16 a b (ix2 ⟨(n.val * 32 + r.val) * 32 + c.val, by omega⟩ o)
        = rLayer rf4 (val_main_v334 (F := Ideal) a0 a1 a2 a3 a4 a5 a6 a7 a8 a9 a10 a11 a12 a13 a14) a15 a16 (ix5 p ⟨8 * g.val + n.val, by omega⟩ o
            ⟨2 * r.val + a.val, by omega⟩ ⟨2 * c.val + b.val, by omega⟩) := fun a b =>
    kPar_eq kf4 rf4 _ _ _ _ a15 a16 p n _ o (fun s t c => in4_read h h1 h2 h3 n s t c)
      (fun a b dn dr k => (kwl_apply x15 _ k o).trans (h4.taps a b dn dr k o)) (h4.bias o) a b r c _ _ rfl rfl _ rfl
  rw [key, key, key, key]
  rfl

end Decoder
-- ==== Proof.HostRead.lean ====
module

public import proofs.«01_k».proof.Proof.HostOps
public import Idealize.ShloMosaic.Lib.StableHlo.RunRead

@[expose] public section

set_option maxRecDepth 16384

/-! The arrays the host prepares before the call, as functions of the arguments, and the blocks the body finds of them. -/

noncomputable section

namespace Decoder

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

theorem V2 : V m c main_v2 = shapeCast S2048x128 (transpose S4x4x4x32x128 [2, 3, 4, 1, 0]
    (shapeCast S128x32x4x4x4 (m ((c : Thread nD τ).loc main_arg1)) shapeCasts_S128x2048_S128x32x4x4x4) transposes_S128x32x4x4x4_S4x4x4x32x128_2_3_4_1_0)
    shapeCasts_S4x4x4x32x128_S2048x128 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V5 : V m c main_v5 = shapeCast S4x128x4096 (transpose S4x128x16x256 [0, 3, 2, 1]
    (shapeCast S4x256x16x128 (m ((c : Thread nD τ).loc main_arg7)) shapeCasts_S4x4096x128_S4x256x16x128) transposes_S4x256x16x128_S4x128x16x256_0_3_2_1)
    shapeCasts_S4x128x16x256_S4x128x4096 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V8 : V m c main_v8 = shapeCast S4x1x4096 (transpose S4x16x256 [0, 2, 1]
    (shapeCast S4x256x16 (m ((c : Thread nD τ).loc main_arg8)) shapeCasts_S4x4096_S4x256x16) transposes_S4x256x16_S4x16x256_0_2_1)
    shapeCasts_S4x16x256_S4x1x4096 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V12 : V m c main_v12 = tapMats (m ((c : Thread nD τ).loc main_arg9)) shapeCasts_S4x256x128x4x4_S4x256x128x2x2x2x2
    transposes_S4x256x128x2x2x2x2_S4x2x2x2x2x256x128_0_4_6_3_5_1_2 shapeCasts_S4x2x2x2x2x256x128_S4x16x256x128 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V16 : V m c main_v16 = tapMats (m ((c : Thread nD τ).loc main_arg11)) shapeCasts_S4x128x64x4x4_S4x128x64x2x2x2x2
    transposes_S4x128x64x2x2x2x2_S4x2x2x2x2x128x64_0_4_6_3_5_1_2 shapeCasts_S4x2x2x2x2x128x64_S4x16x128x64 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V20 : V m c main_v20 = tapMats (m ((c : Thread nD τ).loc main_arg13)) shapeCasts_S4x64x64x4x4_S4x64x64x2x2x2x2
    transposes_S4x64x64x2x2x2x2_S4x2x2x2x2x64x64_0_4_6_3_5_1_2 shapeCasts_S4x2x2x2x2x64x64_S4x16x64x64 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V24 : V m c main_v24 = tapMats (m ((c : Thread nD τ).loc main_arg15)) shapeCasts_S4x64x32x4x4_S4x64x32x2x2x2x2
    transposes_S4x64x32x2x2x2x2_S4x2x2x2x2x64x32_0_4_6_3_5_1_2 shapeCasts_S4x2x2x2x2x64x32_S4x16x64x32 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V25 : V m c main_v25 = shapeCast S4x1x128 (m ((c : Thread nD τ).loc main_arg10)) shapeCasts_S4x128_S4x1x128 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V26 : V m c main_v26 = shapeCast S4x1x64 (m ((c : Thread nD τ).loc main_arg12)) shapeCasts_S4x64_S4x1x64 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V27 : V m c main_v27 = shapeCast S4x1x64 (m ((c : Thread nD τ).loc main_arg14)) shapeCasts_S4x64_S4x1x64 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V28 : V m c main_v28 = shapeCast S4x1x32 (m ((c : Thread nD τ).loc main_arg16)) shapeCasts_S4x32_S4x1x32 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V31 : V m c main_v31 = shapeCast S4x1x3 (m ((c : Thread nD τ).loc main_arg18)) shapeCasts_S4x3_S4x1x3 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V30 : V m c main_v30 = transpose S4x32x3 [0, 2, 1] (shapeCast S4x3x32 (m ((c : Thread nD τ).loc main_arg17)) shapeCasts_S4x3x32x1x1_S4x3x32)
    transposes_S4x3x32_S4x32x3_0_2_1 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V32 : V m c main_v32 = transpose S256x512 [1, 0] (m ((c : Thread nD τ).loc main_arg5)) transposes_S512x256_S256x512_1_0 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V33 : V m c main_v33 = shapeCast S4x1x128 (m ((c : Thread nD τ).loc main_arg6)) shapeCasts_S512_S4x1x128 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V34 : V m c main_v34 = transpose S128x256 [1, 0] (m ((c : Thread nD τ).loc main_arg3)) transposes_S256x128_S128x256_1_0 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V35 : V m c main_v35 = shapeCast S1x128 (m ((c : Thread nD τ).loc main_arg2)) shapeCasts_S128_S1x128 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V36 : V m c main_v36 = shapeCast S1x256 (m ((c : Thread nD τ).loc main_arg4)) shapeCasts_S256_S1x256 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

theorem V37 : V m c main_v37 = shapeCast S8x8x2048 (m ((c : Thread nD τ).loc main_arg0)) shapeCasts_S64x2048_S8x8x2048 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_reads_simp
  try rfl

end Decoder
-- ==== Proof.Blocks.lean ====
module

public import proofs.«01_k».proof.Proof.KHead

@[expose] public section

set_option maxRecDepth 16384

/-! The blocks the body finds at a grid point, read by index from the arrays. -/

noncomputable section

namespace Decoder

open Idealize.ShloMosaic Idealize.ShloMosaic.TcCoe Idealize.ShloMosaic.ValueIdx Idealize.SL.Sem
open Cert.KernelIdeal Cert.KernelIdeal.Gen

/-- The patch a grid point works on. -/
def ptP (t : Fin cfg0.N) : Fin 4 := ⟨t.val / 8, by have := t.isLt; have h : cfg0.N = 32 := N_0; omega⟩
/-- The block of batch rows a grid point works on. -/
def ptB (t : Fin cfg0.N) : Fin 8 := ⟨t.val % 8, by omega⟩

theorem at0 : ∀ t : Fin cfg0.N, win0_0.index t 0 = t.val % 8 ∧ win0_0.index t 1 = 0 ∧ win0_0.index t 2 = 0 :=
  (by decide +kernel : ∀ t : Fin grid0.N, win0_0.index t 0 = t.val % 8 ∧ win0_0.index t 1 = 0 ∧ win0_0.index t 2 = 0)

theorem at1 : ∀ t : Fin cfg0.N, win0_1.index t 0 = 0 ∧ win0_1.index t 1 = 0 :=
  (by decide +kernel : ∀ t : Fin grid0.N, win0_1.index t 0 = 0 ∧ win0_1.index t 1 = 0)

theorem at2 : ∀ t : Fin cfg0.N, win0_2.index t 0 = 0 ∧ win0_2.index t 1 = 0 :=
  (by decide +kernel : ∀ t : Fin grid0.N, win0_2.index t 0 = 0 ∧ win0_2.index t 1 = 0)

theorem at3 : ∀ t : Fin cfg0.N, win0_3.index t 0 = 0 ∧ win0_3.index t 1 = 0 :=
  (by decide +kernel : ∀ t : Fin grid0.N, win0_3.index t 0 = 0 ∧ win0_3.index t 1 = 0)

theorem at4 : ∀ t : Fin cfg0.N, win0_4.index t 0 = 0 ∧ win0_4.index t 1 = 0 :=
  (by decide +kernel : ∀ t : Fin grid0.N, win0_4.index t 0 = 0 ∧ win0_4.index t 1 = 0)

theorem at5 : ∀ t : Fin cfg0.N, win0_5.index t 0 = 0 ∧ win0_5.index t 1 = t.val / 8 :=
  (by decide +kernel : ∀ t : Fin grid0.N, win0_5.index t 0 = 0 ∧ win0_5.index t 1 = t.val / 8)

theorem at6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

theorem at7 : ∀ t : Fin cfg0.N, win0_7.index t 0 = t.val / 8 ∧ win0_7.index t 1 = 0 ∧ win0_7.index t 2 = 0 :=
  (by decide +kernel : ∀ t : Fin grid0.N, win0_7.index t 0 = t.val / 8 ∧ win0_7.index t 1 = 0 ∧ win0_7.index t 2 = 0)

theorem at8 : ∀ t : Fin cfg0.N, win0_8.index t 0 = t.val / 8 ∧ win0_8.index t 1 = 0 ∧ win0_8.index t 2 = 0 :=
  (by decide +kernel : ∀ t : Fin grid0.N, win0_8.index t 0 = t.val / 8 ∧ win0_8.index t 1 = 0 ∧ win0_8.index t 2 = 0)

theorem at9 : ∀ t : Fin cfg0.N, win0_9.index t 0 = t.val / 8 ∧ win0_9.index t 1 = 0 ∧ win0_9.index t 2 = 0 ∧ win0_9.index t 3 = 0 :=
  (by decide +kernel : ∀ t : Fin grid0.N, win0_9.index t 0 = t.val / 8 ∧ win0_9.index t 1 = 0 ∧ win0_9.index t 2 = 0 ∧ win0_9.index t 3 = 0)

theorem at10 : ∀ t : Fin cfg0.N, win0_10.index t 0 = t.val / 8 ∧ win0_10.index t 1 = 0 ∧ win0_10.index t 2 = 0 :=
  (by decide +kernel : ∀ t : Fin grid0.N, win0_10.index t 0 = t.val / 8 ∧ win0_10.index t 1 = 0 ∧ win0_10.index t 2 = 0)

theorem at11 : ∀ t : Fin cfg0.N, win0_11.index t 0 = t.val / 8 ∧ win0_11.index t 1 = 0 ∧ win0_11.index t 2 = 0 ∧ win0_11.index t 3 = 0 :=
  (by decide +kernel : ∀ t : Fin grid0.N, win0_11.index t 0 = t.val / 8 ∧ win0_11.index t 1 = 0 ∧ win0_11.index t 2 = 0 ∧ win0_11.index t 3 = 0)

theorem at12 : ∀ t : Fin cfg0.N, win0_12.index t 0 = t.val / 8 ∧ win0_12.index t 1 = 0 ∧ win0_12.index t 2 = 0 :=
  (by decide +kernel : ∀ t : Fin grid0.N, win0_12.index t 0 = t.val / 8 ∧ win0_12.index t 1 = 0 ∧ win0_12.index t 2 = 0)

theorem at13 : ∀ t : Fin cfg0.N, win0_13.index t 0 = t.val / 8 ∧ win0_13.index t 1 = 0 ∧ win0_13.index t 2 = 0 ∧ win0_13.index t 3 = 0 :=
  (by decide +kernel : ∀ t : Fin grid0.N, win0_13.index t 0 = t.val / 8 ∧ win0_13.index t 1 = 0 ∧ win0_13.index t 2 = 0 ∧ win0_13.index t 3 = 0)

theorem at14 : ∀ t : Fin cfg0.N, win0_14.index t 0 = t.val / 8 ∧ win0_14.index t 1 = 0 ∧ win0_14.index t 2 = 0 :=
  (by decide +kernel : ∀ t : Fin grid0.N, win0_14.index t 0 = t.val / 8 ∧ win0_14.index t 1 = 0 ∧ win0_14.index t 2 = 0)

theorem at15 : ∀ t : Fin cfg0.N, win0_15.index t 0 = t.val / 8 ∧ win0_15.index t 1 = 0 ∧ win0_15.index t 2 = 0 ∧ win0_15.index t 3 = 0 :=
  (by decide +kernel : ∀ t : Fin grid0.N, win0_15.index t 0 = t.val / 8 ∧ win0_15.index t 1 = 0 ∧ win0_15.index t 2 = 0 ∧ win0_15.index t 3 = 0)

theorem at16 : ∀ t : Fin cfg0.N, win0_16.index t 0 = t.val / 8 ∧ win0_16.index t 1 = 0 ∧ win0_16.index t 2 = 0 :=
  (by decide +kernel : ∀ t : Fin grid0.N, win0_16.index t 0 = t.val / 8 ∧ win0_16.index t 1 = 0 ∧ win0_16.index t 2 = 0)

theorem at17 : ∀ t : Fin cfg0.N, win0_17.index t 0 = t.val / 8 ∧ win0_17.index t 1 = 0 ∧ win0_17.index t 2 = 0 :=
  (by decide +kernel : ∀ t : Fin grid0.N, win0_17.index t 0 = t.val / 8 ∧ win0_17.index t 1 = 0 ∧ win0_17.index t 2 = 0)

theorem at18 : ∀ t : Fin cfg0.N, win0_18.index t 0 = t.val / 8 ∧ win0_18.index t 1 = 0 ∧ win0_18.index t 2 = 0 :=
  (by decide +kernel : ∀ t : Fin grid0.N, win0_18.index t 0 = t.val / 8 ∧ win0_18.index t 1 = 0 ∧ win0_18.index t 2 = 0)

theorem at19 : ∀ t : Fin cfg0.N, win0_19.index t 0 = t.val % 8 ∧ win0_19.index t 1 = t.val / 8 ∧ win0_19.index t 2 = 0 :=
  (by decide +kernel : ∀ t : Fin grid0.N, win0_19.index t 0 = t.val % 8 ∧ win0_19.index t 1 = t.val / 8 ∧ win0_19.index t 2 = 0)

theorem blk0 (A : Vec Ideal S8x8x2048 .f32) (t : Fin cfg0.N) (v : Fin 8) (w : Fin 2048) :
    ((cfg0.win 0).blk t).view.read (Elt Ideal) A (ix3 0 v w) = A (ix3 (ptB t) v w) := by
  have h := at0 t
  rw [View.read_apply]
  show A _ = A _
  refine congrArg A (funext fun a => Fin.ext ?_)
  match a with
  | ⟨0, _⟩ => show win0_0.index t 0 * 1 + 1 * 0 = t.val % 8; rw [h.1]; all_goals omega
  | ⟨1, _⟩ => show win0_0.index t 1 * 8 + 1 * v.val = v.val; rw [h.2.1]; all_goals omega
  | ⟨2, _⟩ => show win0_0.index t 2 * 2048 + 1 * w.val = w.val; rw [h.2.2]; all_goals omega

theorem blk1 (A : Vec Ideal S2048x128 .f32) (t : Fin cfg0.N) (u : Fin 2048) (v : Fin 128) :
    ((cfg0.win 1).blk t).view.read (Elt Ideal) A (ix2 u v) = A (ix2 u v) := by
  have h := at1 t
  rw [View.read_apply]
  show A _ = A _
  refine congrArg A (funext fun a => Fin.ext ?_)
  match a with
  | ⟨0, _⟩ => show win0_1.index t 0 * 2048 + 1 * u.val = u.val; rw [h.1]; all_goals omega
  | ⟨1, _⟩ => show win0_1.index t 1 * 128 + 1 * v.val = v.val; rw [h.2]; all_goals omega

theorem blk2 (A : Vec Ideal S1x128 .f32) (t : Fin cfg0.N) (v : Fin 128) :
    ((cfg0.win 2).blk t).view.read (Elt Ideal) A (ix2 0 v) = A (ix2 0 v) := by
  have h := at2 t
  rw [View.read_apply]
  show A _ = A _
  refine congrArg A (funext fun a => Fin.ext ?_)
  match a with
  | ⟨0, _⟩ => show win0_2.index t 0 * 1 + 1 * 0 = 0; rw [h.1]; all_goals omega
  | ⟨1, _⟩ => show win0_2.index t 1 * 128 + 1 * v.val = v.val; rw [h.2]; all_goals omega

theorem blk3 (A : Vec Ideal S128x256 .f32) (t : Fin cfg0.N) (u : Fin 128) (v : Fin 256) :
    ((cfg0.win 3).blk t).view.read (Elt Ideal) A (ix2 u v) = A (ix2 u v) := by
  have h := at3 t
  rw [View.read_apply]
  show A _ = A _
  refine congrArg A (funext fun a => Fin.ext ?_)
  match a with
  | ⟨0, _⟩ => show win0_3.index t 0 * 128 + 1 * u.val = u.val; rw [h.1]; all_goals omega
  | ⟨1, _⟩ => show win0_3.index t 1 * 256 + 1 * v.val = v.val; rw [h.2]; all_goals omega

theorem blk4 (A : Vec Ideal S1x256 .f32) (t : Fin cfg0.N) (v : Fin 256) :
    ((cfg0.win 4).blk t).view.read (Elt Ideal) A (ix2 0 v) = A (ix2 0 v) := by
  have h := at4 t
  rw [View.read_apply]
  show A _ = A _
  refine congrArg A (funext fun a => Fin.ext ?_)
  match a with
  | ⟨0, _⟩ => show win0_4.index t 0 * 1 + 1 * 0 = 0; rw [h.1]; all_goals omega
  | ⟨1, _⟩ => show win0_4.index t 1 * 256 + 1 * v.val = v.val; rw [h.2]; all_goals omega

theorem blk5 (A : Vec Ideal S256x512 .f32) (t : Fin cfg0.N) (u : Fin 256) (v : Fin 128) :
    ((cfg0.win 5).blk t).view.read (Elt Ideal) A (ix2 u v) = A (ix2 u ⟨(ptP t).val * 128 + v.val, by have := (ptP t).isLt; omega⟩) := by
  have h := at5 t
  rw [View.read_apply]
  show A _ = A _
  refine congrArg A (funext fun a => Fin.ext ?_)
  match a with
  | ⟨0, _⟩ => show win0_5.index t 0 * 256 + 1 * u.val = u.val; rw [h.1]; all_goals omega
  | ⟨1, _⟩ => show win0_5.index t 1 * 128 + 1 * v.val = t.val / 8 * 128 + v.val; rw [h.2]; all_goals omega

theorem blk6 (A : Vec Ideal S4x1x128 .f32) (t : Fin cfg0.N) (w : Fin 128) :
    ((cfg0.win 6).blk t).view.read (Elt Ideal) A (ix3 0 0 w) = A (ix3 (ptP t) 0 w) := by
  have h := at6 t
  rw [View.read_apply]
  show A _ = A _
  refine congrArg A (funext fun a => Fin.ext ?_)
  match a with
  | ⟨0, _⟩ => show win0_6.index t 0 * 1 + 1 * 0 = t.val / 8; rw [h.1]; all_goals omega
  | ⟨1, _⟩ => show win0_6.index t 1 * 1 + 1 * 0 = 0; rw [h.2.1]; all_goals omega
  | ⟨2, _⟩ => show win0_6.index t 2 * 128 + 1 * w.val = w.val; rw [h.2.2]; all_goals omega

theorem blk7 (A : Vec Ideal S4x128x4096 .f32) (t : Fin cfg0.N) (v : Fin 128) (w : Fin 4096) :
    ((cfg0.win 7).blk t).view.read (Elt Ideal) A (ix3 0 v w) = A (ix3 (ptP t) v w) := by
  have h := at7 t
  rw [View.read_apply]
  show A _ = A _
  refine congrArg A (funext fun a => Fin.ext ?_)
  match a with
  | ⟨0, _⟩ => show win0_7.index t 0 * 1 + 1 * 0 = t.val / 8; rw [h.1]; all_goals omega
  | ⟨1, _⟩ => show win0_7.index t 1 * 128 + 1 * v.val = v.val; rw [h.2.1]; all_goals omega
  | ⟨2, _⟩ => show win0_7.index t 2 * 4096 + 1 * w.val = w.val; rw [h.2.2]; all_goals omega

theorem blk8 (A : Vec Ideal S4x1x4096 .f32) (t : Fin cfg0.N) (w : Fin 4096) :
    ((cfg0.win 8).blk t).view.read (Elt Ideal) A (ix3 0 0 w) = A (ix3 (ptP t) 0 w) := by
  have h := at8 t
  rw [View.read_apply]
  show A _ = A _
  refine congrArg A (funext fun a => Fin.ext ?_)
  match a with
  | ⟨0, _⟩ => show win0_8.index t 0 * 1 + 1 * 0 = t.val / 8; rw [h.1]; all_goals omega
  | ⟨1, _⟩ => show win0_8.index t 1 * 1 + 1 * 0 = 0; rw [h.2.1]; all_goals omega
  | ⟨2, _⟩ => show win0_8.index t 2 * 4096 + 1 * w.val = w.val; rw [h.2.2]; all_goals omega

theorem blk9 (A : Vec Ideal S4x16x256x128 .f32) (t : Fin cfg0.N) (v : Fin 16) (w : Fin 256) (x : Fin 128) :
    ((cfg0.win 9).blk t).view.read (Elt Ideal) A (ix4 0 v w x) = A (ix4 (ptP t) v w x) := by
  have h := at9 t
  rw [View.read_apply]
  show A _ = A _
  refine congrArg A (funext fun a => Fin.ext ?_)
  match a with
  | ⟨0, _⟩ => show win0_9.index t 0 * 1 + 1 * 0 = t.val / 8; rw [h.1]; all_goals omega
  | ⟨1, _⟩ => show win0_9.index t 1 * 16 + 1 * v.val = v.val; rw [h.2.1]; all_goals omega
  | ⟨2, _⟩ => show win0_9.index t 2 * 256 + 1 * w.val = w.val; rw [h.2.2.1]; all_goals omega
  | ⟨3, _⟩ => show win0_9.index t 3 * 128 + 1 * x.val = x.val; rw [h.2.2.2]; all_goals omega

theorem blk10 (A : Vec Ideal S4x1x128 .f32) (t : Fin cfg0.N) (w : Fin 128) :
    ((cfg0.win 10).blk t).view.read (Elt Ideal) A (ix3 0 0 w) = A (ix3 (ptP t) 0 w) := by
  have h := at10 t
  rw [View.read_apply]
  show A _ = A _
  refine congrArg A (funext fun a => Fin.ext ?_)
  match a with
  | ⟨0, _⟩ => show win0_10.index t 0 * 1 + 1 * 0 = t.val / 8; rw [h.1]; all_goals omega
  | ⟨1, _⟩ => show win0_10.index t 1 * 1 + 1 * 0 = 0; rw [h.2.1]; all_goals omega
  | ⟨2, _⟩ => show win0_10.index t 2 * 128 + 1 * w.val = w.val; rw [h.2.2]; all_goals omega

theorem blk11 (A : Vec Ideal S4x16x128x64 .f32) (t : Fin cfg0.N) (v : Fin 16) (w : Fin 128) (x : Fin 64) :
    ((cfg0.win 11).blk t).view.read (Elt Ideal) A (ix4 0 v w x) = A (ix4 (ptP t) v w x) := by
  have h := at11 t
  rw [View.read_apply]
  show A _ = A _
  refine congrArg A (funext fun a => Fin.ext ?_)
  match a with
  | ⟨0, _⟩ => show win0_11.index t 0 * 1 + 1 * 0 = t.val / 8; rw [h.1]; all_goals omega
  | ⟨1, _⟩ => show win0_11.index t 1 * 16 + 1 * v.val = v.val; rw [h.2.1]; all_goals omega
  | ⟨2, _⟩ => show win0_11.index t 2 * 128 + 1 * w.val = w.val; rw [h.2.2.1]; all_goals omega
  | ⟨3, _⟩ => show win0_11.index t 3 * 64 + 1 * x.val = x.val; rw [h.2.2.2]; all_goals omega

theorem blk12 (A : Vec Ideal S4x1x64 .f32) (t : Fin cfg0.N) (w : Fin 64) :
    ((cfg0.win 12).blk t).view.read (Elt Ideal) A (ix3 0 0 w) = A (ix3 (ptP t) 0 w) := by
  have h := at12 t
  rw [View.read_apply]
  show A _ = A _
  refine congrArg A (funext fun a => Fin.ext ?_)
  match a with
  | ⟨0, _⟩ => show win0_12.index t 0 * 1 + 1 * 0 = t.val / 8; rw [h.1]; all_goals omega
  | ⟨1, _⟩ => show win0_12.index t 1 * 1 + 1 * 0 = 0; rw [h.2.1]; all_goals omega
  | ⟨2, _⟩ => show win0_12.index t 2 * 64 + 1 * w.val = w.val; rw [h.2.2]; all_goals omega

theorem blk13 (A : Vec Ideal S4x16x64x64 .f32) (t : Fin cfg0.N) (v : Fin 16) (w : Fin 64) (x : Fin 64) :
    ((cfg0.win 13).blk t).view.read (Elt Ideal) A (ix4 0 v w x) = A (ix4 (ptP t) v w x) := by
  have h := at13 t
  rw [View.read_apply]
  show A _ = A _
  refine congrArg A (funext fun a => Fin.ext ?_)
  match a with
  | ⟨0, _⟩ => show win0_13.index t 0 * 1 + 1 * 0 = t.val / 8; rw [h.1]; all_goals omega
  | ⟨1, _⟩ => show win0_13.index t 1 * 16 + 1 * v.val = v.val; rw [h.2.1]; all_goals omega
  | ⟨2, _⟩ => show win0_13.index t 2 * 64 + 1 * w.val = w.val; rw [h.2.2.1]; all_goals omega
  | ⟨3, _⟩ => show win0_13.index t 3 * 64 + 1 * x.val = x.val; rw [h.2.2.2]; all_goals omega

theorem blk14 (A : Vec Ideal S4x1x64 .f32) (t : Fin cfg0.N) (w : Fin 64) :
    ((cfg0.win 14).blk t).view.read (Elt Ideal) A (ix3 0 0 w) = A (ix3 (ptP t) 0 w) := by
  have h := at14 t
  rw [View.read_apply]
  show A _ = A _
  refine congrArg A (funext fun a => Fin.ext ?_)
  match a with
  | ⟨0, _⟩ => show win0_14.index t 0 * 1 + 1 * 0 = t.val / 8; rw [h.1]; all_goals omega
  | ⟨1, _⟩ => show win0_14.index t 1 * 1 + 1 * 0 = 0; rw [h.2.1]; all_goals omega
  | ⟨2, _⟩ => show win0_14.index t 2 * 64 + 1 * w.val = w.val; rw [h.2.2]; all_goals omega

theorem blk15 (A : Vec Ideal S4x16x64x32 .f32) (t : Fin cfg0.N) (v : Fin 16) (w : Fin 64) (x : Fin 32) :
    ((cfg0.win 15).blk t).view.read (Elt Ideal) A (ix4 0 v w x) = A (ix4 (ptP t) v w x) := by
  have h := at15 t
  rw [View.read_apply]
  show A _ = A _
  refine congrArg A (funext fun a => Fin.ext ?_)
  match a with
  | ⟨0, _⟩ => show win0_15.index t 0 * 1 + 1 * 0 = t.val / 8; rw [h.1]; all_goals omega
  | ⟨1, _⟩ => show win0_15.index t 1 * 16 + 1 * v.val = v.val; rw [h.2.1]; all_goals omega
  | ⟨2, _⟩ => show win0_15.index t 2 * 64 + 1 * w.val = w.val; rw [h.2.2.1]; all_goals omega
  | ⟨3, _⟩ => show win0_15.index t 3 * 32 + 1 * x.val = x.val; rw [h.2.2.2]; all_goals omega

theorem blk16 (A : Vec Ideal S4x1x32 .f32) (t : Fin cfg0.N) (w : Fin 32) :
    ((cfg0.win 16).blk t).view.read (Elt Ideal) A (ix3 0 0 w) = A (ix3 (ptP t) 0 w) := by
  have h := at16 t
  rw [View.read_apply]
  show A _ = A _
  refine congrArg A (funext fun a => Fin.ext ?_)
  match a with
  | ⟨0, _⟩ => show win0_16.index t 0 * 1 + 1 * 0 = t.val / 8; rw [h.1]; all_goals omega
  | ⟨1, _⟩ => show win0_16.index t 1 * 1 + 1 * 0 = 0; rw [h.2.1]; all_goals omega
  | ⟨2, _⟩ => show win0_16.index t 2 * 32 + 1 * w.val = w.val; rw [h.2.2]; all_goals omega

theorem blk17 (A : Vec Ideal S4x32x3 .f32) (t : Fin cfg0.N) (v : Fin 32) (w : Fin 3) :
    ((cfg0.win 17).blk t).view.read (Elt Ideal) A (ix3 0 v w) = A (ix3 (ptP t) v w) := by
  have h := at17 t
  rw [View.read_apply]
  show A _ = A _
  refine congrArg A (funext fun a => Fin.ext ?_)
  match a with
  | ⟨0, _⟩ => show win0_17.index t 0 * 1 + 1 * 0 = t.val / 8; rw [h.1]; all_goals omega
  | ⟨1, _⟩ => show win0_17.index t 1 * 32 + 1 * v.val = v.val; rw [h.2.1]; all_goals omega
  | ⟨2, _⟩ => show win0_17.index t 2 * 3 + 1 * w.val = w.val; rw [h.2.2]; all_goals omega

theorem blk18 (A : Vec Ideal S4x1x3 .f32) (t : Fin cfg0.N) (w : Fin 3) :
    ((cfg0.win 18).blk t).view.read (Elt Ideal) A (ix3 0 0 w) = A (ix3 (ptP t) 0 w) := by
  have h := at18 t
  rw [View.read_apply]
  show A _ = A _
  refine congrArg A (funext fun a => Fin.ext ?_)
  match a with
  | ⟨0, _⟩ => show win0_18.index t 0 * 1 + 1 * 0 = t.val / 8; rw [h.1]; all_goals omega
  | ⟨1, _⟩ => show win0_18.index t 1 * 1 + 1 * 0 = 0; rw [h.2.1]; all_goals omega
  | ⟨2, _⟩ => show win0_18.index t 2 * 3 + 1 * w.val = w.val; rw [h.2.2]; all_goals omega

end Decoder
-- ==== Proof.Whole.lean ====
module

public import proofs.«01_k».proof.Proof.BlockVal
public import proofs.«01_k».proof.Proof.HostRead
public import proofs.«01_k».proof.Proof.Blocks
public import Idealize.ShloMosaic.Lib.Pipeline.Value

@[expose] public section

set_option maxRecDepth 16384

/-! What the result array holds after the call: the reference's result. -/

noncomputable section

namespace Decoder

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (c : Dev nD)

/-- An argument array. -/
abbrev arr (r : Ref sig .tc) : Buf (Elt Ideal) ((c : Thread nD τ).loc r) := m ((c : Thread nD τ).loc r)

/-- The whole result. -/
def G : Buf (Elt Ideal) ((c : Thread nD τ).loc main_v38) :=
  Cert.ReferenceIdeal.Read.val_main_v450 (F := Ideal) (arr m c main_arg0) (arr m c main_arg1) (arr m c main_arg2) (arr m c main_arg3) (arr m c main_arg4) (arr m c main_arg5) (arr m c main_arg6) (arr m c main_arg7) (arr m c main_arg8) (arr m c main_arg9) (arr m c main_arg10) (arr m c main_arg11) (arr m c main_arg12) (arr m c main_arg13) (arr m c main_arg14) (arr m c main_arg15) (arr m c main_arg16) (arr m c main_arg17) (arr m c main_arg18)

/-- The dense head's blocks at a grid point. -/
theorem headArgs (t : Fin cfg0.N) : HeadArgs (arr m c main_arg0) (arr m c main_arg1) (arr m c main_arg2) (arr m c main_arg3) (arr m c main_arg4) (arr m c main_arg5) (arr m c main_arg6) (arr m c main_arg7) (arr m c main_arg8) (iblk m c 0 t) (iblk m c 1 t) (iblk m c 2 t) (iblk m c 3 t) (iblk m c 4 t) (iblk m c 5 t) (iblk m c 6 t) (iblk m c 7 t) (iblk m c 8 t) (ptB t) (ptP t) where
  h0 n q := (blk0 (V m c main_v37) t n q).trans ((congrFun (V37 m c) _).trans (f3_apply _ _ _ n q))
  h1 q k := (blk1 (V m c main_v2) t q k).trans ((congrFun (V2 m c) _).trans (efw_apply _ _ _ _ q k))
  h2 k := (blk2 (V m c main_v35) t k).trans ((congrFun (V35 m c) _).trans (addOne_apply _ _ k))
  h3 k l := (blk3 (V m c main_v34) t k l).trans ((congrFun (V34 m c) _).trans (flip_apply _ _ k l))
  h4 l := (blk4 (V m c main_v36) t l).trans ((congrFun (V36 m c) _).trans (addOne_apply _ _ l))
  h5 l j := (blk5 (V m c main_v32) t l j).trans ((congrFun (V32 m c) _).trans (flip_apply _ _ l _))
  h6 j := (blk6 (V m c main_v33) t j).trans ((congrFun (V33 m c) _).trans (pb_apply _ _ _ j))
  h7 j y := (blk7 (V m c main_v5) t j y).trans ((congrFun (V5 m c) _).trans (riw_apply _ _ _ _ _ j y))
  h8 y := (blk8 (V m c main_v8) t y).trans ((congrFun (V8 m c) _).trans (rib_apply _ _ _ _ _ y))

theorem convArgs1 (t : Fin cfg0.N) : ConvArgs (ptP t) (arr m c main_arg9) (arr m c main_arg10) (iblk m c 9 t) (iblk m c 10 t) where
  taps a b dn dr k o := (blk9 (V m c main_v12) t _ k o).trans ((congrFun (V12 m c) _).trans (tapMats_apply _ _ _ _ _ a b dn dr k o))
  bias o := (blk10 (V m c main_v25) t o).trans ((congrFun (V25 m c) _).trans (midOne_apply _ _ _ o))

theorem convArgs2 (t : Fin cfg0.N) : ConvArgs (ptP t) (arr m c main_arg11) (arr m c main_arg12) (iblk m c 11 t) (iblk m c 12 t) where
  taps a b dn dr k o := (blk11 (V m c main_v16) t _ k o).trans ((congrFun (V16 m c) _).trans (tapMats_apply _ _ _ _ _ a b dn dr k o))
  bias o := (blk12 (V m c main_v26) t o).trans ((congrFun (V26 m c) _).trans (midOne_apply _ _ _ o))

theorem convArgs3 (t : Fin cfg0.N) : ConvArgs (ptP t) (arr m c main_arg13) (arr m c main_arg14) (iblk m c 13 t) (iblk m c 14 t) where
  taps a b dn dr k o := (blk13 (V m c main_v20) t _ k o).trans ((congrFun (V20 m c) _).trans (tapMats_apply _ _ _ _ _ a b dn dr k o))
  bias o := (blk14 (V m c main_v27) t o).trans ((congrFun (V27 m c) _).trans (midOne_apply _ _ _ o))

theorem convArgs4 (t : Fin cfg0.N) : ConvArgs (ptP t) (arr m c main_arg15) (arr m c main_arg16) (iblk m c 15 t) (iblk m c 16 t) where
  taps a b dn dr k o := (blk15 (V m c main_v24) t _ k o).trans ((congrFun (V24 m c) _).trans (tapMats_apply _ _ _ _ _ a b dn dr k o))
  bias o := (blk16 (V m c main_v28) t o).trans ((congrFun (V28 m c) _).trans (midOne_apply _ _ _ o))

theorem tailW (t : Fin cfg0.N) (o : Fin 32) (k : Fin 3) :
    iblk m c 17 t (ix3 0 o k) = arr m c main_arg17 (ix5 (ptP t) k o 0 0) :=
  (blk17 (V m c main_v30) t o k).trans ((congrFun (V30 m c) _).trans (rxw_apply _ _ _ _ o k))

theorem tailB (t : Fin cfg0.N) (k : Fin 3) : iblk m c 18 t (ix3 0 0 k) = arr m c main_arg18 (ix2 (ptP t) k) :=
  (blk18 (V m c main_v31) t k).trans ((congrFun (V31 m c) _).trans (midOne_apply _ _ _ k))

/-- What a point leaves in the result's block is the whole result read there. -/
theorem block_at (t : Fin cfg0.N) (y : S8x1024x3.Idx) (i : S64x4096x3.Idx)
    (h0 : (i 0).val = 8 * (t.val % 8) + (y 0).val) (h1 : (i 1).val = t.val / 8 * 1024 + (y 1).val) (h2 : (i 2).val = (y 2).val) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y = G m c i := by
  have hy0 : (y 0).val < 8 := (y 0).isLt
  have hy1 : (y 1).val < 1024 := (y 1).isLt
  have hy2 : (y 2).val < 3 := (y 2).isLt
  have ht : t.val < 32 := by have := t.isLt; have h : cfg0.N = 32 := N_0; omega
  have ey : y = ix3 (⟨(y 0).val, hy0⟩ : Fin 8)
      (⟨(⟨(y 1).val / 32, by omega⟩ : Fin 32).val * 32 + (⟨(y 1).val % 32, by omega⟩ : Fin 32).val, by simp only []; omega⟩ : Fin 1024)
      (⟨(y 2).val, hy2⟩ : Fin 3) := by
    refine funext fun a => Fin.ext ?_
    match a with
    | ⟨0, _⟩ => rfl
    | ⟨1, _⟩ => show (y 1).val = (y 1).val / 32 * 32 + (y 1).val % 32; omega
    | ⟨2, _⟩ => rfl
  refine (congrArg (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) ey).trans ?_
  refine (block_eq (headArgs m c t) (convArgs1 m c t) (convArgs2 m c t) (convArgs3 m c t) (convArgs4 m c t) (tailW m c t) (tailB m c t)
    _ _ _ _).trans ?_
  refine congrArg (G m c) (funext fun a => Fin.ext ?_)
  match a with
  | ⟨0, _⟩ => show 8 * (t.val % 8) + (y 0).val = (i 0).val; omega
  | ⟨1, _⟩ => show t.val / 8 * 1024 + ((y 1).val / 32 * 32 + (y 1).val % 32) = (i 1).val; omega
  | ⟨2, _⟩ => show (y 2).val = (i 2).val; omega

theorem flushed_eq (t : Fin cfg0.N) : (dats m 0 c).flushed 19 t = ((cfg0.win 19).blk t).view.read (Elt Ideal) (G m c) := by
  show (cfg0.win 19).cut (grid0.coords t) ((dats m 0 c).after 19 t) = _
  rw [after0_19]
  have h := at19 t
  funext y
  rw [View.read_apply]
  refine block_at m c t y _ ?_ ?_ ?_
  · show win0_19.index t 0 * 8 + 1 * (y 0).val = _
    rw [h.1]; omega
  · show win0_19.index t 1 * 1024 + 1 * (y 1).val = _
    rw [h.2.1]; omega
  · show win0_19.index t 2 * 3 + 1 * (y 2).val = _
    rw [h.2.2]; omega

theorem mem_blk (t : Fin cfg0.N) (i : S64x4096x3.Idx) : i ∈ ((cfg0.win 19).blk t).view.set ↔
    ∀ a : Fin 3, win0_19.index t a * S8x1024x3.size a ≤ (i a : ℕ) ∧ (i a : ℕ) < win0_19.index t a * S8x1024x3.size a + S8x1024x3.size a := by
  show i ∈ ((View.whole main_v38).slice (win0_19.rect t)).set ↔ _
  rw [View.set_slice_whole, Rect.mem_set_unit]
  rfl

theorem cover (i : S64x4096x3.Idx) : ∃ t, (cfg0.win 19).flush t = true ∧ i ∈ ((cfg0.win 19).blk t).view.set := by
  have i0 : (i 0).val < 64 := (i 0).isLt
  have i1 : (i 1).val < 4096 := (i 1).isLt
  have i2 : (i 2).val < 3 := (i 2).isLt
  have hlt : (i 1).val / 1024 * 8 + (i 0).val / 8 < cfg0.N := by have h : cfg0.N = 32 := N_0; rw [h]; omega
  refine ⟨⟨(i 1).val / 1024 * 8 + (i 0).val / 8, hlt⟩, flush0_19 _, ?_⟩
  rw [mem_blk]
  have h := at19 ⟨(i 1).val / 1024 * 8 + (i 0).val / 8, hlt⟩
  intro a
  match a with
  | ⟨0, _⟩ =>
    show win0_19.index _ 0 * 8 ≤ (i 0).val ∧ (i 0).val < win0_19.index _ 0 * 8 + 8
    rw [h.1]; simp only []; omega
  | ⟨1, _⟩ =>
    show win0_19.index _ 1 * 1024 ≤ (i 1).val ∧ (i 1).val < win0_19.index _ 1 * 1024 + 1024
    rw [h.2.1]; simp only []; omega
  | ⟨2, _⟩ =>
    show win0_19.index _ 2 * 3 ≤ (i 2).val ∧ (i 2).val < win0_19.index _ 2 * 3 + 3
    rw [h.2.2]; omega

/-- The result array ends at the reference's result. -/
theorem final : (dats m 0 c).arrAt 19 cfg0.N = G m c :=
  (dats m 0 c).arrAt_eq_of_cover 19 (G m c) (fun t _ => flushed_eq m c t) cover

omit c in
/-- The kernel's run ends with the result array at `G` and every argument kept. -/
theorem runKernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 19).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c)⟩)
    (run_main m ρ)

end Decoder
-- ==== Proof.ELayer.lean ====
module

public import Idealize.ShloMosaic.Lib.MatmulPlain
public import Idealize.ShloMosaic.Lib.ValueIdx
public import Idealize.ShloMosaic.Lib.ValueIdxRank6
public import Idealize.ShloMosaic.Lib.Pipeline.Value

@[expose] public section

/-! The encoder kernel's strided convolution layer as operations on arrays of any sizes, and its values by index. The
rows are the two leading space axes; the third space axis and the channels lie together in the columns. -/

noncomputable section

namespace Encoder

open Idealize.ShloMosaic Idealize.ShloMosaic.ValueIdx

section Cat
variable {α : Type} {a b c n0 n1 n2 : ℕ}

theorem cat3_0_left (x : (⟨3, ![a, n1, n2]⟩ : Shape).Idx → α) (y : (⟨3, ![b, n1, n2]⟩ : Shape).Idx → α)
    (h : Shape.Concatenates [⟨3, ![a, n1, n2]⟩, ⟨3, ![b, n1, n2]⟩] ⟨3, ![c, n1, n2]⟩ 0)
    (t : Fin c) (j : Fin n1) (k : Fin n2) (t' : Fin a) (ht : t'.val = t.val) :
    concatenate ⟨3, ![c, n1, n2]⟩ 0 [⟨_, x⟩, ⟨_, y⟩] h (ix3 t j k) = x (ix3 t' j k) := by
  refine concatenate_pair_apply_left (t := ⟨3, ![c, n1, n2]⟩) (s₁ := ⟨3, ![a, n1, n2]⟩)
    (s₂ := ⟨3, ![b, n1, n2]⟩) 0 x y h (ix3 t j k) rfl (ix3 t' j k) ?_
  intro d
  match d with
  | ⟨0, _⟩ => exact ht
  | ⟨1, _⟩ => rfl
  | ⟨2, _⟩ => rfl

theorem cat3_0_right (x : (⟨3, ![a, n1, n2]⟩ : Shape).Idx → α) (y : (⟨3, ![b, n1, n2]⟩ : Shape).Idx → α)
    (h : Shape.Concatenates [⟨3, ![a, n1, n2]⟩, ⟨3, ![b, n1, n2]⟩] ⟨3, ![c, n1, n2]⟩ 0)
    (t : Fin c) (j : Fin n1) (k : Fin n2) (t' : Fin b) (ht : t'.val + a = t.val) :
    concatenate ⟨3, ![c, n1, n2]⟩ 0 [⟨_, x⟩, ⟨_, y⟩] h (ix3 t j k) = y (ix3 t' j k) := by
  refine concatenate_pair_apply_right (t := ⟨3, ![c, n1, n2]⟩) (s₁ := ⟨3, ![a, n1, n2]⟩)
    (s₂ := ⟨3, ![b, n1, n2]⟩) 0 x y h (ix3 t j k) rfl rfl (ix3 t' j k) ?_ ht
  intro d hd
  match d, hd with
  | ⟨0, _⟩, hd => exact absurd rfl hd
  | ⟨1, _⟩, _ => rfl
  | ⟨2, _⟩, _ => rfl

theorem cat3_1_left (x : (⟨3, ![n0, a, n2]⟩ : Shape).Idx → α) (y : (⟨3, ![n0, b, n2]⟩ : Shape).Idx → α)
    (h : Shape.Concatenates [⟨3, ![n0, a, n2]⟩, ⟨3, ![n0, b, n2]⟩] ⟨3, ![n0, c, n2]⟩ 1)
    (i : Fin n0) (t : Fin c) (k : Fin n2) (t' : Fin a) (ht : t'.val = t.val) :
    concatenate ⟨3, ![n0, c, n2]⟩ 1 [⟨_, x⟩, ⟨_, y⟩] h (ix3 i t k) = x (ix3 i t' k) := by
  refine concatenate_pair_apply_left (t := ⟨3, ![n0, c, n2]⟩) (s₁ := ⟨3, ![n0, a, n2]⟩)
    (s₂ := ⟨3, ![n0, b, n2]⟩) 1 x y h (ix3 i t k) rfl (ix3 i t' k) ?_
  intro d
  match d with
  | ⟨0, _⟩ => rfl
  | ⟨1, _⟩ => exact ht
  | ⟨2, _⟩ => rfl

theorem cat3_1_right (x : (⟨3, ![n0, a, n2]⟩ : Shape).Idx → α) (y : (⟨3, ![n0, b, n2]⟩ : Shape).Idx → α)
    (h : Shape.Concatenates [⟨3, ![n0, a, n2]⟩, ⟨3, ![n0, b, n2]⟩] ⟨3, ![n0, c, n2]⟩ 1)
    (i : Fin n0) (t : Fin c) (k : Fin n2) (t' : Fin b) (ht : t'.val + a = t.val) :
    concatenate ⟨3, ![n0, c, n2]⟩ 1 [⟨_, x⟩, ⟨_, y⟩] h (ix3 i t k) = y (ix3 i t' k) := by
  refine concatenate_pair_apply_right (t := ⟨3, ![n0, c, n2]⟩) (s₁ := ⟨3, ![n0, a, n2]⟩)
    (s₂ := ⟨3, ![n0, b, n2]⟩) 1 x y h (ix3 i t k) rfl rfl (ix3 i t' k) ?_ ht
  intro d hd
  match d, hd with
  | ⟨0, _⟩, _ => rfl
  | ⟨1, _⟩, hd => exact absurd rfl hd
  | ⟨2, _⟩, _ => rfl

end Cat

/-- An array of rank three read at two natural numbers, zero outside. -/
def rd3 {n0 n1 n2 : ℕ} (X : FVec Ideal ⟨3, ![n0, n1, n2]⟩ .f32) (s t : ℕ) (l : Fin n2) : EReal :=
  if h : s < n0 ∧ t < n1 then X (ix3 ⟨s, h.1⟩ ⟨t, h.2⟩ l) else 0

/-- An array of rank three read inside a border of zeros of width one on its leading axes. -/
def zb3 {n0 n1 n2 : ℕ} (Y : FVec Ideal ⟨3, ![n0, n1, n2]⟩ .f32) (s t : ℕ) (l : Fin n2) : EReal :=
  if h : (1 ≤ s ∧ s ≤ n0) ∧ (1 ≤ t ∧ t ≤ n1) then Y (ix3 ⟨s - 1, by omega⟩ ⟨t - 1, by omega⟩ l) else 0

/-- The shape facts of one layer: `D` by `D` rows with `D = 2 d`, bordered to `Q = D + 2`, to `d` by `d` rows, `M` in all. -/
structure EFacts (d D Q L N M : ℕ) : Prop where
  hD : D = 2 * d
  hQ : Q = D + 2
  hM : M = d * d
  hs : ∀ dz : Fin 3, (⟨3, ![Q, Q, L]⟩ : Shape).Slices ![dz.val, 0, 0] ⟨3, ![D, Q, L]⟩
  h1 : (⟨3, ![D, Q, L]⟩ : Shape).ShapeCasts ⟨4, ![d, 2, Q, L]⟩
  s1 : (⟨4, ![d, 2, Q, L]⟩ : Shape).Slices ![0, 0, 0, 0] ⟨4, ![d, 1, Q, L]⟩
  h2 : (⟨4, ![d, 1, Q, L]⟩ : Shape).ShapeCasts ⟨3, ![d, Q, L]⟩
  ht : ∀ dy : Fin 3, (⟨3, ![d, Q, L]⟩ : Shape).Slices ![0, dy.val, 0] ⟨3, ![d, D, L]⟩
  h3 : (⟨3, ![d, D, L]⟩ : Shape).ShapeCasts ⟨4, ![d, d, 2, L]⟩
  s2 : (⟨4, ![d, d, 2, L]⟩ : Shape).Slices ![0, 0, 0, 0] ⟨4, ![d, d, 1, L]⟩
  h4 : (⟨4, ![d, d, 1, L]⟩ : Shape).ShapeCasts ⟨3, ![d, d, L]⟩
  h5 : (⟨3, ![d, d, L]⟩ : Shape).ShapeCasts ⟨2, ![M, L]⟩
  hw : (⟨3, ![1, L, N]⟩ : Shape).ShapeCasts ⟨2, ![L, N]⟩
  hb0 : (⟨2, ![1, N]⟩ : Shape).ShapeCasts ⟨1, ![N]⟩
  hb1 : (⟨1, ![N]⟩ : Shape).ShapeCasts ⟨2, ![1, N]⟩
  hb2 : (⟨2, ![1, N]⟩ : Shape).Broadcasts ⟨2, ![M, N]⟩
  ho : (⟨2, ![M, N]⟩ : Shape).ShapeCasts ⟨3, ![d, d, N]⟩

/-- The shape facts of the border. -/
structure EPad (d d1 Q N : ℕ) : Prop where
  hd1 : d1 = d + 1
  hQ : Q = d + 2
  p1 : Shape.Concatenates [⟨3, ![1, d, N]⟩, ⟨3, ![d, d, N]⟩] ⟨3, ![d1, d, N]⟩ 0
  p2 : Shape.Concatenates [⟨3, ![d1, d, N]⟩, ⟨3, ![1, d, N]⟩] ⟨3, ![Q, d, N]⟩ 0
  p3 : Shape.Concatenates [⟨3, ![Q, 1, N]⟩, ⟨3, ![Q, d, N]⟩] ⟨3, ![Q, d1, N]⟩ 1
  p4 : Shape.Concatenates [⟨3, ![Q, d1, N]⟩, ⟨3, ![Q, 1, N]⟩] ⟨3, ![Q, Q, N]⟩ 1

section
variable {d D Q L N M d1 : ℕ}

/-- The rows one tap reads: every second row of the bordered input from a shift on, on both row axes. -/
def eRows (f : EFacts d D Q L N M) (XP : FVec Ideal ⟨3, ![Q, Q, L]⟩ .f32) (dz dy : Fin 3) : FVec Ideal ⟨2, ![M, L]⟩ .f32 :=
  shapeCast ⟨2, ![M, L]⟩ (shapeCast ⟨3, ![d, d, L]⟩ (extractStridedSlice ⟨4, ![d, d, 1, L]⟩ ![0, 0, 0, 0]
    (shapeCast ⟨4, ![d, d, 2, L]⟩ (extractStridedSlice ⟨3, ![d, D, L]⟩ ![0, dy.val, 0]
      (shapeCast ⟨3, ![d, Q, L]⟩ (extractStridedSlice ⟨4, ![d, 1, Q, L]⟩ ![0, 0, 0, 0]
        (shapeCast ⟨4, ![d, 2, Q, L]⟩ (extractStridedSlice ⟨3, ![D, Q, L]⟩ ![dz.val, 0, 0] XP (f.hs dz)) f.h1) f.s1) f.h2)
      (f.ht dy)) f.h3) f.s2) f.h4) f.h5

/-- One tap: its rows times its weight matrix. -/
def eTap (f : EFacts d D Q L N M) (XP : FVec Ideal ⟨3, ![Q, Q, L]⟩ .f32) (w : Fin 9 → FVec Ideal ⟨3, ![1, L, N]⟩ .f32)
    (dz dy : Fin 3) : FVec Ideal ⟨2, ![M, N]⟩ .f32 :=
  FloatOps.matmul (DotDims.plain M L N) none (eRows f XP dz dy)
    (shapeCast ⟨2, ![L, N]⟩ (w ⟨3 * dz.val + dy.val, by omega⟩) f.hw) (constant ⟨2, ![M, N]⟩ .f32 0x00000000#32)

/-- One convolution layer with bias and positive part. -/
def eLayer (f : EFacts d D Q L N M) (XP : FVec Ideal ⟨3, ![Q, Q, L]⟩ .f32) (w : Fin 9 → FVec Ideal ⟨3, ![1, L, N]⟩ .f32)
    (b : FVec Ideal ⟨2, ![1, N]⟩ .f32) : FVec Ideal ⟨3, ![d, d, N]⟩ .f32 :=
  shapeCast ⟨3, ![d, d, N]⟩ (maximumf (addf
    (addf (addf (addf (addf (addf (addf (addf (addf (addf (broadcast ⟨2, ![M, N]⟩ (Scalar.ofBits .f32 0x00000000#32))
      (eTap f XP w 0 0)) (eTap f XP w 0 1)) (eTap f XP w 0 2)) (eTap f XP w 1 0)) (eTap f XP w 1 1)) (eTap f XP w 1 2))
      (eTap f XP w 2 0)) (eTap f XP w 2 1)) (eTap f XP w 2 2))
    (broadcastTo ⟨2, ![M, N]⟩ (shapeCast ⟨2, ![1, N]⟩ (shapeCast ⟨1, ![N]⟩ b f.hb0) f.hb1) f.hb2))
    (broadcast ⟨2, ![M, N]⟩ (Scalar.ofBits .f32 0x00000000#32))) f.ho

/-- A border of zeros of width one around the rows. -/
def ePad (g : EPad d d1 Q N) (Y : FVec Ideal ⟨3, ![d, d, N]⟩ .f32) : FVec Ideal ⟨3, ![Q, Q, N]⟩ .f32 :=
  concatenate ⟨3, ![Q, Q, N]⟩ 1
    [⟨⟨3, ![Q, d1, N]⟩, concatenate ⟨3, ![Q, d1, N]⟩ 1
      [⟨⟨3, ![Q, 1, N]⟩, broadcast ⟨3, ![Q, 1, N]⟩ (Scalar.sitofp .f32 0#32)⟩,
       ⟨⟨3, ![Q, d, N]⟩, concatenate ⟨3, ![Q, d, N]⟩ 0
        [⟨⟨3, ![d1, d, N]⟩, concatenate ⟨3, ![d1, d, N]⟩ 0
          [⟨⟨3, ![1, d, N]⟩, broadcast ⟨3, ![1, d, N]⟩ (Scalar.sitofp .f32 0#32)⟩,
           ⟨⟨3, ![d, d, N]⟩, Y⟩] g.p1⟩,
         ⟨⟨3, ![1, d, N]⟩, broadcast ⟨3, ![1, d, N]⟩ (Scalar.sitofp .f32 0#32)⟩] g.p2⟩] g.p3⟩,
     ⟨⟨3, ![Q, 1, N]⟩, broadcast ⟨3, ![Q, 1, N]⟩ (Scalar.sitofp .f32 0#32)⟩] g.p4

theorem zero_word : (Scalar.sitofp .f32 0#32 : Ideal .f32) = 0 := by
  show ((((0#32 : BitVec 32).toInt : ℝ)) : EReal) = 0
  simp

theorem eRows_apply (f : EFacts d D Q L N M) (XP : FVec Ideal ⟨3, ![Q, Q, L]⟩ .f32) (dz dy : Fin 3) (Z Y : Fin d) (m : Fin M)
    (k : Fin L) (hm : m.val = Z.val * d + Y.val) :
    eRows f XP dz dy (ix2 m k) = rd3 XP (2 * Z.val + dz.val) (2 * Y.val + dy.val) k := by
  have hQ := f.hQ
  have hD := f.hD
  have hZ := Z.isLt
  have hY := Y.isLt
  have hz := dz.isLt
  have hy := dy.isLt
  unfold eRows rd3
  rw [dif_pos ⟨by omega, by omega⟩]
  rw [shapeCast_apply _ _ (ix2 m k) (ix3 Z Y k) (by
    rw [Shape.rowMajor_val_three, Shape.rowMajor_val_two]
    show (Z.val * d + Y.val) * L + k.val = m.val * L + k.val
    rw [hm])]
  rw [shapeCast_apply _ _ (ix3 Z Y k) (ix4 Z Y 0 k) (by
    rw [Shape.rowMajor_val_three, Shape.rowMajor_val_four]
    show ((Z.val * d + Y.val) * 1 + 0) * L + k.val = (Z.val * d + Y.val) * L + k.val
    simp)]
  rw [extractStridedSlice_apply _ _ _ (ix4 Z Y 0 k) (ix4 Z Y 0 k) (fun a => by
    match a with
    | ⟨0, _⟩ => exact (Nat.zero_add _).symm
    | ⟨1, _⟩ => exact (Nat.zero_add _).symm
    | ⟨2, _⟩ => rfl
    | ⟨3, _⟩ => exact (Nat.zero_add _).symm)]
  rw [shapeCast_apply _ _ (ix4 Z Y 0 k) (ix3 Z (⟨2 * Y.val, by omega⟩ : Fin D) k) (by
    rw [Shape.rowMajor_val_three, Shape.rowMajor_val_four]
    show (Z.val * D + 2 * Y.val) * L + k.val = ((Z.val * d + Y.val) * 2 + 0) * L + k.val
    have e : Z.val * D + 2 * Y.val = (Z.val * d + Y.val) * 2 + 0 := by rw [hD]; ring
    rw [e])]
  rw [extractStridedSlice_apply _ _ _ (ix3 Z (⟨2 * Y.val, by omega⟩ : Fin D) k) (ix3 Z (⟨2 * Y.val + dy.val, by omega⟩ : Fin Q) k) (fun a => by
    match a with
    | ⟨0, _⟩ => exact (Nat.zero_add _).symm
    | ⟨1, _⟩ => exact Nat.add_comm _ _
    | ⟨2, _⟩ => exact (Nat.zero_add _).symm)]
  rw [shapeCast_apply _ _ (ix3 Z (⟨2 * Y.val + dy.val, by omega⟩ : Fin Q) k) (ix4 Z 0 (⟨2 * Y.val + dy.val, by omega⟩ : Fin Q) k) (by
    rw [Shape.rowMajor_val_three, Shape.rowMajor_val_four]
    show ((Z.val * 1 + 0) * Q + (2 * Y.val + dy.val)) * L + k.val = (Z.val * Q + (2 * Y.val + dy.val)) * L + k.val
    rw [Nat.mul_one, Nat.add_zero])]
  rw [extractStridedSlice_apply _ _ _ (ix4 Z 0 (⟨2 * Y.val + dy.val, by omega⟩ : Fin Q) k) (ix4 Z 0 (⟨2 * Y.val + dy.val, by omega⟩ : Fin Q) k) (fun a => by
    match a with
    | ⟨0, _⟩ => exact (Nat.zero_add _).symm
    | ⟨1, _⟩ => rfl
    | ⟨2, _⟩ => exact (Nat.zero_add _).symm
    | ⟨3, _⟩ => exact (Nat.zero_add _).symm)]
  rw [shapeCast_apply _ _ (ix4 Z 0 (⟨2 * Y.val + dy.val, by omega⟩ : Fin Q) k) (ix3 (⟨2 * Z.val, by omega⟩ : Fin D) (⟨2 * Y.val + dy.val, by omega⟩ : Fin Q) k) (by
    rw [Shape.rowMajor_val_three, Shape.rowMajor_val_four]
    show (2 * Z.val * Q + (2 * Y.val + dy.val)) * L + k.val = ((Z.val * 2 + 0) * Q + (2 * Y.val + dy.val)) * L + k.val
    have e : 2 * Z.val = Z.val * 2 + 0 := by omega
    rw [e])]
  exact extractStridedSlice_apply _ _ _ (ix3 (⟨2 * Z.val, by omega⟩ : Fin D) (⟨2 * Y.val + dy.val, by omega⟩ : Fin Q) k) _ (fun a => by
    match a with
    | ⟨0, _⟩ => exact Nat.add_comm _ _
    | ⟨1, _⟩ => exact (Nat.zero_add _).symm
    | ⟨2, _⟩ => exact (Nat.zero_add _).symm)

/-- The sum one tap contributes at an output. -/
def eTapSum (x : ℕ → ℕ → Fin L → EReal) (w : Fin 9 → FVec Ideal ⟨3, ![1, L, N]⟩ .f32) (Z Y : ℕ) (o : Fin N)
    (dz dy : Fin 3) : EReal :=
  ∑ k : Fin L, x (2 * Z + dz.val) (2 * Y + dy.val) k * w ⟨3 * dz.val + dy.val, by omega⟩ (ix3 0 k o)

theorem eTap_apply (f : EFacts d D Q L N M) (XP : FVec Ideal ⟨3, ![Q, Q, L]⟩ .f32) (w : Fin 9 → FVec Ideal ⟨3, ![1, L, N]⟩ .f32)
    (dz dy : Fin 3) (Z Y : Fin d) (m : Fin M) (o : Fin N) (hm : m.val = Z.val * d + Y.val) :
    eTap f XP w dz dy (ix2 m o) = eTapSum (rd3 XP) w Z.val Y.val o dz dy := by
  unfold eTap eTapSum
  rw [Ideal.matmul_plain_apply]
  have h0 : (constant ⟨2, ![M, N]⟩ .f32 0x00000000#32 : FVec Ideal _ .f32) (ix2 m o) = 0 := Ideal.ofBits_zero_f32
  rw [h0, zero_add]
  refine Finset.sum_congr rfl fun k _ => ?_
  congr 1
  · exact eRows_apply f XP dz dy Z Y m k hm
  · exact shapeCast_apply _ _ (ix2 k o) (ix3 0 k o) (by
      rw [Shape.rowMajor_val_three, Shape.rowMajor_val_two]
      show (0 * L + k.val) * N + o.val = k.val * N + o.val
      simp)

theorem eLayer_apply (f : EFacts d D Q L N M) (XP : FVec Ideal ⟨3, ![Q, Q, L]⟩ .f32) (w : Fin 9 → FVec Ideal ⟨3, ![1, L, N]⟩ .f32)
    (b : FVec Ideal ⟨2, ![1, N]⟩ .f32) (Z Y : Fin d) (o : Fin N) :
    eLayer f XP w b (ix3 Z Y o)
      = max ((∑ dz : Fin 3, ∑ dy : Fin 3, eTapSum (rd3 XP) w Z.val Y.val o dz dy) + b (ix2 0 o)) 0 := by
  have hlt : Z.val * d + Y.val < M := by
    have hZ := Z.isLt
    have hY := Y.isLt
    rw [f.hM]
    calc Z.val * d + Y.val < Z.val * d + d := by omega
      _ = (Z.val + 1) * d := by ring
      _ ≤ d * d := Nat.mul_le_mul_right d hZ
  have hb : broadcastTo ⟨2, ![M, N]⟩ (shapeCast ⟨2, ![1, N]⟩ (shapeCast ⟨1, ![N]⟩ b f.hb0) f.hb1) f.hb2
      (ix2 ⟨Z.val * d + Y.val, hlt⟩ o) = b (ix2 0 o) := by
    rw [broadcastTo_apply _ f.hb2 (ix2 ⟨Z.val * d + Y.val, hlt⟩ o) (ix2 0 o) (fun a => by
      match a with
      | ⟨0, _⟩ => rfl
      | ⟨1, _⟩ => show o.val = if N = 1 then 0 else o.val; have := o.isLt; split <;> omega)]
    rw [shapeCast_apply _ f.hb1 (ix2 0 o) (ix1 o) (by
      rw [Shape.rowMajor_val_one, Shape.rowMajor_val_two]
      show o.val = 0 * N + o.val
      simp)]
    exact shapeCast_apply _ f.hb0 (ix1 o) (ix2 0 o) (by
      rw [Shape.rowMajor_val_one, Shape.rowMajor_val_two]
      show 0 * N + o.val = o.val
      simp)
  unfold eLayer
  rw [shapeCast_apply _ f.ho (ix3 Z Y o) (ix2 ⟨Z.val * d + Y.val, hlt⟩ o) (by
    rw [Shape.rowMajor_val_three, Shape.rowMajor_val_two]
    rfl)]
  have hz : (broadcast ⟨2, ![M, N]⟩ (Scalar.ofBits .f32 0x00000000#32) : FVec Ideal _ .f32) (ix2 ⟨Z.val * d + Y.val, hlt⟩ o) = 0 :=
    Ideal.ofBits_zero_f32
  simp only [Fin.sum_univ_three]
  simp only [← eTap_apply f XP w _ _ Z Y ⟨Z.val * d + Y.val, hlt⟩ o rfl]
  rw [← hb]
  show max ((broadcast ⟨2, ![M, N]⟩ (Scalar.ofBits .f32 0x00000000#32) : FVec Ideal _ .f32) (ix2 ⟨Z.val * d + Y.val, hlt⟩ o)
    + _ + _ + _ + _ + _ + _ + _ + _ + _ + _)
    ((broadcast ⟨2, ![M, N]⟩ (Scalar.ofBits .f32 0x00000000#32) : FVec Ideal _ .f32) (ix2 ⟨Z.val * d + Y.val, hlt⟩ o)) = _
  rw [hz, zero_add]
  simp only [add_assoc]

theorem ePad_apply (g : EPad d d1 Q N) (Y : FVec Ideal ⟨3, ![d, d, N]⟩ .f32) (s t : ℕ) (l : Fin N) :
    rd3 (ePad g Y) s t l = zb3 Y s t l := by
  have hQ := g.hQ
  have h1 := g.hd1
  unfold rd3 zb3
  by_cases hst : s < Q ∧ t < Q
  swap
  · rw [dif_neg hst, dif_neg (by omega)]
  rw [dif_pos hst]
  obtain ⟨hs, ht⟩ := hst
  unfold ePad
  by_cases e1 : t = d + 1
  · rw [cat3_1_right _ _ g.p4 ⟨s, hs⟩ ⟨t, ht⟩ l 0 (by show 0 + d1 = t; omega), dif_neg (by omega)]
    exact zero_word
  rw [cat3_1_left _ _ g.p4 ⟨s, hs⟩ ⟨t, ht⟩ l ⟨t, by omega⟩ rfl]
  by_cases e2 : t = 0
  · rw [cat3_1_left _ _ g.p3 ⟨s, hs⟩ ⟨t, by omega⟩ l 0 (by show 0 = t; omega), dif_neg (by omega)]
    exact zero_word
  rw [cat3_1_right _ _ g.p3 ⟨s, hs⟩ ⟨t, by omega⟩ l ⟨t - 1, by omega⟩ (by show t - 1 + 1 = t; omega)]
  by_cases e3 : s = d + 1
  · rw [cat3_0_right _ _ g.p2 ⟨s, hs⟩ ⟨t - 1, by omega⟩ l 0 (by show 0 + d1 = s; omega), dif_neg (by omega)]
    exact zero_word
  rw [cat3_0_left _ _ g.p2 ⟨s, hs⟩ ⟨t - 1, by omega⟩ l ⟨s, by omega⟩ rfl]
  by_cases e4 : s = 0
  · rw [cat3_0_left _ _ g.p1 ⟨s, by omega⟩ ⟨t - 1, by omega⟩ l 0 (by show 0 = s; omega), dif_neg (by omega)]
    exact zero_word
  rw [cat3_0_right _ _ g.p1 ⟨s, by omega⟩ ⟨t - 1, by omega⟩ l ⟨s - 1, by omega⟩ (by show s - 1 + 1 = s; omega), dif_pos (by omega)]

end

end Encoder
-- ==== Proof.EConv.lean ====
module

public import Idealize.ShloMosaic.Lib.ValueIdx
public import Idealize.ShloMosaic.Lib.KernelVsHost
public import Idealize.ShloMosaic.Lib.Pipeline.Value
public import Idealize.ShloMosaic.Lib.ValueIdxRank6
public import Idealize.ShloMosaic.PureOps.Ideal.Laws

@[expose] public section

/-! The reference's strided convolution layer as operations on arrays of any sizes, and its values by index. -/

noncomputable section

namespace Encoder

open Idealize.ShloMosaic Idealize.ShloMosaic.ValueIdx

/-- An index of rank seven by its coordinates. -/
abbrev at7 {n0 n1 n2 n3 n4 n5 n6 : ℕ} (a : Fin n0) (b : Fin n1) (c : Fin n2) (d : Fin n3) (e : Fin n4) (f : Fin n5) (g : Fin n6) :
    (⟨7, ![n0, n1, n2, n3, n4, n5, n6]⟩ : Shape).Idx := fun k => match k with
  | ⟨0, _⟩ => a
  | ⟨1, _⟩ => b
  | ⟨2, _⟩ => c
  | ⟨3, _⟩ => d
  | ⟨4, _⟩ => e
  | ⟨5, _⟩ => f
  | ⟨6, _⟩ => g

/-- An index of rank eight by its coordinates. -/
abbrev at8 {n0 n1 n2 n3 n4 n5 n6 n7 : ℕ} (a : Fin n0) (b : Fin n1) (c : Fin n2) (d : Fin n3) (e : Fin n4) (f : Fin n5)
    (g : Fin n6) (h : Fin n7) : (⟨8, ![n0, n1, n2, n3, n4, n5, n6, n7]⟩ : Shape).Idx := fun k => match k with
  | ⟨0, _⟩ => a
  | ⟨1, _⟩ => b
  | ⟨2, _⟩ => c
  | ⟨3, _⟩ => d
  | ⟨4, _⟩ => e
  | ⟨5, _⟩ => f
  | ⟨6, _⟩ => g
  | ⟨7, _⟩ => h

/-- The rank-zero shape of a scalar. -/
abbrev S0 : Shape := ⟨0, ![]⟩

/-- An image of three space axes read inside a border of zeros of width one. -/
def zc {B C n0 n1 n2 : ℕ} (X : FVec Ideal ⟨5, ![B, C, n0, n1, n2]⟩ .f32) (b : Fin B) (c : Fin C) (s t u : ℕ) : EReal :=
  if h : (1 ≤ s ∧ s ≤ n0) ∧ (1 ≤ t ∧ t ≤ n1) ∧ (1 ≤ u ∧ u ≤ n2) then
    X (ix5 b c ⟨s - 1, by omega⟩ ⟨t - 1, by omega⟩ ⟨u - 1, by omega⟩) else 0

/-- The shape facts of one layer: `B` images, `C` channels of `D` cubed points with `D = 2 d`, bordered to `P = D + 2`,
    to `O` channels of `d` cubed points. -/
structure CFacts (B C O D d P : ℕ) : Prop where
  hD : D = 2 * d
  hP : P = D + 2
  hp : (⟨5, ![B, C, D, D, D]⟩ : Shape).Pads ![0, 0, 1, 1, 1] ![0, 0, 1, 1, 1] ![0, 0, 0, 0, 0] ⟨5, ![B, C, P, P, P]⟩
  h0 : 0 < S0.numel
  s1 : ∀ k : Fin 3, (⟨5, ![B, C, P, P, P]⟩ : Shape).SlicesBy ![0, 0, 0, 0, k.val] ![1, 1, 1, 1, 2] ⟨5, ![B, C, P, P, d]⟩
  b1 : (⟨5, ![B, C, P, P, d]⟩ : Shape).BroadcastsInDim ⟨6, ![B, C, P, P, 1, d]⟩ ![0, 1, 2, 3, 5]
  c1 : Shape.Concatenates [⟨6, ![B, C, P, P, 1, d]⟩, ⟨6, ![B, C, P, P, 1, d]⟩, ⟨6, ![B, C, P, P, 1, d]⟩] ⟨6, ![B, C, P, P, 3, d]⟩ 4
  s2 : ∀ k : Fin 3, (⟨6, ![B, C, P, P, 3, d]⟩ : Shape).SlicesBy ![0, 0, 0, k.val, 0, 0] ![1, 1, 1, 2, 1, 1] ⟨6, ![B, C, P, d, 3, d]⟩
  b2 : (⟨6, ![B, C, P, d, 3, d]⟩ : Shape).BroadcastsInDim ⟨7, ![B, C, P, 1, d, 3, d]⟩ ![0, 1, 2, 4, 5, 6]
  c2 : Shape.Concatenates [⟨7, ![B, C, P, 1, d, 3, d]⟩, ⟨7, ![B, C, P, 1, d, 3, d]⟩, ⟨7, ![B, C, P, 1, d, 3, d]⟩] ⟨7, ![B, C, P, 3, d, 3, d]⟩ 3
  s3 : ∀ k : Fin 3, (⟨7, ![B, C, P, 3, d, 3, d]⟩ : Shape).SlicesBy ![0, 0, k.val, 0, 0, 0, 0] ![1, 1, 2, 1, 1, 1, 1] ⟨7, ![B, C, d, 3, d, 3, d]⟩
  b3 : (⟨7, ![B, C, d, 3, d, 3, d]⟩ : Shape).BroadcastsInDim ⟨8, ![B, C, 1, d, 3, d, 3, d]⟩ ![0, 1, 3, 4, 5, 6, 7]
  c3 : Shape.Concatenates [⟨8, ![B, C, 1, d, 3, d, 3, d]⟩, ⟨8, ![B, C, 1, d, 3, d, 3, d]⟩, ⟨8, ![B, C, 1, d, 3, d, 3, d]⟩] ⟨8, ![B, C, 3, d, 3, d, 3, d]⟩ 2
  wf : DotDims.WF ⟨5, ![O, C, 3, 3, 3]⟩ ⟨8, ![B, C, 3, d, 3, d, 3, d]⟩ ⟨5, ![O, B, d, d, d]⟩ [1, 2, 3, 4] [1, 2, 4, 6] [0] [0, 3, 5, 7] [] []
  ht : (⟨5, ![O, B, d, d, d]⟩ : Shape).Transposes [1, 0, 2, 3, 4] ⟨5, ![B, O, d, d, d]⟩
  hz : S0.BroadcastsInDim ⟨5, ![B, O, d, d, d]⟩ ![]
  hb1 : (⟨1, ![O]⟩ : Shape).BroadcastsInDim ⟨5, ![1, O, 1, 1, 1]⟩ ![1]
  hb2 : (⟨5, ![1, O, 1, 1, 1]⟩ : Shape).BroadcastsInDim ⟨5, ![B, O, d, d, d]⟩ ![0, 1, 2, 3, 4]

section
variable {B C O D d P : ℕ}

/-- The contraction over the channels and the three tap axes. -/
def cDot (f : CFacts B C O D d P) :
    DotDims ⟨5, ![O, C, 3, 3, 3]⟩ ⟨8, ![B, C, 3, d, 3, d, 3, d]⟩ ⟨5, ![O, B, d, d, d]⟩ where
  lhsContracting := [1, 2, 3, 4]
  rhsContracting := [1, 2, 4, 6]
  lhsNonContracting := [0]
  rhsNonContracting := [0, 3, 5, 7]
  lhsBatch := []
  rhsBatch := []
  wf := f.wf

/-- The scalar zero. -/
def cZero : FVec Ideal S0 .f32 := constant S0 .f32 0x00000000#32

/-- The border's scalar, a converted word. -/
def cEdge : FVec Ideal S0 .f32 := sitofp .f32 (constantI S0 32 0#32)

/-- The bordered image. -/
def cPad (f : CFacts B C O D d P) (X : FVec Ideal ⟨5, ![B, C, D, D, D]⟩ .f32) : FVec Ideal ⟨5, ![B, C, P, P, P]⟩ .f32 :=
  pad ⟨5, ![B, C, P, P, P]⟩ ![0, 0, 1, 1, 1] ![0, 0, 1, 1, 1] ![0, 0, 0, 0, 0] X cEdge f.hp f.h0

/-- The three shifts on the last axis, stacked. -/
def cStk1 (f : CFacts B C O D d P) (X : FVec Ideal ⟨5, ![B, C, P, P, P]⟩ .f32) : FVec Ideal ⟨6, ![B, C, P, P, 3, d]⟩ .f32 :=
  concatenate ⟨6, ![B, C, P, P, 3, d]⟩ 4 (List.ofFn fun k : Fin 3 =>
    (⟨⟨6, ![B, C, P, P, 1, d]⟩, broadcastInDim ⟨6, ![B, C, P, P, 1, d]⟩ ![0, 1, 2, 3, 5] f.b1
      (Host.slice ⟨5, ![B, C, P, P, d]⟩ ![0, 0, 0, 0, k.val] ![1, 1, 1, 1, 2] X (f.s1 k))⟩ : (s : Shape) × (s.Idx → Ideal .f32))) f.c1

/-- The three shifts on the middle axis, stacked. -/
def cStk2 (f : CFacts B C O D d P) (X : FVec Ideal ⟨6, ![B, C, P, P, 3, d]⟩ .f32) : FVec Ideal ⟨7, ![B, C, P, 3, d, 3, d]⟩ .f32 :=
  concatenate ⟨7, ![B, C, P, 3, d, 3, d]⟩ 3 (List.ofFn fun k : Fin 3 =>
    (⟨⟨7, ![B, C, P, 1, d, 3, d]⟩, broadcastInDim ⟨7, ![B, C, P, 1, d, 3, d]⟩ ![0, 1, 2, 4, 5, 6] f.b2
      (Host.slice ⟨6, ![B, C, P, d, 3, d]⟩ ![0, 0, 0, k.val, 0, 0] ![1, 1, 1, 2, 1, 1] X (f.s2 k))⟩ : (s : Shape) × (s.Idx → Ideal .f32))) f.c2

/-- The three shifts on the first axis, stacked. -/
def cStk3 (f : CFacts B C O D d P) (X : FVec Ideal ⟨7, ![B, C, P, 3, d, 3, d]⟩ .f32) : FVec Ideal ⟨8, ![B, C, 3, d, 3, d, 3, d]⟩ .f32 :=
  concatenate ⟨8, ![B, C, 3, d, 3, d, 3, d]⟩ 2 (List.ofFn fun k : Fin 3 =>
    (⟨⟨8, ![B, C, 1, d, 3, d, 3, d]⟩, broadcastInDim ⟨8, ![B, C, 1, d, 3, d, 3, d]⟩ ![0, 1, 3, 4, 5, 6, 7] f.b3
      (Host.slice ⟨7, ![B, C, d, 3, d, 3, d]⟩ ![0, 0, k.val, 0, 0, 0, 0] ![1, 1, 2, 1, 1, 1, 1] X (f.s3 k))⟩ : (s : Shape) × (s.Idx → Ideal .f32))) f.c3

/-- One convolution layer of the reference with bias and positive part. -/
def cLayer (f : CFacts B C O D d P) (X : FVec Ideal ⟨5, ![B, C, D, D, D]⟩ .f32) (w : FVec Ideal ⟨5, ![O, C, 3, 3, 3]⟩ .f32)
    (bias : FVec Ideal ⟨1, ![O]⟩ .f32) : FVec Ideal ⟨5, ![B, O, d, d, d]⟩ .f32 :=
  maximumf
    (addf
      (transpose ⟨5, ![B, O, d, d, d]⟩ [1, 0, 2, 3, 4]
        (Host.dotGeneral (cDot f) none w (cStk3 f (cStk2 f (cStk1 f (cPad f X))))) f.ht)
      (broadcastInDim ⟨5, ![B, O, d, d, d]⟩ ![0, 1, 2, 3, 4] f.hb2
        (broadcastInDim ⟨5, ![1, O, 1, 1, 1]⟩ ![1] f.hb1 bias)))
    (broadcastInDim ⟨5, ![B, O, d, d, d]⟩ ![] f.hz cZero)

theorem cZero_apply (i : S0.Idx) : cZero i = 0 := Ideal.ofBits_zero_f32

theorem cEdge_apply (i : S0.Idx) : cEdge i = 0 := by
  show ((((0#32 : BitVec 32).toInt : ℝ)) : EReal) = 0
  simp

theorem cPad_apply (f : CFacts B C O D d P) (X : FVec Ideal ⟨5, ![B, C, D, D, D]⟩ .f32) (b : Fin B) (c : Fin C) (s t u : Fin P) :
    cPad f X (ix5 b c s t u) = zc X b c s.val t.val u.val := by
  have hP := f.hP
  have hs := s.isLt
  have ht := t.isLt
  have hu := u.isLt
  unfold cPad zc
  by_cases e : (1 ≤ s.val ∧ s.val ≤ D) ∧ (1 ≤ t.val ∧ t.val ≤ D) ∧ (1 ≤ u.val ∧ u.val ≤ D)
  · rw [dif_pos e]
    exact pad_apply_of_inside _ _ _ X cEdge f.hp f.h0 (ix5 b c s t u)
      (ix5 b c ⟨s.val - 1, by omega⟩ ⟨t.val - 1, by omega⟩ ⟨u.val - 1, by omega⟩)
      (fun a => by
        match a with
        | ⟨0, _⟩ => show b.val = 0 + b.val * (0 + 1); omega
        | ⟨1, _⟩ => show c.val = 0 + c.val * (0 + 1); omega
        | ⟨2, _⟩ => show s.val = 1 + (s.val - 1) * (0 + 1); omega
        | ⟨3, _⟩ => show t.val = 1 + (t.val - 1) * (0 + 1); omega
        | ⟨4, _⟩ => show u.val = 1 + (u.val - 1) * (0 + 1); omega)
  · rw [dif_neg e]
    by_cases e1 : 1 ≤ s.val ∧ s.val ≤ D
    · by_cases e2 : 1 ≤ t.val ∧ t.val ≤ D
      · exact (pad_apply_of_not_inside _ _ _ X cEdge f.hp f.h0 (ix5 b c s t u) (4 : Fin 5) (by
          show ¬(1 ≤ u.val ∧ (u.val - 1) % 1 = 0 ∧ (u.val - 1) / 1 < D)
          rw [Nat.div_one]; omega)).trans (cEdge_apply _)
      · exact (pad_apply_of_not_inside _ _ _ X cEdge f.hp f.h0 (ix5 b c s t u) (3 : Fin 5) (by
          show ¬(1 ≤ t.val ∧ (t.val - 1) % 1 = 0 ∧ (t.val - 1) / 1 < D)
          rw [Nat.div_one]; omega)).trans (cEdge_apply _)
    · exact (pad_apply_of_not_inside _ _ _ X cEdge f.hp f.h0 (ix5 b c s t u) (2 : Fin 5) (by
          show ¬(1 ≤ s.val ∧ (s.val - 1) % 1 = 0 ∧ (s.val - 1) / 1 < D)
          rw [Nat.div_one]; omega)).trans (cEdge_apply _)

/-- A strided slice read at an index. -/
theorem sliceBy_apply {α : Type} {s t : Shape} (start strides : Fin s.rank → ℕ) (x : s.Idx → α) (h : s.SlicesBy start strides t)
    (j : t.Idx) (i : s.Idx) (hi : ∀ a : Fin s.rank, (i a).val = start a + strides a * (j (a.cast h.1.symm)).val) :
    Host.slice t start strides x h j = x i := by
  unfold Host.slice
  exact congrArg x (funext fun a => Fin.ext (hi a).symm)

theorem cStk1_apply (f : CFacts B C O D d P) (X : FVec Ideal ⟨5, ![B, C, P, P, P]⟩ .f32) (b : Fin B) (c : Fin C) (s t : Fin P)
    (k : Fin 3) (x : Fin d) :
    cStk1 f X (ix6 b c s t k x) = X (ix5 b c s t ⟨2 * x.val + k.val, by have := f.hD; have := f.hP; omega⟩) := by
  unfold cStk1
  refine (concatenate_ofFn_unit_apply (t := ⟨6, ![B, C, P, P, 3, d]⟩) (s₁ := ⟨6, ![B, C, P, P, 1, d]⟩) 4 _ _ rfl rfl
    (ix6 b c s t k x) k rfl (ix6 b c s t 0 x) (fun a ha => by
      match a with
      | ⟨0, _⟩ => rfl
      | ⟨1, _⟩ => rfl
      | ⟨2, _⟩ => rfl
      | ⟨3, _⟩ => rfl
      | ⟨4, _⟩ => exact absurd rfl ha
      | ⟨5, _⟩ => rfl)).trans ?_
  refine (broadcastInDim_apply _ f.b1 _ (ix6 b c s t 0 x) (ix5 b c s t x) (fun a => by
    match a with
    | ⟨0, _⟩ => show b.val = if B = 1 then 0 else b.val; have := b.isLt; split <;> omega
    | ⟨1, _⟩ => show c.val = if C = 1 then 0 else c.val; have := c.isLt; split <;> omega
    | ⟨2, _⟩ => show s.val = if P = 1 then 0 else s.val; have := s.isLt; split <;> omega
    | ⟨3, _⟩ => show t.val = if P = 1 then 0 else t.val; have := t.isLt; split <;> omega
    | ⟨4, _⟩ => show x.val = if d = 1 then 0 else x.val; have := x.isLt; split <;> omega)).trans ?_
  exact sliceBy_apply _ _ X (f.s1 k) (ix5 b c s t x) _ (fun a => by
    match a with
    | ⟨0, _⟩ => show b.val = 0 + 1 * b.val; omega
    | ⟨1, _⟩ => show c.val = 0 + 1 * c.val; omega
    | ⟨2, _⟩ => show s.val = 0 + 1 * s.val; omega
    | ⟨3, _⟩ => show t.val = 0 + 1 * t.val; omega
    | ⟨4, _⟩ => show 2 * x.val + k.val = k.val + 2 * x.val; omega)

theorem cStk2_apply (f : CFacts B C O D d P) (X : FVec Ideal ⟨6, ![B, C, P, P, 3, d]⟩ .f32) (b : Fin B) (c : Fin C) (s : Fin P)
    (j : Fin 3) (y : Fin d) (k : Fin 3) (x : Fin d) :
    cStk2 f X (at7 b c s j y k x) = X (ix6 b c s ⟨2 * y.val + j.val, by have := f.hD; have := f.hP; omega⟩ k x) := by
  unfold cStk2
  refine (concatenate_ofFn_unit_apply (t := ⟨7, ![B, C, P, 3, d, 3, d]⟩) (s₁ := ⟨7, ![B, C, P, 1, d, 3, d]⟩) 3 _ _ rfl rfl
    (at7 b c s j y k x) j rfl (at7 b c s 0 y k x) (fun a ha => by
      match a with
      | ⟨0, _⟩ => rfl
      | ⟨1, _⟩ => rfl
      | ⟨2, _⟩ => rfl
      | ⟨3, _⟩ => exact absurd rfl ha
      | ⟨4, _⟩ => rfl
      | ⟨5, _⟩ => rfl
      | ⟨6, _⟩ => rfl)).trans ?_
  refine (broadcastInDim_apply _ f.b2 _ (at7 b c s 0 y k x) (ix6 b c s y k x) (fun a => by
    match a with
    | ⟨0, _⟩ => show b.val = if B = 1 then 0 else b.val; have := b.isLt; split <;> omega
    | ⟨1, _⟩ => show c.val = if C = 1 then 0 else c.val; have := c.isLt; split <;> omega
    | ⟨2, _⟩ => show s.val = if P = 1 then 0 else s.val; have := s.isLt; split <;> omega
    | ⟨3, _⟩ => show y.val = if d = 1 then 0 else y.val; have := y.isLt; split <;> omega
    | ⟨4, _⟩ => rfl
    | ⟨5, _⟩ => show x.val = if d = 1 then 0 else x.val; have := x.isLt; split <;> omega)).trans ?_
  exact sliceBy_apply _ _ X (f.s2 j) (ix6 b c s y k x) _ (fun a => by
    match a with
    | ⟨0, _⟩ => show b.val = 0 + 1 * b.val; omega
    | ⟨1, _⟩ => show c.val = 0 + 1 * c.val; omega
    | ⟨2, _⟩ => show s.val = 0 + 1 * s.val; omega
    | ⟨3, _⟩ => show 2 * y.val + j.val = j.val + 2 * y.val; omega
    | ⟨4, _⟩ => show k.val = 0 + 1 * k.val; omega
    | ⟨5, _⟩ => show x.val = 0 + 1 * x.val; omega)

theorem cStk3_apply (f : CFacts B C O D d P) (X : FVec Ideal ⟨7, ![B, C, P, 3, d, 3, d]⟩ .f32) (b : Fin B) (c : Fin C)
    (i : Fin 3) (z : Fin d) (j : Fin 3) (y : Fin d) (k : Fin 3) (x : Fin d) :
    cStk3 f X (at8 b c i z j y k x) = X (at7 b c ⟨2 * z.val + i.val, by have := f.hD; have := f.hP; omega⟩ j y k x) := by
  unfold cStk3
  refine (concatenate_ofFn_unit_apply (t := ⟨8, ![B, C, 3, d, 3, d, 3, d]⟩) (s₁ := ⟨8, ![B, C, 1, d, 3, d, 3, d]⟩) 2 _ _ rfl rfl
    (at8 b c i z j y k x) i rfl (at8 b c 0 z j y k x) (fun a ha => by
      match a with
      | ⟨0, _⟩ => rfl
      | ⟨1, _⟩ => rfl
      | ⟨2, _⟩ => exact absurd rfl ha
      | ⟨3, _⟩ => rfl
      | ⟨4, _⟩ => rfl
      | ⟨5, _⟩ => rfl
      | ⟨6, _⟩ => rfl
      | ⟨7, _⟩ => rfl)).trans ?_
  refine (broadcastInDim_apply _ f.b3 _ (at8 b c 0 z j y k x) (at7 b c z j y k x) (fun a => by
    match a with
    | ⟨0, _⟩ => show b.val = if B = 1 then 0 else b.val; have := b.isLt; split <;> omega
    | ⟨1, _⟩ => show c.val = if C = 1 then 0 else c.val; have := c.isLt; split <;> omega
    | ⟨2, _⟩ => show z.val = if d = 1 then 0 else z.val; have := z.isLt; split <;> omega
    | ⟨3, _⟩ => rfl
    | ⟨4, _⟩ => show y.val = if d = 1 then 0 else y.val; have := y.isLt; split <;> omega
    | ⟨5, _⟩ => rfl
    | ⟨6, _⟩ => show x.val = if d = 1 then 0 else x.val; have := x.isLt; split <;> omega)).trans ?_
  exact sliceBy_apply _ _ X (f.s3 i) (at7 b c z j y k x) _ (fun a => by
    match a with
    | ⟨0, _⟩ => show b.val = 0 + 1 * b.val; omega
    | ⟨1, _⟩ => show c.val = 0 + 1 * c.val; omega
    | ⟨2, _⟩ => show 2 * z.val + i.val = i.val + 2 * z.val; omega
    | ⟨3, _⟩ => show j.val = 0 + 1 * j.val; omega
    | ⟨4, _⟩ => show y.val = 0 + 1 * y.val; omega
    | ⟨5, _⟩ => show k.val = 0 + 1 * k.val; omega
    | ⟨6, _⟩ => show x.val = 0 + 1 * x.val; omega)

/-- The contraction's index by its four coordinates. -/
def cIdx (f : CFacts B C O D d P) : (Fin C × Fin 3 × Fin 3 × Fin 3) ≃ (cDot f).contr.Idx where
  toFun p := fun a => match a with
    | ⟨0, _⟩ => p.1
    | ⟨1, _⟩ => p.2.1
    | ⟨2, _⟩ => p.2.2.1
    | ⟨3, _⟩ => p.2.2.2
  invFun q := (q (0 : Fin 4), q (1 : Fin 4), q (2 : Fin 4), q (3 : Fin 4))
  left_inv _ := rfl
  right_inv q := funext fun a => by
    match a with
    | ⟨0, _⟩ => rfl
    | ⟨1, _⟩ => rfl
    | ⟨2, _⟩ => rfl
    | ⟨3, _⟩ => rfl

theorem cDot_apply (f : CFacts B C O D d P) (w : FVec Ideal ⟨5, ![O, C, 3, 3, 3]⟩ .f32)
    (X : FVec Ideal ⟨8, ![B, C, 3, d, 3, d, 3, d]⟩ .f32) (o : Fin O) (b : Fin B) (z y x : Fin d) :
    Host.dotGeneral (cDot f) none w X (ix5 o b z y x)
      = ∑ c : Fin C, ∑ i : Fin 3, ∑ j : Fin 3, ∑ k : Fin 3, w (ix5 o c i j k) * X (at8 b c i z j y k x) := by
  simp only [Host.dotGeneral]
  rw [Ideal.dotGeneral_apply, ← Equiv.sum_comp (cIdx f)]
  simp only [Fintype.sum_prod_type]
  refine Finset.sum_congr rfl fun c _ => Finset.sum_congr rfl fun i _ => Finset.sum_congr rfl fun j _ =>
    Finset.sum_congr rfl fun k _ => ?_
  have el : (cDot f).lhsIdx (ix5 o b z y x) (cIdx f (c, i, j, k)) = ix5 o c i j k := funext fun a => by
    match a with
    | ⟨0, _⟩ => rfl
    | ⟨1, _⟩ => rfl
    | ⟨2, _⟩ => rfl
    | ⟨3, _⟩ => rfl
    | ⟨4, _⟩ => rfl
  have er : (cDot f).rhsIdx (ix5 o b z y x) (cIdx f (c, i, j, k)) = at8 b c i z j y k x := funext fun a => by
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  rw [el, er]

theorem cLayer_apply (f : CFacts B C O D d P) (X : FVec Ideal ⟨5, ![B, C, D, D, D]⟩ .f32) (w : FVec Ideal ⟨5, ![O, C, 3, 3, 3]⟩ .f32)
    (bias : FVec Ideal ⟨1, ![O]⟩ .f32) (b : Fin B) (o : Fin O) (z y x : Fin d) :
    cLayer f X w bias (ix5 b o z y x)
      = max ((∑ c : Fin C, ∑ i : Fin 3, ∑ j : Fin 3, ∑ k : Fin 3,
          w (ix5 o c i j k) * zc X b c (2 * z.val + i.val) (2 * y.val + j.val) (2 * x.val + k.val)) + bias (ix1 o)) 0 := by
  have hz : broadcastInDim ⟨5, ![B, O, d, d, d]⟩ ![] f.hz cZero (ix5 b o z y x) = 0 :=
    (broadcastInDim_apply _ f.hz cZero (ix5 b o z y x) ix0 (fun a => a.elim0)).trans (cZero_apply _)
  have hb : broadcastInDim ⟨5, ![B, O, d, d, d]⟩ ![0, 1, 2, 3, 4] f.hb2
        (broadcastInDim ⟨5, ![1, O, 1, 1, 1]⟩ ![1] f.hb1 bias) (ix5 b o z y x) = bias (ix1 o) := by
    rw [broadcastInDim_apply _ f.hb2 _ (ix5 b o z y x) (ix5 0 o 0 0 0) (fun a => by
      match a with
      | ⟨0, _⟩ => rfl
      | ⟨1, _⟩ => show o.val = if O = 1 then 0 else o.val; have := o.isLt; split <;> omega
      | ⟨2, _⟩ => rfl
      | ⟨3, _⟩ => rfl
      | ⟨4, _⟩ => rfl)]
    exact broadcastInDim_apply _ f.hb1 _ (ix5 0 o 0 0 0) (ix1 o) (fun a => by
      match a with
      | ⟨0, _⟩ => show o.val = if O = 1 then 0 else o.val; have := o.isLt; split <;> omega)
  have hs : transpose ⟨5, ![B, O, d, d, d]⟩ [1, 0, 2, 3, 4]
        (Host.dotGeneral (cDot f) none w (cStk3 f (cStk2 f (cStk1 f (cPad f X))))) f.ht (ix5 b o z y x)
      = ∑ c : Fin C, ∑ i : Fin 3, ∑ j : Fin 3, ∑ k : Fin 3,
          w (ix5 o c i j k) * zc X b c (2 * z.val + i.val) (2 * y.val + j.val) (2 * x.val + k.val) := by
    rw [transpose_apply _ _ _ (ix5 b o z y x) (ix5 o b z y x) (fun a => by
      match a with
      | ⟨0, _⟩ => rfl
      | ⟨1, _⟩ => rfl
      | ⟨2, _⟩ => rfl
      | ⟨3, _⟩ => rfl
      | ⟨4, _⟩ => rfl)]
    rw [cDot_apply]
    refine Finset.sum_congr rfl fun c _ => Finset.sum_congr rfl fun i _ => Finset.sum_congr rfl fun j _ =>
      Finset.sum_congr rfl fun k _ => ?_
    rw [cStk3_apply, cStk2_apply, cStk1_apply, cPad_apply]
  unfold cLayer
  show max (transpose _ _ _ f.ht (ix5 b o z y x) + broadcastInDim _ _ f.hb2 _ (ix5 b o z y x)) (broadcastInDim _ _ f.hz _ (ix5 b o z y x)) = _
  rw [hb, hz, hs]

end

end Encoder
-- ==== Proof.EMath.lean ====
module

public import proofs.«01_k».proof.Proof.ELayer
public import proofs.«01_k».proof.Proof.EConv

@[expose] public section

/-! The kernel's layer equals the reference's: the kernel's weight matrices hold the taps of the last space axis at the
columns they meet and zeros elsewhere, and the products with those zeros are zero over the extended reals too. -/

noncomputable section

namespace Encoder

open Idealize.ShloMosaic Idealize.ShloMosaic.ValueIdx

theorem sum_cols {L D C : ℕ} (hL : L = D * C) (F : Fin L → EReal) :
    ∑ l : Fin L, F l = ∑ x : Fin D, ∑ c : Fin C, F ⟨x.val * C + c.val, by
      have hx := x.isLt
      have hc := c.isLt
      calc x.val * C + c.val < x.val * C + C := by omega
        _ = (x.val + 1) * C := by ring
        _ ≤ D * C := Nat.mul_le_mul_right C hx
        _ = L := hL.symm⟩ := by
  subst hL
  rw [← Equiv.sum_comp finProdFinEquiv, Fintype.sum_prod_type]
  refine Finset.sum_congr rfl fun x _ => Finset.sum_congr rfl fun c _ => ?_
  congr 1
  apply Fin.ext
  show c.val + C * x.val = x.val * C + c.val
  ring

theorem mul_ind_sum (a : EReal) (e : Fin 3 → EReal) (n m : ℕ) :
    a * ∑ k : Fin 3, e k * (if n = m + k.val then 1 else 0) = ∑ k : Fin 3, if n = m + k.val then e k * a else 0 := by
  by_cases h : ∃ k0 : Fin 3, n = m + k0.val
  · obtain ⟨k0, h0⟩ := h
    have hne : ∀ k : Fin 3, k ≠ k0 → ¬ n = m + k.val := fun k hk h1 => hk (Fin.ext (by omega))
    rw [Finset.sum_eq_single k0 (fun k _ hk => by rw [if_neg (hne k hk), mul_zero]) (fun hk => absurd (Finset.mem_univ _) hk),
      Finset.sum_eq_single k0 (fun k _ hk => by rw [if_neg (hne k hk)]) (fun hk => absurd (Finset.mem_univ _) hk),
      if_pos h0, if_pos h0, mul_one, mul_comm]
  · have hne : ∀ k : Fin 3, ¬ n = m + k.val := fun k h1 => h ⟨k, h1⟩
    rw [Finset.sum_eq_zero (fun k _ => by rw [if_neg (hne k), mul_zero]),
      Finset.sum_eq_zero (fun k _ => by rw [if_neg (hne k)]), mul_zero]

theorem tap_axis {D : ℕ} (G : ℕ → EReal) (h0 : ∀ u, ¬ (1 ≤ u ∧ u ≤ D) → G u = 0) (e : Fin 3 → EReal) (m : ℕ) :
    ∑ x : Fin D, G (x.val + 1) * ∑ k : Fin 3, e k * (if x.val + 1 = m + k.val then 1 else 0)
      = ∑ k : Fin 3, e k * G (m + k.val) := by
  simp only [mul_ind_sum]
  rw [Finset.sum_comm]
  refine Finset.sum_congr rfl fun k _ => ?_
  by_cases h : 1 ≤ m + k.val ∧ m + k.val ≤ D
  · have hx : ∀ x : Fin D, x ≠ ⟨m + k.val - 1, by omega⟩ → ¬ x.val + 1 = m + k.val := fun x hx h1 =>
      hx (Fin.ext (by show x.val = m + k.val - 1; omega))
    rw [Finset.sum_eq_single ⟨m + k.val - 1, by omega⟩ (fun x _ hk => by rw [if_neg (hx x hk)])
      (fun hk => absurd (Finset.mem_univ _) hk)]
    have e1 : m + k.val - 1 + 1 = m + k.val := by omega
    show (if m + k.val - 1 + 1 = m + k.val then e k * G (m + k.val - 1 + 1) else 0) = _
    rw [e1, if_pos rfl]
  · rw [h0 _ h, mul_zero]
    refine Finset.sum_eq_zero fun x _ => ?_
    have := x.isLt
    rw [if_neg (by omega)]

section
variable {B C O d D P Q L N M : ℕ}

/-- The rows hold image `b`: the last space axis and the channels together in the columns. -/
def Holds {n : ℕ} (Yk : FVec Ideal ⟨3, ![n, n, L]⟩ .f32) (X : FVec Ideal ⟨5, ![B, C, n, n, n]⟩ .f32) (b : Fin B) : Prop :=
  ∀ (z y x : Fin n) (c : Fin C) (l : Fin L), l.val = x.val * C + c.val → Yk (ix3 z y l) = X (ix5 b c z y x)

/-- The matrices hold the taps of the last space axis at the columns they meet. -/
def Weights (D d : ℕ) (w : Fin 9 → FVec Ideal ⟨3, ![1, L, N]⟩ .f32) (ew : FVec Ideal ⟨5, ![O, C, 3, 3, 3]⟩ .f32) : Prop :=
  ∀ (i j : Fin 3) (x : Fin D) (c : Fin C) (l : Fin L) (X : Fin d) (o : Fin O) (n : Fin N),
    l.val = x.val * C + c.val → n.val = X.val * O + o.val →
    w ⟨3 * i.val + j.val, by omega⟩ (ix3 0 l n) = ∑ k : Fin 3, ew (ix5 o c i j k) * (if x.val + 1 = 2 * X.val + k.val then 1 else 0)

/-- The tiled bias. -/
def Tiled (d : ℕ) (bk : FVec Ideal ⟨2, ![1, N]⟩ .f32) (bias : FVec Ideal ⟨1, ![O]⟩ .f32) : Prop :=
  ∀ (X : Fin d) (o : Fin O) (n : Fin N), n.val = X.val * O + o.val → bk (ix2 0 n) = bias (ix1 o)

theorem zb3_holds {Yk : FVec Ideal ⟨3, ![D, D, L]⟩ .f32} {X : FVec Ideal ⟨5, ![B, C, D, D, D]⟩ .f32} {b : Fin B} (h : Holds Yk X b)
    (s t : ℕ) (x : Fin D) (c : Fin C) (l : Fin L) (hl : l.val = x.val * C + c.val) :
    zb3 Yk s t l = zc X b c s t (x.val + 1) := by
  have hx := x.isLt
  unfold zb3 zc
  by_cases e : (1 ≤ s ∧ s ≤ D) ∧ (1 ≤ t ∧ t ≤ D)
  · rw [dif_pos e, dif_pos ⟨e.1, e.2, by omega, by omega⟩]
    exact h _ _ x c l hl
  · rw [dif_neg e, dif_neg (fun e1 => e ⟨e1.1, e1.2.1⟩)]

theorem layer_holds (f : EFacts d D Q L N M) (g : CFacts B C O D d P) (hL : L = D * C)
    (XP : FVec Ideal ⟨3, ![Q, Q, L]⟩ .f32) (Yk : FVec Ideal ⟨3, ![D, D, L]⟩ .f32) (hp : ∀ s t l, rd3 XP s t l = zb3 Yk s t l)
    (X : FVec Ideal ⟨5, ![B, C, D, D, D]⟩ .f32) (b : Fin B) (hY : Holds Yk X b)
    (w : Fin 9 → FVec Ideal ⟨3, ![1, L, N]⟩ .f32) (ew : FVec Ideal ⟨5, ![O, C, 3, 3, 3]⟩ .f32) (hw : Weights D d w ew)
    (bk : FVec Ideal ⟨2, ![1, N]⟩ .f32) (bias : FVec Ideal ⟨1, ![O]⟩ .f32) (hb : Tiled d bk bias) :
    Holds (eLayer f XP w bk) (cLayer g X ew bias) b := by
  intro z y x o n hn
  rw [eLayer_apply, cLayer_apply, hb x o n hn]
  congr 2
  have key : ∀ i j : Fin 3, eTapSum (rd3 XP) w z.val y.val n i j
      = ∑ c : Fin C, ∑ k : Fin 3, ew (ix5 o c i j k) * zc X b c (2 * z.val + i.val) (2 * y.val + j.val) (2 * x.val + k.val) := by
    intro i j
    unfold eTapSum
    rw [sum_cols hL, Finset.sum_comm]
    refine Finset.sum_congr rfl fun c _ => ?_
    rw [← tap_axis (D := D) (fun u => zc X b c (2 * z.val + i.val) (2 * y.val + j.val) u) (fun u hu => by
      unfold zc
      rw [dif_neg (fun e => hu e.2.2)]) (fun k => ew (ix5 o c i j k)) (2 * x.val)]
    refine Finset.sum_congr rfl fun x' _ => ?_
    rw [hp, zb3_holds hY _ _ x' c _ rfl, hw i j x' c _ x o n rfl hn]
  simp only [key]
  rw [Finset.sum_comm]
  rw [Finset.sum_congr rfl fun j _ => Finset.sum_comm]
  rw [Finset.sum_comm]
  refine Finset.sum_congr rfl fun c _ => ?_
  rw [Finset.sum_comm]

end

end Encoder
-- ==== Proof.EHostOps.lean ====
module

public import proofs.«01_k».proof.Proof.EMath

@[expose] public section

set_option maxRecDepth 16384

/-! The arrays the encoder's host code prepares, as operations on arrays of any sizes, and their values by index: each
layer's nine weight matrices, its tiled bias, and the two arrays of row numbers. -/

noncomputable section

namespace Encoder

open Idealize.ShloMosaic Idealize.ShloMosaic.ValueIdx

/-- The shape facts of one layer's weight matrices. -/
structure SFacts (O C D d L N : ℕ) : Prop where
  hD : D < 64
  hd : d < 64
  hL : L = D * C
  hN : N = d * O
  b1 : (⟨1, ![D]⟩ : Shape).BroadcastsInDim ⟨3, ![D, 1, 1]⟩ ![0]
  b2 : (⟨1, ![d]⟩ : Shape).BroadcastsInDim ⟨3, ![1, d, 1]⟩ ![1]
  b3 : S0.BroadcastsInDim ⟨3, ![1, d, 1]⟩ ![]
  b4 : (⟨3, ![D, 1, 1]⟩ : Shape).BroadcastsInDim ⟨3, ![D, d, 1]⟩ ![0, 1, 2]
  b5 : (⟨3, ![1, d, 1]⟩ : Shape).BroadcastsInDim ⟨3, ![D, d, 1]⟩ ![0, 1, 2]
  b6 : S0.BroadcastsInDim ⟨3, ![D, d, 1]⟩ ![]
  b7 : (⟨1, ![3]⟩ : Shape).BroadcastsInDim ⟨3, ![1, 1, 3]⟩ ![2]
  b8 : (⟨3, ![D, d, 1]⟩ : Shape).BroadcastsInDim ⟨3, ![D, d, 3]⟩ ![0, 1, 2]
  b9 : (⟨3, ![1, 1, 3]⟩ : Shape).BroadcastsInDim ⟨3, ![D, d, 3]⟩ ![0, 1, 2]
  wf : DotDims.WF ⟨5, ![O, C, 3, 3, 3]⟩ ⟨3, ![D, d, 3]⟩ ⟨6, ![O, C, 3, 3, D, d]⟩ [4] [2] [0, 1, 2, 3] [0, 1] [] []
  ht : (⟨6, ![O, C, 3, 3, D, d]⟩ : Shape).Transposes [2, 3, 4, 1, 5, 0] ⟨6, ![3, 3, D, C, d, O]⟩
  hs : (⟨6, ![3, 3, D, C, d, O]⟩ : Shape).ShapeCasts ⟨3, ![9, L, N]⟩

section
variable {O C D d L N : ℕ}

/-- Where each tap of the last space axis lands: rows, columns, tap. -/
def meets (f : SFacts O C D d L N) : FVec Ideal ⟨3, ![D, d, 3]⟩ .f32 :=
  uitofp .f32 (cmpi .eq
    (broadcastInDim ⟨3, ![D, d, 3]⟩ ![0, 1, 2] f.b8
      (addi
        (subi (broadcastInDim ⟨3, ![D, d, 1]⟩ ![0, 1, 2] f.b4 (broadcastInDim ⟨3, ![D, 1, 1]⟩ ![0] f.b1 (iotaInDim ⟨1, ![D]⟩ 32 0)))
          (broadcastInDim ⟨3, ![D, d, 1]⟩ ![0, 1, 2] f.b5
            (muli (broadcastInDim ⟨3, ![1, d, 1]⟩ ![] f.b3 (constantI S0 32 2#32))
              (broadcastInDim ⟨3, ![1, d, 1]⟩ ![1] f.b2 (iotaInDim ⟨1, ![d]⟩ 32 0)))))
        (broadcastInDim ⟨3, ![D, d, 1]⟩ ![] f.b6 (constantI S0 32 1#32))))
    (broadcastInDim ⟨3, ![D, d, 3]⟩ ![0, 1, 2] f.b9 (broadcastInDim ⟨3, ![1, 1, 3]⟩ ![2] f.b7 (iotaInDim ⟨1, ![3]⟩ 32 0))))

/-- The product over the tap axis. -/
def sDot (f : SFacts O C D d L N) : DotDims ⟨5, ![O, C, 3, 3, 3]⟩ ⟨3, ![D, d, 3]⟩ ⟨6, ![O, C, 3, 3, D, d]⟩ where
  lhsContracting := [4]
  rhsContracting := [2]
  lhsNonContracting := [0, 1, 2, 3]
  rhsNonContracting := [0, 1]
  lhsBatch := []
  rhsBatch := []
  wf := f.wf

/-- The nine matrices. -/
def mats (f : SFacts O C D d L N) (ew : FVec Ideal ⟨5, ![O, C, 3, 3, 3]⟩ .f32) : FVec Ideal ⟨3, ![9, L, N]⟩ .f32 :=
  shapeCast ⟨3, ![9, L, N]⟩ (transpose ⟨6, ![3, 3, D, C, d, O]⟩ [2, 3, 4, 1, 5, 0] (Host.dotGeneral (sDot f) none ew (meets f)) f.ht) f.hs

theorem words_meet (x X k : ℕ) (hx : x < 64) (hX : X < 64) (hk : k < 3) :
    BitVec.ofNat 32 x - 2#32 * BitVec.ofNat 32 X + 1#32 = BitVec.ofNat 32 k ↔ x + 1 = 2 * X + k := by
  rw [← BitVec.toNat_inj]
  simp only [BitVec.toNat_add, BitVec.toNat_sub, BitVec.toNat_mul, BitVec.toNat_ofNat]
  omega

theorem flag_apply {s : Shape} (A B : IVec s 32) (i : s.Idx) :
    (uitofp .f32 (cmpi .eq A B) : FVec Ideal s .f32) i = if A i = B i then 1 else 0 := by
  show (((BitVec.ofBool (decide (A i = B i))).toNat : ℝ) : EReal) = _
  by_cases h : A i = B i
  · rw [if_pos h, decide_eq_true h]
    simp
  · rw [if_neg h, decide_eq_false h]
    simp

theorem shift_apply {s : Shape} (A B C : IVec s 32) (i : s.Idx) : addi (subi A B) C i = A i - B i + C i := rfl

theorem meets_apply (f : SFacts O C D d L N) (x : Fin D) (X : Fin d) (k : Fin 3) :
    meets f (ix3 x X k) = if x.val + 1 = 2 * X.val + k.val then 1 else 0 := by
  have hx : x.val < 64 := lt_trans x.isLt f.hD
  have hX : X.val < 64 := lt_trans X.isLt f.hd
  have e1 : broadcastInDim ⟨3, ![D, d, 1]⟩ ![0, 1, 2] f.b4 (broadcastInDim ⟨3, ![D, 1, 1]⟩ ![0] f.b1 (iotaInDim ⟨1, ![D]⟩ 32 0)) (ix3 x X 0)
      = BitVec.ofNat 32 x.val := by
    rw [broadcastInDim_apply _ f.b4 _ (ix3 x X 0) (ix3 x 0 0) (fun a => by
      match a with
      | ⟨0, _⟩ => show x.val = if D = 1 then 0 else x.val; have := x.isLt; split <;> omega
      | ⟨1, _⟩ => rfl
      | ⟨2, _⟩ => rfl)]
    exact broadcastInDim_apply _ f.b1 _ (ix3 x 0 0) (ix1 x) (fun a => by
      match a with
      | ⟨0, _⟩ => show x.val = if D = 1 then 0 else x.val; have := x.isLt; split <;> omega)
  have e2 : broadcastInDim ⟨3, ![D, d, 1]⟩ ![0, 1, 2] f.b5
      (muli (broadcastInDim ⟨3, ![1, d, 1]⟩ ![] f.b3 (constantI S0 32 2#32))
        (broadcastInDim ⟨3, ![1, d, 1]⟩ ![1] f.b2 (iotaInDim ⟨1, ![d]⟩ 32 0))) (ix3 x X 0) = 2#32 * BitVec.ofNat 32 X.val := by
    rw [broadcastInDim_apply _ f.b5 _ (ix3 x X 0) (ix3 0 X 0) (fun a => by
      match a with
      | ⟨0, _⟩ => rfl
      | ⟨1, _⟩ => show X.val = if d = 1 then 0 else X.val; have := X.isLt; split <;> omega
      | ⟨2, _⟩ => rfl)]
    refine congrArg₂ (fun p q : BitVec 32 => p * q) ?_ ?_
    · exact broadcastInDim_apply _ f.b3 _ (ix3 0 X 0) ix0 (fun a => a.elim0)
    · exact broadcastInDim_apply _ f.b2 _ (ix3 0 X 0) (ix1 X) (fun a => by
        match a with
        | ⟨0, _⟩ => show X.val = if d = 1 then 0 else X.val; have := X.isLt; split <;> omega)
  have e3 : broadcastInDim ⟨3, ![D, d, 1]⟩ ![] f.b6 (constantI S0 32 1#32) (ix3 x X 0) = 1#32 :=
    broadcastInDim_apply _ f.b6 _ (ix3 x X 0) ix0 (fun a => a.elim0)
  have e4 : broadcastInDim ⟨3, ![D, d, 3]⟩ ![0, 1, 2] f.b9 (broadcastInDim ⟨3, ![1, 1, 3]⟩ ![2] f.b7 (iotaInDim ⟨1, ![3]⟩ 32 0)) (ix3 x X k)
      = BitVec.ofNat 32 k.val := by
    rw [broadcastInDim_apply _ f.b9 _ (ix3 x X k) (ix3 0 0 k) (fun a => by
      match a with
      | ⟨0, _⟩ => rfl
      | ⟨1, _⟩ => rfl
      | ⟨2, _⟩ => rfl)]
    exact broadcastInDim_apply _ f.b7 _ (ix3 0 0 k) (ix1 k) (fun a => by
      match a with
      | ⟨0, _⟩ => rfl)
  have e5 : ∀ Y : IVec ⟨3, ![D, d, 1]⟩ 32, broadcastInDim ⟨3, ![D, d, 3]⟩ ![0, 1, 2] f.b8 Y (ix3 x X k) = Y (ix3 x X 0) := fun Y =>
    broadcastInDim_apply _ f.b8 _ (ix3 x X k) (ix3 x X 0) (fun a => by
      match a with
      | ⟨0, _⟩ => show x.val = if D = 1 then 0 else x.val; have := x.isLt; split <;> omega
      | ⟨1, _⟩ => show X.val = if d = 1 then 0 else X.val; have := X.isLt; split <;> omega
      | ⟨2, _⟩ => rfl)
  unfold meets
  refine (flag_apply _ _ _).trans (if_congr ?_ rfl rfl)
  rw [e4, e5, shift_apply, e1, e2, e3]
  exact words_meet _ _ _ hx hX k.isLt

theorem sDot_apply (f : SFacts O C D d L N) (ew : FVec Ideal ⟨5, ![O, C, 3, 3, 3]⟩ .f32) (s : FVec Ideal ⟨3, ![D, d, 3]⟩ .f32)
    (o : Fin O) (c : Fin C) (i j : Fin 3) (x : Fin D) (X : Fin d) :
    Host.dotGeneral (sDot f) none ew s (ix6 o c i j x X) = ∑ k : Fin 3, ew (ix5 o c i j k) * s (ix3 x X k) := by
  simp only [Host.dotGeneral]
  rw [Ideal.dotGeneral_apply, ← Equiv.sum_comp (contrEquiv1 (sDot f) 3 rfl rfl).symm]
  refine Finset.sum_congr rfl fun k _ => ?_
  have hk := contrEquiv1_symm_val (sDot f) 3 rfl rfl k
  generalize (contrEquiv1 (sDot f) 3 rfl rfl).symm k = q at hk
  have el : (sDot f).lhsIdx (ix6 o c i j x X) q = ix5 o c i j k := funext fun a => Fin.ext (by
    match a with
    | ⟨0, _⟩ => rfl
    | ⟨1, _⟩ => rfl
    | ⟨2, _⟩ => rfl
    | ⟨3, _⟩ => rfl
    | ⟨4, _⟩ => exact hk)
  have er : (sDot f).rhsIdx (ix6 o c i j x X) q = ix3 x X k := funext fun a => Fin.ext (by
    match a with
    | ⟨0, _⟩ => rfl
    | ⟨1, _⟩ => rfl
    | ⟨2, _⟩ => exact hk)
  rw [el, er]

theorem mats_apply (f : SFacts O C D d L N) (ew : FVec Ideal ⟨5, ![O, C, 3, 3, 3]⟩ .f32)
    (i j : Fin 3) (x : Fin D) (c : Fin C) (l : Fin L) (X : Fin d) (o : Fin O) (n : Fin N)
    (hl : l.val = x.val * C + c.val) (hn : n.val = X.val * O + o.val) :
    mats f ew (ix3 ⟨3 * i.val + j.val, by omega⟩ l n)
      = ∑ k : Fin 3, ew (ix5 o c i j k) * (if x.val + 1 = 2 * X.val + k.val then 1 else 0) := by
  unfold mats
  rw [shapeCast_apply _ f.hs (ix3 ⟨3 * i.val + j.val, by omega⟩ l n) (ix6 i j x c X o) (by
    rw [Shape.rowMajor_val_three, Shape.rowMajor_val_six]
    show ((((i.val * 3 + j.val) * D + x.val) * C + c.val) * d + X.val) * O + o.val = ((3 * i.val + j.val) * L + l.val) * N + n.val
    rw [hl, hn, f.hL, f.hN]
    ring)]
  rw [transpose_apply (perm := [2, 3, 4, 1, 5, 0]) _ f.ht (ix6 i j x c X o) (ix6 o c i j x X) (fun a => by
    match a with
    | ⟨0, _⟩ => rfl
    | ⟨1, _⟩ => rfl
    | ⟨2, _⟩ => rfl
    | ⟨3, _⟩ => rfl
    | ⟨4, _⟩ => rfl
    | ⟨5, _⟩ => rfl)]
  rw [sDot_apply]
  exact Finset.sum_congr rfl fun k _ => by rw [meets_apply]

end

/-- The shape facts of a tiled bias. -/
structure TFacts (O d N : ℕ) : Prop where
  hN : N = d * O
  h1 : (⟨1, ![O]⟩ : Shape).ShapeCasts ⟨2, ![1, O]⟩
  hb : (⟨2, ![1, O]⟩ : Shape).BroadcastsInDim ⟨2, ![d, O]⟩ ![0, 1]
  h2 : (⟨2, ![d, O]⟩ : Shape).ShapeCasts ⟨1, ![N]⟩
  h3 : (⟨1, ![N]⟩ : Shape).ShapeCasts ⟨2, ![1, N]⟩

/-- A bias repeated along the columns. -/
def tile {O d N : ℕ} (f : TFacts O d N) (bias : FVec Ideal ⟨1, ![O]⟩ .f32) : FVec Ideal ⟨2, ![1, N]⟩ .f32 :=
  shapeCast ⟨2, ![1, N]⟩ (shapeCast ⟨1, ![N]⟩ (broadcastInDim ⟨2, ![d, O]⟩ ![0, 1] f.hb (shapeCast ⟨2, ![1, O]⟩ bias f.h1)) f.h2) f.h3

theorem tile_apply {O d N : ℕ} (f : TFacts O d N) (bias : FVec Ideal ⟨1, ![O]⟩ .f32) (X : Fin d) (o : Fin O) (n : Fin N)
    (hn : n.val = X.val * O + o.val) : tile f bias (ix2 0 n) = bias (ix1 o) := by
  unfold tile
  rw [shapeCast_apply _ f.h3 (ix2 0 n) (ix1 n) (by
    rw [Shape.rowMajor_val_one, Shape.rowMajor_val_two]
    show n.val = 0 * N + n.val
    omega)]
  rw [shapeCast_apply _ f.h2 (ix1 n) (ix2 X o) (by
    rw [Shape.rowMajor_val_one, Shape.rowMajor_val_two]
    exact hn.symm)]
  rw [broadcastInDim_apply _ f.hb _ (ix2 X o) (ix2 0 o) (fun a => by
    match a with
    | ⟨0, _⟩ => rfl
    | ⟨1, _⟩ => show o.val = if O = 1 then 0 else o.val; have := o.isLt; split <;> omega)]
  exact shapeCast_apply _ f.h1 (ix2 0 o) (ix1 o) (by
    rw [Shape.rowMajor_val_one, Shape.rowMajor_val_two]
    show o.val = 0 * O + o.val
    omega)

/-- The shape facts of an array of row numbers. -/
structure RFacts (R K : ℕ) : Prop where
  hR : R < 2 ^ 31
  h1 : (⟨1, ![R]⟩ : Shape).BroadcastsInDim ⟨2, ![R, 1]⟩ ![0]
  h2 : (⟨2, ![R, 1]⟩ : Shape).BroadcastsInDim ⟨2, ![R, K]⟩ ![0, 1]
  h3 : FTy.bits .bf16 < FTy.bits .f32

/-- The row numbers. -/
def rowNo {R K : ℕ} (f : RFacts R K) : FVec Ideal ⟨2, ![R, K]⟩ .bf16 :=
  broadcastInDim ⟨2, ![R, K]⟩ ![0, 1] f.h2 (broadcastInDim ⟨2, ![R, 1]⟩ ![0] f.h1
    (truncf .bf16 (sitofp (F := Ideal) .f32 (iotaInDim ⟨1, ![R]⟩ 32 0)) f.h3))

theorem rowNo_apply {R K : ℕ} (f : RFacts R K) (r : Fin R) (k : Fin K) : rowNo f (ix2 r k) = (((r.val : ℕ) : ℝ) : EReal) := by
  unfold rowNo
  rw [broadcastInDim_apply _ f.h2 _ (ix2 r k) (ix2 r 0) (fun a => by
    match a with
    | ⟨0, _⟩ => show r.val = if R = 1 then 0 else r.val; have := r.isLt; split <;> omega
    | ⟨1, _⟩ => rfl)]
  rw [broadcastInDim_apply _ f.h1 _ (ix2 r 0) (ix1 r) (fun a => by
    match a with
    | ⟨0, _⟩ => show r.val = if R = 1 then 0 else r.val; have := r.isLt; split <;> omega)]
  show ((((BitVec.ofNat 32 r.val).toInt : ℤ) : ℝ) : EReal) = _
  have hr : r.val < 2 ^ 31 := lt_trans r.isLt f.hR
  have e : (BitVec.ofNat 32 r.val).toInt = (r.val : ℤ) := by
    rw [BitVec.toInt_eq_toNat_cond, BitVec.toNat_ofNat]
    omega
  rw [e, Int.cast_natCast]

end Encoder
-- ==== Proof.EVox.lean ====
module

public import proofs.«01_k».proof.Proof.ELayer

@[expose] public section

/-! The encoder kernel's voxels: the points' cells counted by products of indicator matrices, and marked where the count
is positive. Read by index: a voxel is one where some point falls in its cell, and zero elsewhere. -/

noncomputable section

namespace Encoder

open Idealize.ShloMosaic Idealize.ShloMosaic.ValueIdx

/-- The cell of a coordinate on one axis, as a word. -/
def cell (x : Ideal .f32) : BitVec 32 :=
  IntOp.minsi 31#32 (IntOp.maxsi 0#32 (FloatOps.fptosi 32 (FloatOps.mulf (FloatOps.mulf (FloatOps.addf x
    (Scalar.ofBits .f32 0x3F800000#32)) (Scalar.ofBits .f32 0x3F000000#32)) (Scalar.ofBits .f32 0x41F80000#32))))

theorem clamp_lt (v : BitVec 32) : (IntOp.minsi 31#32 (IntOp.maxsi 0#32 v)).toNat < 32 := by
  unfold IntOp.minsi IntOp.maxsi
  have h0 : (0#32 : BitVec 32).toInt = 0 := by decide
  have h31 : (31#32 : BitVec 32).toInt = 31 := by decide
  have hv := BitVec.toInt_eq_toNat_cond v
  have hlt := v.isLt
  by_cases e1 : v.slt 0#32 = true
  · rw [if_pos e1]
    decide
  · rw [if_neg e1]
    by_cases e2 : (31#32 : BitVec 32).slt v = true
    · rw [if_pos e2]
      decide
    · rw [if_neg e2]
      simp only [BitVec.slt, h0, h31, decide_eq_true_eq] at e1 e2
      split at hv <;> omega

theorem cell_lt (x : Ideal .f32) : (cell x).toNat < 32 := clamp_lt _

/-- The place of a cell in the row-major order of the voxels, as a word. -/
def place (x y z : BitVec 32) : BitVec 32 :=
  IntOp.addi (IntOp.addi (IntOp.muli z 1024#32) (IntOp.muli y 32#32)) x

theorem place_toNat (x y z : BitVec 32) (hx : x.toNat < 32) (hy : y.toNat < 32) (hz : z.toNat < 32) :
    (place x y z).toNat = z.toNat * 1024 + y.toNat * 32 + x.toNat := by
  show ((z * 1024#32 + y * 32#32) + x).toNat = _
  rw [BitVec.toNat_add, BitVec.toNat_add, BitVec.toNat_mul, BitVec.toNat_mul]
  show ((z.toNat * 1024 % 2 ^ 32 + y.toNat * 32 % 2 ^ 32) % 2 ^ 32 + x.toNat) % 2 ^ 32 = _
  omega

theorem low_toInt (v : BitVec 32) : (IntOp.andi v 255#32).toInt = ((v.toNat % 256 : ℕ) : Int) := by
  have h : (IntOp.andi v 255#32).toNat = v.toNat % 256 := by
    show (v &&& 255#32).toNat = _
    rw [BitVec.toNat_and]
    exact Nat.and_two_pow_sub_one_eq_mod v.toNat 8
  rw [BitVec.toInt_eq_toNat_cond, h]
  rw [if_pos (by omega)]

theorem high_toInt (v : BitVec 32) (h : v.toNat < 32768) : (IntOp.shrsi .vector v 8#32).toInt = ((v.toNat / 256 : ℕ) : Int) := by
  unfold IntOp.shrsi
  rw [if_pos (by decide)]
  show (v.sshiftRight 8).toInt = _
  rw [BitVec.toInt_sshiftRight, BitVec.toInt_eq_toNat_cond, if_pos (by omega), Int.shiftRight_eq_div_pow]
  omega

/-- One or zero, at two integers read as extended reals. -/
theorem pick_eq (n m : ℕ) :
    (Scalar.select (FloatOps.cmpf (F := Ideal) (φ := .bf16) .oeq (((n : ℝ) : EReal) : Ideal .bf16) (((((m : ℕ) : Int) : ℝ) : EReal) : Ideal .bf16))
      (Scalar.ofBits .bf16 0x3F80#16) (Scalar.ofBits .bf16 0x0000#16) : Ideal .bf16) = if m = n then 1 else 0 := by
  have h1 : (Scalar.ofBits .bf16 0x3F80#16 : Ideal .bf16) = 1 := by
    show Ideal.ofBits .bf16 0x3F80#16 = 1
    simp only [Ideal.ofBits, Ideal.ieee]
    simp
    rw [← EReal.coe_mul]
    norm_num
  have h0 : (Scalar.ofBits .bf16 0x0000#16 : Ideal .bf16) = 0 := by
    show Ideal.ofBits .bf16 0x0000#16 = 0
    simp [Ideal.ofBits, Ideal.ieee]
  rw [h1, h0]
  show Scalar.select (BitVec.ofBool (decide (((n : ℝ) : EReal) = ((((m : ℕ) : Int) : ℝ) : EReal)))) (1 : EReal) 0 = _
  by_cases e : m = n
  · subst e
    simp [Scalar.select]
  · have e' : ¬ ((n : ℝ) : EReal) = ((((m : ℕ) : Int) : ℝ) : EReal) := by
      intro h
      rw [EReal.coe_eq_coe_iff] at h
      push_cast at h
      exact e (Nat.cast_injective h).symm
    rw [if_neg e]
    rw [decide_eq_false e']
    rfl

/-- The cells of the points of chunk `c` on the three axes, as words. -/
def cells (P : FVec Ideal ⟨2, ![3, 32768]⟩ .f32) (c : Fin 8) : IVec ⟨2, ![3, 4096]⟩ 32 :=
  minsi (broadcast ⟨2, ![3, 4096]⟩ 31#32) (maxsi (broadcast ⟨2, ![3, 4096]⟩ 0#32)
    (fptosi 32 (mulf (mulf (addf (extractStridedSlice ⟨2, ![3, 4096]⟩ ![0, 4096 * c.val] P
      ((by decide : ∀ c : Fin 8, (⟨2, ![3, 32768]⟩ : Shape).Slices ![0, 4096 * c.val] ⟨2, ![3, 4096]⟩) c))
      (broadcast ⟨2, ![3, 4096]⟩ (Scalar.ofBits .f32 0x3F800000#32)))
      (broadcast ⟨2, ![3, 4096]⟩ (Scalar.ofBits .f32 0x3F000000#32)))
      (broadcast ⟨2, ![3, 4096]⟩ (Scalar.ofBits .f32 0x41F80000#32)))))

/-- The places of points given their cells, as words. -/
def placesOf (v : IVec ⟨2, ![3, 4096]⟩ 32) : IVec ⟨2, ![1, 4096]⟩ 32 :=
  addi (addi (muli (extractStridedSlice ⟨2, ![1, 4096]⟩ ![2, 0] v (by decide)) (broadcast ⟨2, ![1, 4096]⟩ 1024#32))
    (muli (extractStridedSlice ⟨2, ![1, 4096]⟩ ![1, 0] v (by decide)) (broadcast ⟨2, ![1, 4096]⟩ 32#32)))
    (extractStridedSlice ⟨2, ![1, 4096]⟩ ![0, 0] v (by decide))

/-- The places of the points of chunk `c`, as words. -/
def places (P : FVec Ideal ⟨2, ![3, 32768]⟩ .f32) (c : Fin 8) : IVec ⟨2, ![1, 4096]⟩ 32 := placesOf (cells P c)

/-- The indicator matrix of a row of words: one where the word is the row's number. -/
def marks {n : ℕ} (hc : (⟨2, ![n, 4096]⟩ : Shape).ShapeCasts ⟨2, ![n, 4096]⟩) (hb : (⟨2, ![1, 4096]⟩ : Shape).Broadcasts ⟨2, ![n, 4096]⟩)
    (I : FVec Ideal ⟨2, ![n, 4096]⟩ .bf16) (v : IVec ⟨2, ![1, 4096]⟩ 32) : FVec Ideal ⟨2, ![n, 4096]⟩ .bf16 :=
  select (cmpf .oeq (shapeCast ⟨2, ![n, 4096]⟩ I hc) (broadcastTo ⟨2, ![n, 4096]⟩ (sitofp .bf16 v) hb))
    (broadcast ⟨2, ![n, 4096]⟩ (Scalar.ofBits .bf16 0x3F80#16)) (broadcast ⟨2, ![n, 4096]⟩ (Scalar.ofBits .bf16 0x0000#16))

/-- How many points of chunk `c` have each high and low part. -/
def tally (P : FVec Ideal ⟨2, ![3, 32768]⟩ .f32) (I : FVec Ideal ⟨2, ![128, 4096]⟩ .bf16) (J : FVec Ideal ⟨2, ![256, 4096]⟩ .bf16)
    (c : Fin 8) : FVec Ideal ⟨2, ![128, 256]⟩ .f32 :=
  FloatOps.matmul (DotDims.transposedRhs 128 4096 256) none
    (marks (by decide) (by decide) I (shrsi (places P c) (broadcast ⟨2, ![1, 4096]⟩ 8#32)))
    (marks (by decide) (by decide) J (andi (places P c) (broadcast ⟨2, ![1, 4096]⟩ 255#32)))
    (constant ⟨2, ![128, 256]⟩ .f32 0x00000000#32)

/-- The counts of the even chunks and of the odd ones. -/
def tallies (P : FVec Ideal ⟨2, ![3, 32768]⟩ .f32) (I : FVec Ideal ⟨2, ![128, 4096]⟩ .bf16) (J : FVec Ideal ⟨2, ![256, 4096]⟩ .bf16)
    (a b c d : Fin 8) : FVec Ideal ⟨2, ![128, 256]⟩ .f32 :=
  addf (addf (addf (addf (broadcast ⟨2, ![128, 256]⟩ (Scalar.ofBits .f32 0x00000000#32)) (tally P I J a)) (tally P I J b))
    (tally P I J c)) (tally P I J d)

/-- Ones where the count is positive. -/
def flags (n : FVec Ideal ⟨2, ![128, 256]⟩ .f32) : FVec Ideal ⟨2, ![128, 256]⟩ .f32 :=
  select (cmpf .ogt n (broadcast ⟨2, ![128, 256]⟩ (Scalar.ofBits .f32 0x00000000#32)))
    (broadcast ⟨2, ![128, 256]⟩ (Scalar.ofBits .f32 0x3F800000#32)) (broadcast ⟨2, ![128, 256]⟩ (Scalar.ofBits .f32 0x00000000#32))

/-- The flags laid out as voxels. -/
def unfoldFlags (v : FVec Ideal ⟨2, ![128, 256]⟩ .f32)
    (hc : Shape.Concatenates (List.replicate 8 ⟨3, ![128, 1, 32]⟩) ⟨3, ![128, 8, 32]⟩ 1) : FVec Ideal ⟨3, ![32, 32, 32]⟩ .f32 :=
  shapeCast ⟨3, ![32, 32, 32]⟩ (shapeCast ⟨4, ![32, 4, 8, 32]⟩ (concatenate ⟨3, ![128, 8, 32]⟩ 1
    (List.ofFn fun n : Fin 8 => (⟨⟨3, ![128, 1, 32]⟩, shapeCast ⟨3, ![128, 1, 32]⟩ (extractStridedSlice ⟨2, ![128, 32]⟩ ![0, 32 * n.val] v
      ((by decide : ∀ n : Fin 8, (⟨2, ![128, 256]⟩ : Shape).Slices ![0, 32 * n.val] ⟨2, ![128, 32]⟩) n)) (by decide)⟩ :
      (s : Shape) × (s.Idx → Ideal .f32))) hc) (by decide)) (by decide)

/-- The voxels. -/
def voxels (P : FVec Ideal ⟨2, ![3, 32768]⟩ .f32) (I : FVec Ideal ⟨2, ![128, 4096]⟩ .bf16) (J : FVec Ideal ⟨2, ![256, 4096]⟩ .bf16)
    (hc : Shape.Concatenates (List.replicate 8 ⟨3, ![128, 1, 32]⟩) ⟨3, ![128, 8, 32]⟩ 1) : FVec Ideal ⟨3, ![32, 32, 32]⟩ .f32 :=
  unfoldFlags (flags (addf (tallies P I J 0 2 4 6) (tallies P I J 1 3 5 7))) hc

/-- Point `k` of chunk `c`. -/
def pt (c : Fin 8) (k : Fin 4096) : Fin 32768 := ⟨4096 * c.val + k.val, by omega⟩

theorem cells_apply (P : FVec Ideal ⟨2, ![3, 32768]⟩ .f32) (c : Fin 8) (a : Fin 3) (k : Fin 4096) :
    cells P c (ix2 a k) = cell (P (ix2 a (pt c k))) := by
  have hs : extractStridedSlice ⟨2, ![3, 4096]⟩ ![0, 4096 * c.val] P
      ((by decide : ∀ c : Fin 8, (⟨2, ![3, 32768]⟩ : Shape).Slices ![0, 4096 * c.val] ⟨2, ![3, 4096]⟩) c) (ix2 a k) = P (ix2 a (pt c k)) :=
    extractStridedSlice_apply _ _ _ (ix2 a k) (ix2 a (pt c k)) (fun b => by
      match b with
      | ⟨0, _⟩ => exact (Nat.zero_add _).symm
      | ⟨1, _⟩ => rfl)
  rw [← hs]
  rfl

theorem row_apply (v : IVec ⟨2, ![3, 4096]⟩ 32) (a : Fin 3) (h : (⟨2, ![3, 4096]⟩ : Shape).Slices ![a.val, 0] ⟨2, ![1, 4096]⟩)
    (k : Fin 4096) : extractStridedSlice ⟨2, ![1, 4096]⟩ ![a.val, 0] v h (ix2 0 k) = v (ix2 a k) :=
  extractStridedSlice_apply _ _ _ (ix2 0 k) (ix2 a k) (fun b => by
    match b with
    | ⟨0, _⟩ => rfl
    | ⟨1, _⟩ => exact (Nat.zero_add _).symm)

theorem placesOf_apply (v : IVec ⟨2, ![3, 4096]⟩ 32) (k : Fin 4096) :
    placesOf v (ix2 0 k) = place (v (ix2 0 k)) (v (ix2 1 k)) (v (ix2 2 k)) := by
  rw [← row_apply v 0 (by decide) k, ← row_apply v 1 (by decide) k, ← row_apply v 2 (by decide) k]
  rfl

theorem places_apply (P : FVec Ideal ⟨2, ![3, 32768]⟩ .f32) (c : Fin 8) (k : Fin 4096) :
    places P c (ix2 0 k) = place (cell (P (ix2 0 (pt c k)))) (cell (P (ix2 1 (pt c k)))) (cell (P (ix2 2 (pt c k)))) := by
  unfold places
  rw [placesOf_apply, cells_apply, cells_apply, cells_apply]

theorem marks_apply {n : ℕ} (hc : (⟨2, ![n, 4096]⟩ : Shape).ShapeCasts ⟨2, ![n, 4096]⟩)
    (hb : (⟨2, ![1, 4096]⟩ : Shape).Broadcasts ⟨2, ![n, 4096]⟩)
    (I : FVec Ideal ⟨2, ![n, 4096]⟩ .bf16) (hI : ∀ r k, I (ix2 r k) = ((((r : Fin n).val : ℕ) : ℝ) : EReal)) (v : IVec ⟨2, ![1, 4096]⟩ 32)
    (r : Fin n) (k : Fin 4096) (m : ℕ) (hv : (v (ix2 0 k)).toInt = (m : Int)) :
    marks hc hb I v (ix2 r k) = if m = r.val then 1 else 0 := by
  rw [← pick_eq r.val m]
  unfold marks
  have e1 : shapeCast ⟨2, ![n, 4096]⟩ I hc (ix2 r k) = ((((r : Fin n).val : ℕ) : ℝ) : EReal) :=
    (shapeCast_apply _ _ (ix2 r k) (ix2 r k) rfl).trans (hI r k)
  have e2 : broadcastTo ⟨2, ![n, 4096]⟩ (sitofp .bf16 v : FVec Ideal _ .bf16) hb (ix2 r k) = ((((m : ℕ) : Int) : ℝ) : EReal) := by
    rw [broadcastTo_apply _ hb (ix2 r k) (ix2 0 k) (fun a => by
      match a with
      | ⟨0, _⟩ => rfl
      | ⟨1, _⟩ => rfl)]
    show (((v (ix2 0 k)).toInt : ℝ) : EReal) = _
    rw [hv]
  show Scalar.select (FloatOps.cmpf .oeq (shapeCast ⟨2, ![n, 4096]⟩ I hc (ix2 r k))
    (broadcastTo ⟨2, ![n, 4096]⟩ (sitofp .bf16 v : FVec Ideal _ .bf16) hb (ix2 r k))) _ _ = _
  rw [e1, e2]
  rfl

/-- The place of point `p`. -/
def spot (P : FVec Ideal ⟨2, ![3, 32768]⟩ .f32) (p : Fin 32768) : ℕ :=
  (cell (P (ix2 2 p))).toNat * 1024 + (cell (P (ix2 1 p))).toNat * 32 + (cell (P (ix2 0 p))).toNat

theorem tally_apply (P : FVec Ideal ⟨2, ![3, 32768]⟩ .f32) (I : FVec Ideal ⟨2, ![128, 4096]⟩ .bf16)
    (hI : ∀ r k, I (ix2 r k) = ((((r : Fin 128).val : ℕ) : ℝ) : EReal)) (J : FVec Ideal ⟨2, ![256, 4096]⟩ .bf16)
    (hJ : ∀ r k, J (ix2 r k) = ((((r : Fin 256).val : ℕ) : ℝ) : EReal)) (c : Fin 8) (r : Fin 128) (l : Fin 256) :
    tally P I J c (ix2 r l) = ∑ k : Fin 4096, if spot P (pt c k) = 256 * r.val + l.val then 1 else 0 := by
  unfold tally
  rw [Ideal.matmul_transposedRhs_apply]
  have h0 : (constant ⟨2, ![128, 256]⟩ .f32 0x00000000#32 : FVec Ideal _ .f32) (ix2 r l) = 0 := Ideal.ofBits_zero_f32
  rw [h0, zero_add]
  refine Finset.sum_congr rfl fun k _ => ?_
  have hp : (places P c (ix2 0 k)).toNat = spot P (pt c k) := by
    rw [places_apply]
    exact place_toNat _ _ _ (cell_lt _) (cell_lt _) (cell_lt _)
  have hlt : spot P (pt c k) < 32768 := by
    have h1 := cell_lt (P (ix2 0 (pt c k)))
    have h2 := cell_lt (P (ix2 1 (pt c k)))
    have h3 := cell_lt (P (ix2 2 (pt c k)))
    unfold spot
    omega
  have hl := l.isLt
  rw [marks_apply _ _ I hI _ r k (spot P (pt c k) / 256) (by rw [← hp]; exact high_toInt _ (by rw [hp]; exact hlt)),
    marks_apply _ _ J hJ _ l k (spot P (pt c k) % 256) (by rw [← hp]; exact low_toInt _)]
  by_cases e : spot P (pt c k) = 256 * r.val + l.val
  · rw [if_pos e, if_pos (by omega), if_pos (by omega), mul_one]
  · rw [if_neg e]
    by_cases e1 : spot P (pt c k) / 256 = r.val
    · rw [if_neg (by omega : ¬ spot P (pt c k) % 256 = l.val), mul_zero]
    · rw [if_neg e1, zero_mul]

theorem tally_nonneg (P : FVec Ideal ⟨2, ![3, 32768]⟩ .f32) (c : Fin 8) (n : ℕ) :
    (0 : EReal) ≤ ∑ k : Fin 4096, if spot P (pt c k) = n then 1 else 0 :=
  Finset.sum_nonneg fun k _ => by split <;> simp

theorem tally_pos (P : FVec Ideal ⟨2, ![3, 32768]⟩ .f32) (c : Fin 8) (n : ℕ) :
    (0 : EReal) < (∑ k : Fin 4096, if spot P (pt c k) = n then 1 else 0) ↔ ∃ k, spot P (pt c k) = n := by
  constructor
  · intro h
    by_contra hne
    have h0 : (∑ k : Fin 4096, if spot P (pt c k) = n then (1 : EReal) else 0) = 0 :=
      Finset.sum_eq_zero fun k _ => if_neg fun e => hne ⟨k, e⟩
    rw [h0] at h
    exact lt_irrefl _ h
  · rintro ⟨k, hk⟩
    have h1 : (if spot P (pt c k) = n then (1 : EReal) else 0) ≤ ∑ k : Fin 4096, if spot P (pt c k) = n then 1 else 0 :=
      Finset.single_le_sum (f := fun k : Fin 4096 => if spot P (pt c k) = n then (1 : EReal) else 0)
        (fun k _ => by split <;> simp) (Finset.mem_univ k)
    rw [if_pos hk] at h1
    exact lt_of_lt_of_le zero_lt_one h1

theorem add_pos_iff {a b : EReal} (ha : 0 ≤ a) (hb : 0 ≤ b) : 0 < a + b ↔ 0 < a ∨ 0 < b := by
  constructor
  · intro h
    by_contra hne
    have h1 : a = 0 := le_antisymm (not_lt.mp fun e => hne (Or.inl e)) ha
    have h2 : b = 0 := le_antisymm (not_lt.mp fun e => hne (Or.inr e)) hb
    rw [h1, h2, add_zero] at h
    exact lt_irrefl _ h
  · rintro (h | h)
    · exact lt_of_lt_of_le h (le_add_of_nonneg_right hb)
    · exact lt_of_lt_of_le h (le_add_of_nonneg_left ha)

theorem flags_apply (P : FVec Ideal ⟨2, ![3, 32768]⟩ .f32) (I : FVec Ideal ⟨2, ![128, 4096]⟩ .bf16)
    (hI : ∀ r k, I (ix2 r k) = ((((r : Fin 128).val : ℕ) : ℝ) : EReal)) (J : FVec Ideal ⟨2, ![256, 4096]⟩ .bf16)
    (hJ : ∀ r k, J (ix2 r k) = ((((r : Fin 256).val : ℕ) : ℝ) : EReal)) (r : Fin 128) (l : Fin 256) [Decidable (∃ p, spot P p = 256 * r.val + l.val)] :
    flags (addf (tallies P I J 0 2 4 6) (tallies P I J 1 3 5 7)) (ix2 r l)
      = if ∃ p, spot P p = 256 * r.val + l.val then Scalar.ofBits .f32 0x3F800000#32 else 0 := by
  have hz : (Scalar.ofBits .f32 0x00000000#32 : Ideal .f32) = 0 := Ideal.ofBits_zero_f32
  have ht := fun c => tally_apply P I hI J hJ c r l
  have hp := fun c => tally_pos P c (256 * r.val + l.val)
  have hn := fun c => tally_nonneg P c (256 * r.val + l.val)
  have key : ∀ a b c d : Fin 8, tallies P I J a b c d (ix2 r l)
      = tally P I J a (ix2 r l) + tally P I J b (ix2 r l) + tally P I J c (ix2 r l) + tally P I J d (ix2 r l) := by
    intro a b c d
    show (Scalar.ofBits .f32 0x00000000#32 : Ideal .f32) + _ + _ + _ + _ = _
    rw [hz, zero_add]
  have hnn : ∀ a b c d : Fin 8, 0 ≤ tallies P I J a b c d (ix2 r l) := by
    intro a b c d
    rw [key, ht, ht, ht, ht]
    exact add_nonneg (add_nonneg (add_nonneg (hn a) (hn b)) (hn c)) (hn d)
  have hpp : ∀ a b c d : Fin 8, 0 < tallies P I J a b c d (ix2 r l)
      ↔ (((∃ k, spot P (pt a k) = 256 * r.val + l.val) ∨ (∃ k, spot P (pt b k) = 256 * r.val + l.val))
        ∨ (∃ k, spot P (pt c k) = 256 * r.val + l.val)) ∨ (∃ k, spot P (pt d k) = 256 * r.val + l.val) := by
    intro a b c d
    rw [key, ht, ht, ht, ht, add_pos_iff (add_nonneg (add_nonneg (hn a) (hn b)) (hn c)) (hn d),
      add_pos_iff (add_nonneg (hn a) (hn b)) (hn c), add_pos_iff (hn a) (hn b), hp, hp, hp, hp]
  have hall : (0 < addf (tallies P I J 0 2 4 6) (tallies P I J 1 3 5 7) (ix2 r l)) ↔ ∃ p, spot P p = 256 * r.val + l.val := by
    show 0 < tallies P I J 0 2 4 6 (ix2 r l) + tallies P I J 1 3 5 7 (ix2 r l) ↔ _
    rw [add_pos_iff (hnn _ _ _ _) (hnn _ _ _ _), hpp, hpp]
    constructor
    · rintro ((((⟨k, h⟩ | ⟨k, h⟩) | ⟨k, h⟩) | ⟨k, h⟩) | (((⟨k, h⟩ | ⟨k, h⟩) | ⟨k, h⟩) | ⟨k, h⟩)) <;> exact ⟨_, h⟩
    · rintro ⟨p, h⟩
      have hlt := p.isLt
      have e : p = pt ⟨p.val / 4096, by omega⟩ ⟨p.val % 4096, by omega⟩ := Fin.ext (by
        show p.val = 4096 * (p.val / 4096) + p.val % 4096
        omega)
      rw [e] at h
      generalize (⟨p.val / 4096, by omega⟩ : Fin 8) = c at h
      have hc : c = 0 ∨ c = 1 ∨ c = 2 ∨ c = 3 ∨ c = 4 ∨ c = 5 ∨ c = 6 ∨ c = 7 := by omega
      rcases hc with rfl | rfl | rfl | rfl | rfl | rfl | rfl | rfl
      · exact Or.inl (Or.inl (Or.inl (Or.inl ⟨_, h⟩)))
      · exact Or.inr (Or.inl (Or.inl (Or.inl ⟨_, h⟩)))
      · exact Or.inl (Or.inl (Or.inl (Or.inr ⟨_, h⟩)))
      · exact Or.inr (Or.inl (Or.inl (Or.inr ⟨_, h⟩)))
      · exact Or.inl (Or.inl (Or.inr ⟨_, h⟩))
      · exact Or.inr (Or.inl (Or.inr ⟨_, h⟩))
      · exact Or.inl (Or.inr ⟨_, h⟩)
      · exact Or.inr (Or.inr ⟨_, h⟩)
  show Scalar.select (BitVec.ofBool (decide ((Scalar.ofBits .f32 0x00000000#32 : Ideal .f32)
    < addf (tallies P I J 0 2 4 6) (tallies P I J 1 3 5 7) (ix2 r l)))) (Scalar.ofBits .f32 0x3F800000#32 : Ideal .f32)
      (Scalar.ofBits .f32 0x00000000#32) = _
  rw [hz]
  by_cases e : ∃ p, spot P p = 256 * r.val + l.val
  · rw [if_pos e, decide_eq_true (hall.mpr e)]
    rfl
  · rw [if_neg e, decide_eq_false (fun h => e (hall.mp h))]
    rfl

theorem unfoldFlags_apply (v : FVec Ideal ⟨2, ![128, 256]⟩ .f32)
    (hc : Shape.Concatenates (List.replicate 8 ⟨3, ![128, 1, 32]⟩) ⟨3, ![128, 8, 32]⟩ 1) (z y x : Fin 32) :
    unfoldFlags v hc (ix3 z y x) = v (ix2 ⟨z.val * 4 + y.val / 8, by omega⟩ ⟨(y.val % 8) * 32 + x.val, by omega⟩) := by
  unfold unfoldFlags
  rw [shapeCast_apply _ _ (ix3 z y x) (ix4 z (⟨y.val / 8, by omega⟩ : Fin 4) (⟨y.val % 8, by omega⟩ : Fin 8) x) (by
    rw [Shape.rowMajor_val_three, Shape.rowMajor_val_four]
    show ((z.val * 4 + y.val / 8) * 8 + y.val % 8) * 32 + x.val = (z.val * 32 + y.val) * 32 + x.val
    omega)]
  rw [shapeCast_apply _ _ (ix4 z (⟨y.val / 8, by omega⟩ : Fin 4) (⟨y.val % 8, by omega⟩ : Fin 8) x)
    (ix3 (⟨z.val * 4 + y.val / 8, by omega⟩ : Fin 128) (⟨y.val % 8, by omega⟩ : Fin 8) x) (by
    rw [Shape.rowMajor_val_three, Shape.rowMajor_val_four]
    rfl)]
  refine (concatenate_ofFn_unit_apply (t := ⟨3, ![128, 8, 32]⟩) (s₁ := ⟨3, ![128, 1, 32]⟩) 1 _ _ rfl rfl
    (ix3 (⟨z.val * 4 + y.val / 8, by omega⟩ : Fin 128) (⟨y.val % 8, by omega⟩ : Fin 8) x)
    (⟨y.val % 8, by omega⟩ : Fin 8) rfl (ix3 (⟨z.val * 4 + y.val / 8, by omega⟩ : Fin 128) 0 x) (fun a ha => by
      match a with
      | ⟨0, _⟩ => rfl
      | ⟨1, _⟩ => exact absurd rfl ha
      | ⟨2, _⟩ => rfl)).trans ?_
  rw [shapeCast_apply _ _ (ix3 (⟨z.val * 4 + y.val / 8, by omega⟩ : Fin 128) 0 x)
    (ix2 (⟨z.val * 4 + y.val / 8, by omega⟩ : Fin 128) x) (by
    rw [Shape.rowMajor_val_two, Shape.rowMajor_val_three]
    show (z.val * 4 + y.val / 8) * 32 + x.val = ((z.val * 4 + y.val / 8) * 1 + 0) * 32 + x.val
    omega)]
  exact extractStridedSlice_apply _ _ _ (ix2 (⟨z.val * 4 + y.val / 8, by omega⟩ : Fin 128) x)
    (ix2 ⟨z.val * 4 + y.val / 8, by omega⟩ ⟨(y.val % 8) * 32 + x.val, by omega⟩) (fun a => by
    match a with
    | ⟨0, _⟩ => exact (Nat.zero_add _).symm
    | ⟨1, _⟩ =>
      show y.val % 8 * 32 + x.val = 32 * (y.val % 8) + x.val
      omega)

theorem voxels_apply (P : FVec Ideal ⟨2, ![3, 32768]⟩ .f32) (I : FVec Ideal ⟨2, ![128, 4096]⟩ .bf16)
    (hI : ∀ r k, I (ix2 r k) = ((((r : Fin 128).val : ℕ) : ℝ) : EReal)) (J : FVec Ideal ⟨2, ![256, 4096]⟩ .bf16)
    (hJ : ∀ r k, J (ix2 r k) = ((((r : Fin 256).val : ℕ) : ℝ) : EReal))
    (hc : Shape.Concatenates (List.replicate 8 ⟨3, ![128, 1, 32]⟩) ⟨3, ![128, 8, 32]⟩ 1) (z y x : Fin 32)
    [Decidable (∃ p, (cell (P (ix2 2 p))).toNat = z.val ∧ (cell (P (ix2 1 p))).toNat = y.val ∧ (cell (P (ix2 0 p))).toNat = x.val)] :
    voxels P I J hc (ix3 z y x)
      = if ∃ p, (cell (P (ix2 2 p))).toNat = z.val ∧ (cell (P (ix2 1 p))).toNat = y.val ∧ (cell (P (ix2 0 p))).toNat = x.val
        then Scalar.ofBits .f32 0x3F800000#32 else 0 := by
  classical
  unfold voxels
  rw [unfoldFlags_apply, flags_apply P I hI J hJ]
  refine if_congr ?_ rfl rfl
  refine exists_congr fun p => ?_
  have h1 := cell_lt (P (ix2 0 p))
  have h2 := cell_lt (P (ix2 1 p))
  have h3 := cell_lt (P (ix2 2 p))
  unfold spot
  show _ = 256 * (z.val * 4 + y.val / 8) + (y.val % 8 * 32 + x.val) ↔ _
  omega

end Encoder
-- ==== Proof.EBridge.lean ====
module

public import proofs.«01_k».proof.Proof.ELayer
public import proofs.«01_k».proof.Proof.EVox
public import proofs.«01_k».proof.Proof.Gen.Kernel2Ideal.Frame

@[expose] public section

set_option maxRecDepth 16384

/-! What the encoder kernel's body leaves in its output block, as the voxels and the layers on its input blocks. -/

noncomputable section

namespace Encoder

open Idealize.ShloMosaic Idealize.ShloMosaic.ValueIdx Cert.Kernel2Ideal Cert.Kernel2Ideal.Gen

/-- One tap's weight matrix, loaded from the nine. -/
def wl {L N : ℕ} (x : Vec Ideal ⟨3, ![9, L, N]⟩ .f32) (t : Fin 9) : FVec Ideal ⟨3, ![1, L, N]⟩ .f32 :=
  View.ld x (Rect.unit (s := ⟨3, ![9, L, N]⟩) ![t.val, 0, 0] ![1, L, N] (fun a => by
    match a with
    | ⟨0, _⟩ => exact t.isLt
    | ⟨1, _⟩ => exact (Nat.zero_add L).le
    | ⟨2, _⟩ => exact (Nat.zero_add N).le))

theorem ef1 : EFacts 16 32 34 32 128 256 := by constructor <;> decide
theorem ef2 : EFacts 8 16 18 128 128 64 := by constructor <;> decide
theorem ef3 : EFacts 4 8 10 128 128 16 := by constructor <;> decide
theorem ep0 : EPad 32 33 34 32 := by constructor <;> decide
theorem ep1 : EPad 16 17 18 128 := by constructor <;> decide
theorem ep2 : EPad 8 9 10 128 := by constructor <;> decide

section
variable (x0 : Vec Ideal S1x3x32768 .f32) (x1 : Vec Ideal S128x4096 .bf16) (x2 : Vec Ideal S256x4096 .bf16)
  (x3 : Vec Ideal S9x32x128 .f32) (x4 : Vec Ideal S1x128 .f32) (x5 : Vec Ideal S9x128x128 .f32) (x6 : Vec Ideal S1x128 .f32)
  (x7 : Vec Ideal S9x128x128 .f32) (x8 : Vec Ideal S1x128 .f32)

/-- The block's voxels. -/
def blockVox : FVec Ideal ⟨3, ![32, 32, 32]⟩ .f32 :=
  voxels (k0_pay2 (View.ld x0 r0_0)) (View.ld x1 r0_1) (View.ld x2 r0_2)
    concatenates_S128x1x32_S128x1x32_S128x1x32_S128x1x32_S128x1x32_S128x1x32_S128x1x32_S128x1x32_S128x8x32_d1

theorem in1_eq : k0_pay66 x0 x1 x2 x3 x4 x5 x6 x7 x8 = ePad ep0 (blockVox x0 x1 x2) := by
  rfl

theorem in2_eq : k0_pay69 x0 x1 x2 x3 x4 x5 x6 x7 x8
    = ePad ep1 (eLayer ef1 (k0_pay66 x0 x1 x2 x3 x4 x5 x6 x7 x8) (wl x3) (View.ld x4 r0_12)) := by
  rfl

theorem in3_eq : k0_pay72 x0 x1 x2 x3 x4 x5 x6 x7 x8
    = ePad ep2 (eLayer ef2 (k0_pay69 x0 x1 x2 x3 x4 x5 x6 x7 x8) (wl x5) (View.ld x6 r0_12)) := by
  rfl

/-- The block's features as rows: the last space axis and the channels together in the columns. -/
def blockFeat : FVec Ideal ⟨3, ![4, 4, 128]⟩ .f32 :=
  eLayer ef3 (ePad ep2 (eLayer ef2 (ePad ep1 (eLayer ef1 (ePad ep0 (blockVox x0 x1 x2)) (wl x3) (View.ld x4 r0_12)))
    (wl x5) (View.ld x6 r0_12))) (wl x7) (View.ld x8 r0_12)

theorem out_eq : out0_9 x0 x1 x2 x3 x4 x5 x6 x7 x8
    = View.canon [⟨r0_22, shapeCast ⟨3, ![1, 16, 128]⟩ (shapeCast ⟨2, ![16, 128]⟩ (blockFeat x0 x1 x2 x3 x4 x5 x6 x7 x8) (by decide))
        (by decide)⟩] := by
  unfold blockFeat
  rw [← in1_eq x0 x1 x2 x3 x4 x5 x6 x7 x8, ← in2_eq, ← in3_eq]
  rfl

end

end Encoder
-- ==== Proof.EHost.lean ====
module

public import proofs.«01_k».proof.Proof.EHostOps
public import proofs.«01_k».proof.Proof.EBridge
public import Idealize.ShloMosaic.Lib.StableHlo.RunRead

@[expose] public section

set_option maxRecDepth 16384

/-! The arrays the encoder's host code prepares before the call, as functions of the arguments, and the blocks the body
finds of them. -/

noncomputable section

namespace Encoder

open Idealize.ShloMosaic Idealize.ShloMosaic.TcCoe Idealize.ShloMosaic.ValueIdx Idealize.SL.Sem
open Cert.Kernel2Ideal Cert.Kernel2Ideal.Gen

theorem sf1 : SFacts 8 1 32 16 32 128 := by constructor <;> decide
theorem sf2 : SFacts 16 8 16 8 128 128 := by constructor <;> decide
theorem sf3 : SFacts 32 16 8 4 128 128 := by constructor <;> decide
theorem tf1 : TFacts 8 16 128 := by constructor <;> decide
theorem tf2 : TFacts 16 8 128 := by constructor <;> decide
theorem tf3 : TFacts 32 4 128 := by constructor <;> decide
theorem rf1 : RFacts 128 4096 := by constructor <;> decide
theorem rf2 : RFacts 256 4096 := by constructor <;> decide

section
variable (m : (ℓ : Loc nD τ sig) → Buf (Elt Ideal) ℓ) (c : Dev nD)

theorem V19 : V m c main_v19 = mats sf1 (m ((c : Thread nD τ).loc main_arg1)) := by
  simp only [V, hostOps0, List.flatten_cons, List.flatten_nil, List.append_nil, List.cons_append, List.nil_append]
  after_reads_simp
  try rfl

theorem V39 : V m c main_v39 = mats sf2 (m ((c : Thread nD τ).loc main_arg3)) := by
  simp only [V, hostOps0, List.flatten_cons, List.flatten_nil, List.append_nil, List.cons_append, List.nil_append]
  after_reads_simp
  try rfl

theorem V59 : V m c main_v59 = mats sf3 (m ((c : Thread nD τ).loc main_arg5)) := by
  simp only [V, hostOps0, List.flatten_cons, List.flatten_nil, List.append_nil, List.cons_append, List.nil_append]
  after_reads_simp
  try rfl

theorem V63 : V m c main_v63 = tile tf1 (m ((c : Thread nD τ).loc main_arg2)) := by
  simp only [V, hostOps0, List.flatten_cons, List.flatten_nil, List.append_nil, List.cons_append, List.nil_append]
  after_reads_simp
  try rfl

theorem V67 : V m c main_v67 = tile tf2 (m ((c : Thread nD τ).loc main_arg4)) := by
  simp only [V, hostOps0, List.flatten_cons, List.flatten_nil, List.append_nil, List.cons_append, List.nil_append]
  after_reads_simp
  try rfl

theorem V71 : V m c main_v71 = tile tf3 (m ((c : Thread nD τ).loc main_arg6)) := by
  simp only [V, hostOps0, List.flatten_cons, List.flatten_nil, List.append_nil, List.cons_append, List.nil_append]
  after_reads_simp
  try rfl

theorem V75 : V m c main_v75 = rowNo rf1 := by
  simp only [V, hostOps0, List.flatten_cons, List.flatten_nil, List.append_nil, List.cons_append, List.nil_append]
  after_reads_simp
  try rfl

theorem V79 : V m c main_v79 = rowNo rf2 := by
  simp only [V, hostOps0, List.flatten_cons, List.flatten_nil, List.append_nil, List.cons_append, List.nil_append]
  after_reads_simp
  try rfl

end

theorem at0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem at1 : ∀ t : Fin cfg0.N, win0_1.index t 0 = 0 ∧ win0_1.index t 1 = 0 :=
  (by decide +kernel : ∀ t : Fin grid0.N, win0_1.index t 0 = 0 ∧ win0_1.index t 1 = 0)

theorem at2 : ∀ t : Fin cfg0.N, win0_2.index t 0 = 0 ∧ win0_2.index t 1 = 0 :=
  (by decide +kernel : ∀ t : Fin grid0.N, win0_2.index t 0 = 0 ∧ win0_2.index t 1 = 0)

theorem at3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem at4 : ∀ t : Fin cfg0.N, win0_4.index t 0 = 0 ∧ win0_4.index t 1 = 0 :=
  (by decide +kernel : ∀ t : Fin grid0.N, win0_4.index t 0 = 0 ∧ win0_4.index t 1 = 0)

theorem at5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

theorem at6 : ∀ t : Fin cfg0.N, win0_6.index t 0 = 0 ∧ win0_6.index t 1 = 0 :=
  (by decide +kernel : ∀ t : Fin grid0.N, win0_6.index t 0 = 0 ∧ win0_6.index t 1 = 0)

theorem at7' : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)

theorem at8' : ∀ t : Fin cfg0.N, win0_8.index t 0 = 0 ∧ win0_8.index t 1 = 0 :=
  (by decide +kernel : ∀ t : Fin grid0.N, win0_8.index t 0 = 0 ∧ win0_8.index t 1 = 0)

theorem at9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)

/-- The image a grid point works on. -/
def ptB (t : Fin cfg0.N) : Fin 64 := ⟨t.val, by have := t.isLt; have h : cfg0.N = 64 := N_0; omega⟩

theorem blk0 (A : Vec Ideal S64x3x32768 .f32) (t : Fin cfg0.N) (v : Fin 3) (w : Fin 32768) :
    ((cfg0.win 0).blk t).view.read (Elt Ideal) A (ix3 0 v w) = A (ix3 (ptB t) v w) := by
  have h := at0 t
  rw [View.read_apply]
  show A _ = A _
  refine congrArg A (funext fun a => Fin.ext ?_)
  match a with
  | ⟨0, _⟩ => show win0_0.index t 0 * 1 + 1 * 0 = t.val; rw [h.1]; all_goals omega
  | ⟨1, _⟩ => show win0_0.index t 1 * 3 + 1 * v.val = v.val; rw [h.2.1]; all_goals omega
  | ⟨2, _⟩ => show win0_0.index t 2 * 32768 + 1 * w.val = w.val; rw [h.2.2]; all_goals omega

theorem blk1 (A : Vec Ideal S128x4096 .bf16) (t : Fin cfg0.N) (u : Fin 128) (v : Fin 4096) :
    ((cfg0.win 1).blk t).view.read (Elt Ideal) A (ix2 u v) = A (ix2 u v) := by
  have h := at1 t
  rw [View.read_apply]
  show A _ = A _
  refine congrArg A (funext fun a => Fin.ext ?_)
  match a with
  | ⟨0, _⟩ => show win0_1.index t 0 * 128 + 1 * u.val = u.val; rw [h.1]; all_goals omega
  | ⟨1, _⟩ => show win0_1.index t 1 * 4096 + 1 * v.val = v.val; rw [h.2]; all_goals omega

theorem blk2 (A : Vec Ideal S256x4096 .bf16) (t : Fin cfg0.N) (u : Fin 256) (v : Fin 4096) :
    ((cfg0.win 2).blk t).view.read (Elt Ideal) A (ix2 u v) = A (ix2 u v) := by
  have h := at2 t
  rw [View.read_apply]
  show A _ = A _
  refine congrArg A (funext fun a => Fin.ext ?_)
  match a with
  | ⟨0, _⟩ => show win0_2.index t 0 * 256 + 1 * u.val = u.val; rw [h.1]; all_goals omega
  | ⟨1, _⟩ => show win0_2.index t 1 * 4096 + 1 * v.val = v.val; rw [h.2]; all_goals omega

theorem blk3 (A : Vec Ideal S9x32x128 .f32) (t : Fin cfg0.N) (u : Fin 9) (v : Fin 32) (w : Fin 128) :
    ((cfg0.win 3).blk t).view.read (Elt Ideal) A (ix3 u v w) = A (ix3 u v w) := by
  have h := at3 t
  rw [View.read_apply]
  show A _ = A _
  refine congrArg A (funext fun a => Fin.ext ?_)
  match a with
  | ⟨0, _⟩ => show win0_3.index t 0 * 9 + 1 * u.val = u.val; rw [h.1]; all_goals omega
  | ⟨1, _⟩ => show win0_3.index t 1 * 32 + 1 * v.val = v.val; rw [h.2.1]; all_goals omega
  | ⟨2, _⟩ => show win0_3.index t 2 * 128 + 1 * w.val = w.val; rw [h.2.2]; all_goals omega

theorem blk4 (A : Vec Ideal S1x128 .f32) (t : Fin cfg0.N) (v : Fin 128) :
    ((cfg0.win 4).blk t).view.read (Elt Ideal) A (ix2 0 v) = A (ix2 0 v) := by
  have h := at4 t
  rw [View.read_apply]
  show A _ = A _
  refine congrArg A (funext fun a => Fin.ext ?_)
  match a with
  | ⟨0, _⟩ => show win0_4.index t 0 * 1 + 1 * 0 = 0; rw [h.1]; all_goals omega
  | ⟨1, _⟩ => show win0_4.index t 1 * 128 + 1 * v.val = v.val; rw [h.2]; all_goals omega

theorem blk5 (A : Vec Ideal S9x128x128 .f32) (t : Fin cfg0.N) (u : Fin 9) (v : Fin 128) (w : Fin 128) :
    ((cfg0.win 5).blk t).view.read (Elt Ideal) A (ix3 u v w) = A (ix3 u v w) := by
  have h := at5 t
  rw [View.read_apply]
  show A _ = A _
  refine congrArg A (funext fun a => Fin.ext ?_)
  match a with
  | ⟨0, _⟩ => show win0_5.index t 0 * 9 + 1 * u.val = u.val; rw [h.1]; all_goals omega
  | ⟨1, _⟩ => show win0_5.index t 1 * 128 + 1 * v.val = v.val; rw [h.2.1]; all_goals omega
  | ⟨2, _⟩ => show win0_5.index t 2 * 128 + 1 * w.val = w.val; rw [h.2.2]; all_goals omega

theorem blk6 (A : Vec Ideal S1x128 .f32) (t : Fin cfg0.N) (v : Fin 128) :
    ((cfg0.win 6).blk t).view.read (Elt Ideal) A (ix2 0 v) = A (ix2 0 v) := by
  have h := at6 t
  rw [View.read_apply]
  show A _ = A _
  refine congrArg A (funext fun a => Fin.ext ?_)
  match a with
  | ⟨0, _⟩ => show win0_6.index t 0 * 1 + 1 * 0 = 0; rw [h.1]; all_goals omega
  | ⟨1, _⟩ => show win0_6.index t 1 * 128 + 1 * v.val = v.val; rw [h.2]; all_goals omega

theorem blk7 (A : Vec Ideal S9x128x128 .f32) (t : Fin cfg0.N) (u : Fin 9) (v : Fin 128) (w : Fin 128) :
    ((cfg0.win 7).blk t).view.read (Elt Ideal) A (ix3 u v w) = A (ix3 u v w) := by
  have h := at7' t
  rw [View.read_apply]
  show A _ = A _
  refine congrArg A (funext fun a => Fin.ext ?_)
  match a with
  | ⟨0, _⟩ => show win0_7.index t 0 * 9 + 1 * u.val = u.val; rw [h.1]; all_goals omega
  | ⟨1, _⟩ => show win0_7.index t 1 * 128 + 1 * v.val = v.val; rw [h.2.1]; all_goals omega
  | ⟨2, _⟩ => show win0_7.index t 2 * 128 + 1 * w.val = w.val; rw [h.2.2]; all_goals omega

theorem blk8 (A : Vec Ideal S1x128 .f32) (t : Fin cfg0.N) (v : Fin 128) :
    ((cfg0.win 8).blk t).view.read (Elt Ideal) A (ix2 0 v) = A (ix2 0 v) := by
  have h := at8' t
  rw [View.read_apply]
  show A _ = A _
  refine congrArg A (funext fun a => Fin.ext ?_)
  match a with
  | ⟨0, _⟩ => show win0_8.index t 0 * 1 + 1 * 0 = 0; rw [h.1]; all_goals omega
  | ⟨1, _⟩ => show win0_8.index t 1 * 128 + 1 * v.val = v.val; rw [h.2]; all_goals omega

end Encoder
-- ==== Proof.ERef.lean ====
module

public import proofs.«01_k».proof.Proof.EConv
public import proofs.«01_k».proof.Proof.EVox
public import proofs.«01_k».proof.Proof.Gen.Reference2Ideal.Read
public import Idealize.ShloMosaic.Lib.Routing.OpsPair
public import Idealize.ShloMosaic.Lib.Routing.OpsSet

@[expose] public section

set_option maxRecDepth 16384

/-! The reference's voxels read by index, and its layers as the convolution layer. -/

noncomputable section

namespace Encoder

open Idealize.ShloMosaic Idealize.ShloMosaic.ValueIdx Cert.Reference2Ideal Cert.Reference2Ideal.Gen Cert.Reference2Ideal.Read

theorem cf1 : CFacts 64 1 8 32 16 34 := by constructor <;> decide
theorem cf2 : CFacts 64 8 16 16 8 18 := by constructor <;> decide
theorem cf3 : CFacts 64 16 32 8 4 10 := by constructor <;> decide

section
variable (x0 : FVec Ideal ⟨3, ![64, 3, 32768]⟩ .f32) (x1 : FVec Ideal ⟨5, ![8, 1, 3, 3, 3]⟩ .f32) (x2 : FVec Ideal ⟨1, ![8]⟩ .f32)
  (x3 : FVec Ideal ⟨5, ![16, 8, 3, 3, 3]⟩ .f32) (x4 : FVec Ideal ⟨1, ![16]⟩ .f32) (x5 : FVec Ideal ⟨5, ![32, 16, 3, 3, 3]⟩ .f32)
  (x6 : FVec Ideal ⟨1, ![32]⟩ .f32)

theorem ref1_eq : val_main_v74 (F := Ideal) x0 x1 x2 = cLayer cf1 (val_main_v46 (F := Ideal) x0) x1 x2 := by
  rfl

theorem ref2_eq : val_main_v102 (F := Ideal) x0 x1 x2 x3 x4 = cLayer cf2 (val_main_v74 (F := Ideal) x0 x1 x2) x3 x4 := by
  rfl

theorem ref3_eq : val_main_v130 (F := Ideal) x0 x1 x2 x3 x4 x5 x6
    = cLayer cf3 (val_main_v102 (F := Ideal) x0 x1 x2 x3 x4) x5 x6 := by
  rfl

/-- The cells, axis last. -/
theorem refCell (b : Fin 64) (p : Fin 32768) (a : Fin 3) :
    val_main_v8 (F := Ideal) x0 (ix3 b p a) = cell (x0 (ix3 b a p)) := by
  have e : val_main_v0 (F := Ideal) x0 (ix3 b p a) = x0 (ix3 b a p) := by
    rw [val_main_v0_apply]
    refine congrArg x0 (funext fun d => Fin.ext ?_)
    match d with
    | ⟨0, _⟩ => rfl
    | ⟨1, _⟩ => rfl
    | ⟨2, _⟩ => rfl
  rw [← e]
  simp only [val_main_v8_apply, val_main_call0_v4_apply, val_main_call0_v3_apply, val_main_c_2_apply, val_main_call0_v2_apply,
    val_main_call0_v1_apply, val_main_call0_v0_apply, val_main_c_apply, val_main_v7_apply, val_main_v6_apply, val_main_v5_apply,
    val_main_cst_1_apply, val_main_v4_apply, val_main_v3_apply, val_main_cst_0_apply, val_main_v2_apply, val_main_v1_apply,
    val_main_cst_apply]
  rfl

theorem axisWord (v : IVec ⟨3, ![64, 32768, 3]⟩ 32) (a : Fin 3)
    (h : (⟨3, ![64, 32768, 3]⟩ : Shape).Slices ![0, 0, a.val] ⟨3, ![64, 32768, 1]⟩)
    (h' : (⟨3, ![64, 32768, 1]⟩ : Shape).ShapeCasts ⟨2, ![64, 32768]⟩) (b : Fin 64) (p : Fin 32768) :
    shapeCast ⟨2, ![64, 32768]⟩ (extractStridedSlice ⟨3, ![64, 32768, 1]⟩ ![0, 0, a.val] v h) h' (ix2 b p) = v (ix3 b p a) := by
  rw [shapeCast_apply _ h' (ix2 b p) (ix3 b p 0) (by
    rw [Shape.rowMajor_val_two, Shape.rowMajor_val_three]
    show (b.val * 32768 + p.val) * 1 + 0 = b.val * 32768 + p.val
    omega)]
  exact extractStridedSlice_apply _ _ h (ix3 b p 0) (ix3 b p a) (fun d => by
    match d with
    | ⟨0, _⟩ => exact (Nat.zero_add _).symm
    | ⟨1, _⟩ => exact (Nat.zero_add _).symm
    | ⟨2, _⟩ => rfl)

theorem wrapped (w n : BitVec 32) (h : w.toNat < 64) : Scalar.select (IntOp.cmpi .slt w 0#32) (IntOp.addi w n) w = w :=
  Routing.wrap_of_lt w _ (by
    show w.toNat < 2 ^ 31
    omega)

theorem word_b (b : Fin 64) (p : Fin 32768) : val_main_v23 (F := Ideal) (ix2 b p) = BitVec.ofNat 32 b.val := by
  have e : val_main_v17 (F := Ideal) (ix2 b p) = BitVec.ofNat 32 b.val := by
    rw [val_main_v17_apply, val_main_v16_apply, val_main_v15_apply]
  simp only [val_main_v23_apply, val_main_v22_apply, val_main_v20_apply, val_main_v19_apply, val_main_c_4_apply]
  rw [e]
  refine wrapped _ _ ?_
  have := b.isLt
  rw [BitVec.toNat_ofNat]
  omega

theorem word_z (b : Fin 64) (p : Fin 32768) : val_main_v28 (F := Ideal) x0 (ix2 b p) = cell (x0 (ix3 b 2 p)) := by
  have e : val_main_v14 (F := Ideal) x0 (ix2 b p) = cell (x0 (ix3 b 2 p)) :=
    (axisWord (val_main_v8 (F := Ideal) x0) 2 _ _ b p).trans (refCell x0 b p 2)
  simp only [val_main_v28_apply, val_main_v27_apply, val_main_v25_apply, val_main_v24_apply, val_main_c_6_apply]
  rw [e]
  exact wrapped _ _ (lt_trans (cell_lt _) (by norm_num))

theorem word_y (b : Fin 64) (p : Fin 32768) : val_main_v33 (F := Ideal) x0 (ix2 b p) = cell (x0 (ix3 b 1 p)) := by
  have e : val_main_v12 (F := Ideal) x0 (ix2 b p) = cell (x0 (ix3 b 1 p)) :=
    (axisWord (val_main_v8 (F := Ideal) x0) 1 _ _ b p).trans (refCell x0 b p 1)
  simp only [val_main_v33_apply, val_main_v32_apply, val_main_v30_apply, val_main_v29_apply, val_main_c_8_apply]
  rw [e]
  exact wrapped _ _ (lt_trans (cell_lt _) (by norm_num))

theorem word_x (b : Fin 64) (p : Fin 32768) : val_main_v38 (F := Ideal) x0 (ix2 b p) = cell (x0 (ix3 b 0 p)) := by
  have e : val_main_v10 (F := Ideal) x0 (ix2 b p) = cell (x0 (ix3 b 0 p)) :=
    (axisWord (val_main_v8 (F := Ideal) x0) 0 _ _ b p).trans (refCell x0 b p 0)
  simp only [val_main_v38_apply, val_main_v37_apply, val_main_v35_apply, val_main_v34_apply, val_main_c_10_apply]
  rw [e]
  exact wrapped _ _ (lt_trans (cell_lt _) (by norm_num))

/-- The four words of a point's place: its image and its cell on the three axes. -/
def wordAt (b : Fin 64) (p : Fin 32768) : Fin 4 → BitVec 32 :=
  ![BitVec.ofNat 32 b.val, cell (x0 (ix3 b 2 p)), cell (x0 (ix3 b 1 p)), cell (x0 (ix3 b 0 p))]

omit x0 in
theorem words4 (A0 A1 A2 A3 : IVec ⟨3, ![64, 32768, 1]⟩ 32)
    (h : Shape.Concatenates [⟨3, ![64, 32768, 1]⟩, ⟨3, ![64, 32768, 1]⟩, ⟨3, ![64, 32768, 1]⟩, ⟨3, ![64, 32768, 1]⟩] ⟨3, ![64, 32768, 4]⟩ 2)
    (b : Fin 64) (p : Fin 32768) (a : Fin 4) :
    concatenate ⟨3, ![64, 32768, 4]⟩ 2 [⟨⟨3, ![64, 32768, 1]⟩, A0⟩, ⟨⟨3, ![64, 32768, 1]⟩, A1⟩, ⟨⟨3, ![64, 32768, 1]⟩, A2⟩,
      ⟨⟨3, ![64, 32768, 1]⟩, A3⟩] h (ix3 b p a) = (![A0, A1, A2, A3] : Fin 4 → IVec ⟨3, ![64, 32768, 1]⟩ 32) a (ix3 b p 0) :=
  concatenate_ofFn_unit_apply (t := ⟨3, ![64, 32768, 4]⟩) (s₁ := ⟨3, ![64, 32768, 1]⟩) 2
    (![A0, A1, A2, A3] : Fin 4 → IVec ⟨3, ![64, 32768, 1]⟩ 32) h rfl rfl (ix3 b p a)
    a rfl (ix3 b p 0) (fun d hd => by
      match d with
      | ⟨0, _⟩ => rfl
      | ⟨1, _⟩ => rfl
      | ⟨2, _⟩ => exact absurd rfl hd)

theorem words (b : Fin 64) (p : Fin 32768) (a : Fin 4) : val_main_v43 (F := Ideal) x0 (ix3 b p a) = wordAt x0 b p a := by
  have e0 : val_main_v39 (F := Ideal) (ix3 b p 0) = BitVec.ofNat 32 b.val := by
    rw [val_main_v39_apply]
    exact word_b b p
  have e1 : val_main_v40 (F := Ideal) x0 (ix3 b p 0) = cell (x0 (ix3 b 2 p)) := by
    rw [val_main_v40_apply]
    exact word_z x0 b p
  have e2 : val_main_v41 (F := Ideal) x0 (ix3 b p 0) = cell (x0 (ix3 b 1 p)) := by
    rw [val_main_v41_apply]
    exact word_y x0 b p
  have e3 : val_main_v42 (F := Ideal) x0 (ix3 b p 0) = cell (x0 (ix3 b 0 p)) := by
    rw [val_main_v42_apply]
    exact word_x x0 b p
  unfold val_main_v43
  generalize val_main_v39 (F := Ideal) = A0 at e0 ⊢
  generalize val_main_v40 (F := Ideal) x0 = A1 at e1 ⊢
  generalize val_main_v41 (F := Ideal) x0 = A2 at e2 ⊢
  generalize val_main_v42 (F := Ideal) x0 = A3 at e3 ⊢
  refine (words4 A0 A1 A2 A3 _ b p a).trans ?_
  match a with
  | ⟨0, _⟩ => exact e0
  | ⟨1, _⟩ => exact e1
  | ⟨2, _⟩ => exact e2
  | ⟨3, _⟩ => exact e3

theorem lands (b' : Fin 64) (p : Fin 32768) (b : Fin 64) (z y x : Fin 32) :
    scatter_S64x32x32x32_S64x32768x4_S64x32768_n_0123_0123_2.resultIdx? (ix2 b' p) (val_main_v43 (F := Ideal) x0) = some (ix4 b z y x)
      ↔ b' = b ∧ (cell (x0 (ix3 b' 2 p))).toNat = z.val ∧ (cell (x0 (ix3 b' 1 p))).toNat = y.val ∧ (cell (x0 (ix3 b' 0 p))).toNat = x.val := by
  have hw : ∀ a, scatter_S64x32x32x32_S64x32768x4_S64x32768_n_0123_0123_2.window (ix2 b' p) a = 0 := by
    intro a
    match a with
    | ⟨0, _⟩ => rfl
    | ⟨1, _⟩ => rfl
    | ⟨2, _⟩ => rfl
    | ⟨3, _⟩ => rfl
  have hst : ∀ a : Fin 4, scatter_S64x32x32x32_S64x32768x4_S64x32768_n_0123_0123_2.start (ix2 b' p) (val_main_v43 (F := Ideal) x0) a
      = (wordAt x0 b' p a).toInt := by
    intro a
    rw [← words x0 b' p a]
    unfold ScatterDims.start
    rw [dif_pos ((by decide : ∀ a : Fin 4, a ∈ scatter_S64x32x32x32_S64x32768x4_S64x32768_n_0123_0123_2.scatterDimsToOperandDims) a)]
    refine congrArg (fun i => (val_main_v43 (F := Ideal) x0 i).toInt) (funext fun d => Fin.ext ?_)
    match a, d with
    | ⟨0, _⟩, ⟨0, _⟩ => rfl
    | ⟨0, _⟩, ⟨1, _⟩ => rfl
    | ⟨0, _⟩, ⟨2, _⟩ => rfl
    | ⟨1, _⟩, ⟨0, _⟩ => rfl
    | ⟨1, _⟩, ⟨1, _⟩ => rfl
    | ⟨1, _⟩, ⟨2, _⟩ => rfl
    | ⟨2, _⟩, ⟨0, _⟩ => rfl
    | ⟨2, _⟩, ⟨1, _⟩ => rfl
    | ⟨2, _⟩, ⟨2, _⟩ => rfl
    | ⟨3, _⟩, ⟨0, _⟩ => rfl
    | ⟨3, _⟩, ⟨1, _⟩ => rfl
    | ⟨3, _⟩, ⟨2, _⟩ => rfl
  have hc : ∀ w : BitVec 32, w.toNat < 64 → w.toInt = (w.toNat : Int) := by
    intro w h
    rw [BitVec.toInt_eq_toNat_cond, if_pos (by omega)]
  have hb : (BitVec.ofNat 32 b'.val).toNat = b'.val := by
    have := b'.isLt
    rw [BitVec.toNat_ofNat]
    omega
  have hb' := b'.isLt
  have h2 := cell_lt (x0 (ix3 b' 2 p))
  have h1 := cell_lt (x0 (ix3 b' 1 p))
  have h0 := cell_lt (x0 (ix3 b' 0 p))
  have i0 : (wordAt x0 b' p 0).toInt = (b'.val : Int) := (hc _ (by rw [show wordAt x0 b' p 0 = BitVec.ofNat 32 b'.val from rfl, hb]; exact hb')).trans (congrArg _ hb)
  have i1 : (wordAt x0 b' p 1).toInt = ((cell (x0 (ix3 b' 2 p))).toNat : Int) := hc _ (lt_trans h2 (by norm_num))
  have i2 : (wordAt x0 b' p 2).toInt = ((cell (x0 (ix3 b' 1 p))).toNat : Int) := hc _ (lt_trans h1 (by norm_num))
  have i3 : (wordAt x0 b' p 3).toInt = ((cell (x0 (ix3 b' 0 p))).toNat : Int) := hc _ (lt_trans h0 (by norm_num))
  rw [Routing.resultIdx?_eq_some]
  constructor
  · intro h
    have q0 := h (0 : Fin 4)
    have q1 := h (1 : Fin 4)
    have q2 := h (2 : Fin 4)
    have q3 := h (3 : Fin 4)
    rw [hst, hw, i0] at q0
    rw [hst, hw, i1] at q1
    rw [hst, hw, i2] at q2
    rw [hst, hw, i3] at q3
    change (b'.val : Int) + ((0 : ℕ) : Int) = (b.val : Int) at q0
    change ((cell (x0 (ix3 b' 2 p))).toNat : Int) + ((0 : ℕ) : Int) = (z.val : Int) at q1
    change ((cell (x0 (ix3 b' 1 p))).toNat : Int) + ((0 : ℕ) : Int) = (y.val : Int) at q2
    change ((cell (x0 (ix3 b' 0 p))).toNat : Int) + ((0 : ℕ) : Int) = (x.val : Int) at q3
    exact ⟨Fin.ext (by omega), by omega, by omega, by omega⟩
  · rintro ⟨q0, q1, q2, q3⟩ a
    subst q0
    rw [hw]
    match a with
    | ⟨0, _⟩ => exact (congrArg (· + ((0 : ℕ) : Int)) ((hst 0).trans i0)).trans (by show (b'.val : Int) + ((0 : ℕ) : Int) = (b'.val : Int); omega)
    | ⟨1, _⟩ => exact (congrArg (· + ((0 : ℕ) : Int)) ((hst 1).trans i1)).trans (by show ((cell (x0 (ix3 b' 2 p))).toNat : Int) + ((0 : ℕ) : Int) = (z.val : Int); omega)
    | ⟨2, _⟩ => exact (congrArg (· + ((0 : ℕ) : Int)) ((hst 2).trans i2)).trans (by show ((cell (x0 (ix3 b' 1 p))).toNat : Int) + ((0 : ℕ) : Int) = (y.val : Int); omega)
    | ⟨3, _⟩ => exact (congrArg (· + ((0 : ℕ) : Int)) ((hst 3).trans i3)).trans (by show ((cell (x0 (ix3 b' 0 p))).toNat : Int) + ((0 : ℕ) : Int) = (x.val : Int); omega)

theorem refVox (b : Fin 64) (z y x : Fin 32)
    [Decidable (∃ p, (cell (x0 (ix3 b 2 p))).toNat = z.val ∧ (cell (x0 (ix3 b 1 p))).toNat = y.val ∧ (cell (x0 (ix3 b 0 p))).toNat = x.val)] :
    val_main_v46 (F := Ideal) x0 (ix5 b 0 z y x)
      = if ∃ p, (cell (x0 (ix3 b 2 p))).toNat = z.val ∧ (cell (x0 (ix3 b 1 p))).toNat = y.val ∧ (cell (x0 (ix3 b 0 p))).toNat = x.val
        then (Scalar.ofBits .f32 0x3F800000#32 : Ideal .f32) else 0 := by
  have e : val_main_v46 (F := Ideal) x0 (ix5 b 0 z y x) = val_main_v45 (F := Ideal) x0 (ix4 b z y x) := by
    rw [val_main_v46_apply]
    refine congrArg (val_main_v45 (F := Ideal) x0) (funext fun d => Fin.ext ?_)
    match d with
    | ⟨0, _⟩ => rfl
    | ⟨1, _⟩ => rfl
    | ⟨2, _⟩ => rfl
    | ⟨3, _⟩ => rfl
  rw [e]
  unfold val_main_v45
  split
  · next h =>
    obtain ⟨p, hp⟩ := h
    refine Routing.scatter_set_hit _ _ _ _ (ix4 b z y x) _ (fun k _ => ?_) (ix2 b p) ((lands x0 b p b z y x).mpr ⟨rfl, hp⟩)
    rw [val_main_v44_apply]
    rfl
  · next h =>
    refine (Routing.scatter_set_miss _ _ _ _ (ix4 b z y x) (fun k hk => ?_)).trans ?_
    · have ek : k = ix2 (k 0) (k 1) := funext fun d => by
        match d with
        | ⟨0, _⟩ => rfl
        | ⟨1, _⟩ => rfl
      rw [ek] at hk
      have q := (lands x0 (k 0) (k 1) b z y x).mp hk
      rw [q.1] at q
      exact h ⟨k 1, q.2⟩
    · rw [val_main_v18_apply, val_main_cst_3_apply]
      exact Ideal.ofBits_zero_f32

end

end Encoder
-- ==== Proof.EWhole.lean ====
module

public import proofs.«01_k».proof.Proof.EHost
public import proofs.«01_k».proof.Proof.ERef
public import proofs.«01_k».proof.Proof.Gen.Kernel2Ideal.Value
public import Idealize.ShloMosaic.Lib.Pipeline.ValueKit.Tiles

@[expose] public section

set_option maxRecDepth 16384

/-! What the encoder call's result array holds after the call: the reference's features. -/

noncomputable section

namespace Encoder

open Idealize.ShloMosaic Idealize.ShloMosaic.TcCoe Idealize.ShloMosaic.ValueIdx Idealize.SL.Sem
open Cert.Kernel2Ideal Cert.Kernel2Ideal.Gen
open Cert.Reference2Ideal.Read (val_main_v46 val_main_v74 val_main_v102 val_main_v130 val_main_v131 val_main_v132)

theorem zero3 : (![0, 0, 0] : Fin 3 → Nat) = fun _ => 0 := funext fun a => by fin_cases a <;> rfl
theorem zero2 : (![0, 0] : Fin 2 → Nat) = fun _ => 0 := funext fun a => by fin_cases a <;> rfl

/-- One tap's matrix inside a layer's nine. -/
theorem wl_apply {L N : ℕ} (x : Vec Ideal ⟨3, ![9, L, N]⟩ .f32) (t : Fin 9) (l : Fin L) (n : Fin N) :
    wl x t (ix3 0 l n) = x (ix3 t l n) := by
  unfold wl
  refine View.ld_unit_apply_of x _ _ _ (ix3 0 l n) (ix3 t l n) (fun a => ?_)
  match a with
  | ⟨0, _⟩ => rfl
  | ⟨1, _⟩ => exact (Nat.zero_add _).symm
  | ⟨2, _⟩ => exact (Nat.zero_add _).symm

/-- The block's points by index. -/
theorem points_apply (x0 : Vec Ideal S1x3x32768 .f32) (a : Fin 3) (p : Fin 32768) :
    k0_pay2 (View.ld x0 r0_0) (ix2 a p) = x0 (ix3 0 a p) := by
  have e : View.ld x0 r0_0 = x0 := View.ld_unit_zero zero3 _ x0
  rw [e]
  exact shapeCast_apply x0 shapeCasts_S1x3x32768_S3x32768 (ix2 a p) (ix3 0 a p) (by
    rw [Shape.rowMajor_val_two, Shape.rowMajor_val_three]
    show (0 * 3 + a.val) * 32768 + p.val = a.val * 32768 + p.val
    omega)

section
variable (x0 : Vec Ideal S1x3x32768 .f32) (x1 : Vec Ideal S128x4096 .bf16) (x2 : Vec Ideal S256x4096 .bf16)
  (x3 : Vec Ideal S9x32x128 .f32) (x4 : Vec Ideal S1x128 .f32) (x5 : Vec Ideal S9x128x128 .f32) (x6 : Vec Ideal S1x128 .f32)
  (x7 : Vec Ideal S9x128x128 .f32) (x8 : Vec Ideal S1x128 .f32)
  (a0 : FVec Ideal ⟨3, ![64, 3, 32768]⟩ .f32) (a1 : FVec Ideal ⟨5, ![8, 1, 3, 3, 3]⟩ .f32) (a2 : FVec Ideal ⟨1, ![8]⟩ .f32)
  (a3 : FVec Ideal ⟨5, ![16, 8, 3, 3, 3]⟩ .f32) (a4 : FVec Ideal ⟨1, ![16]⟩ .f32) (a5 : FVec Ideal ⟨5, ![32, 16, 3, 3, 3]⟩ .f32)
  (a6 : FVec Ideal ⟨1, ![32]⟩ .f32) (b : Fin 64)

theorem vox_holds (h0 : ∀ a p, x0 (ix3 0 a p) = a0 (ix3 b a p)) (h1 : ∀ r k, x1 (ix2 r k) = rowNo rf1 (ix2 r k))
    (h2 : ∀ r k, x2 (ix2 r k) = rowNo rf2 (ix2 r k)) :
    Holds (C := 1) (blockVox x0 x1 x2) (val_main_v46 (F := Ideal) a0) b := by
  classical
  intro z y x c l hl
  have hc : c = 0 := Fin.ext (by have := c.isLt; show c.val = 0; omega)
  subst hc
  have e : l = x := Fin.ext (by rw [hl]; show x.val * 1 + 0 = x.val; omega)
  subst e
  have e1 : View.ld x1 r0_1 = x1 := View.ld_unit_zero zero2 _ x1
  have e2 : View.ld x2 r0_2 = x2 := View.ld_unit_zero zero2 _ x2
  refine Eq.trans ?_ (refVox a0 b z y l).symm
  unfold blockVox
  rw [e1, e2]
  refine (voxels_apply (k0_pay2 (View.ld x0 r0_0)) x1 (fun r k => (h1 r k).trans (rowNo_apply rf1 r k)) x2
    (fun r k => (h2 r k).trans (rowNo_apply rf2 r k)) _ z y l).trans (if_congr ?_ rfl rfl)
  refine exists_congr fun p => ?_
  rw [points_apply, points_apply, points_apply, h0, h0, h0]

theorem bias_holds {O d : ℕ} (f : TFacts O d 128) (x : Vec Ideal S1x128 .f32) (a : FVec Ideal ⟨1, ![O]⟩ .f32)
    (h : ∀ n, x (ix2 0 n) = tile f a (ix2 0 n)) : Tiled d (View.ld x r0_12) a := by
  intro X o n hn
  have e : View.ld x r0_12 = x := View.ld_unit_zero zero2 _ x
  rw [e, h]
  exact tile_apply f a X o n hn

theorem weights_hold {O C D d L N : ℕ} (f : SFacts O C D d L N) (x : Vec Ideal ⟨3, ![9, L, N]⟩ .f32)
    (a : FVec Ideal ⟨5, ![O, C, 3, 3, 3]⟩ .f32) (h : ∀ t l n, x (ix3 t l n) = mats f a (ix3 t l n)) : Weights D d (wl x) a := by
  intro i j x' c l X o n hl hn
  rw [wl_apply, h]
  exact mats_apply f a i j x' c l X o n hl hn

/-- A block's arrays are the ones the host prepared, and its points are image `b`. -/
structure BlockArgs : Prop where
  h0 : ∀ a p, x0 (ix3 0 a p) = a0 (ix3 b a p)
  h1 : ∀ r k, x1 (ix2 r k) = rowNo rf1 (ix2 r k)
  h2 : ∀ r k, x2 (ix2 r k) = rowNo rf2 (ix2 r k)
  h3 : ∀ t l n, x3 (ix3 t l n) = mats sf1 a1 (ix3 t l n)
  h4 : ∀ n, x4 (ix2 0 n) = tile tf1 a2 (ix2 0 n)
  h5 : ∀ t l n, x5 (ix3 t l n) = mats sf2 a3 (ix3 t l n)
  h6 : ∀ n, x6 (ix2 0 n) = tile tf2 a4 (ix2 0 n)
  h7 : ∀ t l n, x7 (ix3 t l n) = mats sf3 a5 (ix3 t l n)
  h8 : ∀ n, x8 (ix2 0 n) = tile tf3 a6 (ix2 0 n)

variable {x0 x1 x2 x3 x4 x5 x6 x7 x8 a0 a1 a2 a3 a4 a5 a6 b}

theorem feat_holds (h : BlockArgs x0 x1 x2 x3 x4 x5 x6 x7 x8 a0 a1 a2 a3 a4 a5 a6 b) :
    Holds (C := 32) (blockFeat x0 x1 x2 x3 x4 x5 x6 x7 x8) (val_main_v130 (F := Ideal) a0 a1 a2 a3 a4 a5 a6) b := by
  have l0 := vox_holds x0 x1 x2 a0 b h.h0 h.h1 h.h2
  have l1 := layer_holds ef1 cf1 rfl _ _ (ePad_apply ep0 (blockVox x0 x1 x2)) _ b l0 _ _ (weights_hold sf1 x3 a1 h.h3) _ _
    (bias_holds tf1 x4 a2 h.h4)
  rw [← ref1_eq] at l1
  have l2 := layer_holds ef2 cf2 rfl _ _ (ePad_apply ep1 _) _ b l1 _ _ (weights_hold sf2 x5 a3 h.h5) _ _
    (bias_holds tf2 x6 a4 h.h6)
  rw [← ref2_eq] at l2
  have l3 := layer_holds ef3 cf3 rfl _ _ (ePad_apply ep2 _) _ b l2 _ _ (weights_hold sf3 x7 a5 h.h7) _ _
    (bias_holds tf3 x8 a6 h.h8)
  rw [← ref3_eq] at l3
  exact l3

theorem block_eq (h : BlockArgs x0 x1 x2 x3 x4 x5 x6 x7 x8 a0 a1 a2 a3 a4 a5 a6 b) (r : Fin 16) (l : Fin 128) :
    out0_9 x0 x1 x2 x3 x4 x5 x6 x7 x8 (ix3 0 r l) = val_main_v132 (F := Ideal) a0 a1 a2 a3 a4 a5 a6 (ix3 b r l) := by
  have hr := r.isLt
  have hl := l.isLt
  rw [out_eq, View.canon_unit_zero zero3]
  rw [shapeCast_apply _ _ (ix3 0 r l) (ix2 r l) (by
    rw [Shape.rowMajor_val_two, Shape.rowMajor_val_three]
    show r.val * 128 + l.val = (0 * 16 + r.val) * 128 + l.val
    omega)]
  rw [shapeCast_apply _ _ (ix2 r l) (ix3 (⟨r.val / 4, by omega⟩ : Fin 4) (⟨r.val % 4, by omega⟩ : Fin 4) l) (by
    rw [Shape.rowMajor_val_two, Shape.rowMajor_val_three]
    show (r.val / 4 * 4 + r.val % 4) * 128 + l.val = r.val * 128 + l.val
    omega)]
  rw [feat_holds h (⟨r.val / 4, by omega⟩ : Fin 4) (⟨r.val % 4, by omega⟩ : Fin 4) (⟨l.val / 32, by omega⟩ : Fin 4)
    (⟨l.val % 32, by omega⟩ : Fin 32) l (by show l.val = l.val / 32 * 32 + l.val % 32; omega)]
  unfold val_main_v132 val_main_v131
  generalize val_main_v130 (F := Ideal) a0 a1 a2 a3 a4 a5 a6 = Y
  symm
  rw [shapeCast_apply _ _ (ix3 b r l) (ix5 b (⟨r.val / 4, by omega⟩ : Fin 4) (⟨r.val % 4, by omega⟩ : Fin 4)
    (⟨l.val / 32, by omega⟩ : Fin 4) (⟨l.val % 32, by omega⟩ : Fin 32)) (by
    rw [Shape.rowMajor_val_three, Shape.rowMajor_val_five]
    show (((b.val * 4 + r.val / 4) * 4 + r.val % 4) * 4 + l.val / 32) * 32 + l.val % 32 = (b.val * 16 + r.val) * 128 + l.val
    omega)]
  exact transpose_apply (perm := [0, 2, 3, 4, 1]) _ _ _ _ (fun a => by
    match a with
    | ⟨0, _⟩ => rfl
    | ⟨1, _⟩ => rfl
    | ⟨2, _⟩ => rfl
    | ⟨3, _⟩ => rfl
    | ⟨4, _⟩ => rfl)

end

variable (m : (ℓ : Loc nD τ sig) → Buf (Elt Ideal) ℓ) (c : Dev nD)

/-- An argument array. -/
abbrev arr (r : Ref sig .tc) : Buf (Elt Ideal) ((c : Thread nD τ).loc r) := m ((c : Thread nD τ).loc r)

/-- The whole result. -/
def G : Buf (Elt Ideal) ((c : Thread nD τ).loc main_v80) :=
  val_main_v132 (F := Ideal) (arr m c main_arg0) (arr m c main_arg1) (arr m c main_arg2) (arr m c main_arg3) (arr m c main_arg4)
    (arr m c main_arg5) (arr m c main_arg6)

theorem blockArgs (t : Fin cfg0.N) : BlockArgs (iblk m c 0 t) (iblk m c 1 t) (iblk m c 2 t) (iblk m c 3 t) (iblk m c 4 t) (iblk m c 5 t)
    (iblk m c 6 t) (iblk m c 7 t) (iblk m c 8 t) (arr m c main_arg0) (arr m c main_arg1) (arr m c main_arg2) (arr m c main_arg3)
    (arr m c main_arg4) (arr m c main_arg5) (arr m c main_arg6) (ptB t) where
  h0 a p := (blk0 (V m c main_arg0) t a p).trans (congrFun (V_main_arg0 m c) _)
  h1 r k := (blk1 (V m c main_v75) t r k).trans (congrFun (V75 m c) _)
  h2 r k := (blk2 (V m c main_v79) t r k).trans (congrFun (V79 m c) _)
  h3 u l n := (blk3 (V m c main_v19) t u l n).trans (congrFun (V19 m c) _)
  h4 n := (blk4 (V m c main_v63) t n).trans (congrFun (V63 m c) _)
  h5 u l n := (blk5 (V m c main_v39) t u l n).trans (congrFun (V39 m c) _)
  h6 n := (blk6 (V m c main_v67) t n).trans (congrFun (V67 m c) _)
  h7 u l n := (blk7 (V m c main_v59) t u l n).trans (congrFun (V59 m c) _)
  h8 n := (blk8 (V m c main_v71) t n).trans (congrFun (V71 m c) _)

/-- What a point leaves in the result's block is the whole result read there. -/
theorem block_at (t : Fin cfg0.N) (y : S1x16x128.Idx) (i : S64x16x128.Idx)
    (h0 : (i 0).val = t.val) (h1 : (i 1).val = (y 1).val) (h2 : (i 2).val = (y 2).val) :
    out0_9 (iblk m c 0 t) (iblk m c 1 t) (iblk m c 2 t) (iblk m c 3 t) (iblk m c 4 t) (iblk m c 5 t) (iblk m c 6 t) (iblk m c 7 t)
      (iblk m c 8 t) y = G m c i := by
  have hy0 : (y 0).val < 1 := (y 0).isLt
  have hy1 : (y 1).val < 16 := (y 1).isLt
  have hy2 : (y 2).val < 128 := (y 2).isLt
  have ey : y = ix3 (0 : Fin 1) (⟨(y 1).val, hy1⟩ : Fin 16) (⟨(y 2).val, hy2⟩ : Fin 128) := by
    refine funext fun a => Fin.ext ?_
    match a with
    | ⟨0, _⟩ => show (y 0).val = 0; omega
    | ⟨1, _⟩ => rfl
    | ⟨2, _⟩ => rfl
  refine (congrArg (out0_9 (iblk m c 0 t) (iblk m c 1 t) (iblk m c 2 t) (iblk m c 3 t) (iblk m c 4 t) (iblk m c 5 t) (iblk m c 6 t)
    (iblk m c 7 t) (iblk m c 8 t)) ey).trans ?_
  refine (block_eq (blockArgs m c t) _ _).trans ?_
  refine congrArg (G m c) (funext fun a => Fin.ext ?_)
  match a with
  | ⟨0, _⟩ => exact h0.symm
  | ⟨1, _⟩ => exact h1.symm
  | ⟨2, _⟩ => exact h2.symm

theorem flushed_eq (t : Fin cfg0.N) : (dats m 0 c).flushed 9 t = ((cfg0.win 9).blk t).view.read (Elt Ideal) (G m c) := by
  show (cfg0.win 9).cut (grid0.coords t) ((dats m 0 c).after 9 t) = _
  rw [after0_9]
  have h := at9 t
  funext y
  rw [View.read_apply]
  have hy0 : (y 0).val < 1 := (y 0).isLt
  refine block_at m c t y _ ?_ ?_ ?_
  · show win0_9.index t 0 * 1 + 1 * (y 0).val = _
    rw [h.1]; omega
  · show win0_9.index t 1 * 16 + 1 * (y 1).val = _
    rw [h.2.1]; omega
  · show win0_9.index t 2 * 128 + 1 * (y 2).val = _
    rw [h.2.2]; omega

theorem mem_blk (t : Fin cfg0.N) (i : S64x16x128.Idx) : i ∈ ((cfg0.win 9).blk t).view.set ↔
    ∀ a : Fin 3, win0_9.index t a * S1x16x128.size a ≤ (i a : ℕ) ∧ (i a : ℕ) < win0_9.index t a * S1x16x128.size a + S1x16x128.size a := by
  show i ∈ ((View.whole main_v80).slice (win0_9.rect t)).set ↔ _
  rw [View.set_slice_whole, Rect.mem_set_unit]
  rfl

theorem cover (i : S64x16x128.Idx) : ∃ t, (cfg0.win 9).flush t = true ∧ i ∈ ((cfg0.win 9).blk t).view.set := by
  have i0 : (i 0).val < 64 := (i 0).isLt
  have i1 : (i 1).val < 16 := (i 1).isLt
  have i2 : (i 2).val < 128 := (i 2).isLt
  have hlt : (i 0).val < cfg0.N := by have h : cfg0.N = 64 := N_0; rw [h]; exact i0
  refine ⟨⟨(i 0).val, hlt⟩, flush0_9 _, ?_⟩
  rw [mem_blk]
  have h := at9 ⟨(i 0).val, hlt⟩
  intro a
  match a with
  | ⟨0, _⟩ =>
    show win0_9.index _ 0 * 1 ≤ (i 0).val ∧ (i 0).val < win0_9.index _ 0 * 1 + 1
    rw [h.1]; simp only []; omega
  | ⟨1, _⟩ =>
    show win0_9.index _ 1 * 16 ≤ (i 1).val ∧ (i 1).val < win0_9.index _ 1 * 16 + 16
    rw [h.2.1]; omega
  | ⟨2, _⟩ =>
    show win0_9.index _ 2 * 128 ≤ (i 2).val ∧ (i 2).val < win0_9.index _ 2 * 128 + 128
    rw [h.2.2]; omega

/-- The result array ends at the reference's result. -/
theorem final : (dats m 0 c).arrAt 9 cfg0.N = G m c :=
  (dats m 0 c).arrAt_eq_of_cover 9 (G m c) (fun t _ => flushed_eq m c t) cover

omit c in
/-- The encoder call's run ends with the result array at `G` and every argument kept. -/
theorem runKernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v80) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1).trans (final m c), (h c).2⟩) (Cert.Kernel2Ideal.Value.run_blocks m ρ)

end Encoder
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Whole
public import proofs.«01_k».proof.Proof.EWhole
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m g _ => Cert.Kernel.Gen.frame m g,
  fun m g _ => Cert.KernelIdeal.Gen.frame m g,
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g),
  fun m g _ => Cert.Kernel2.Gen.frame m g,
  fun m g _ => Cert.Kernel2Ideal.Gen.frame m g,
  fun m g _ => (θ_run Cert.Reference2Ideal.defs _ _).mono
    (fun r h => ⟨fun c => (h c).2, Idealize.ShloMosaic.sem_eq_zero_of_no_sems (by decide) r.2⟩)
    (Cert.Reference2Ideal.Value.run (F := Ideal) m g),
  trivial,
  by
    intro m g m' g' _ hagree
    refine ⟨fun c => Decoder.G m c, Decoder.runKernel m g, ?_⟩
    refine (θ_run Cert.ReferenceIdeal.defs _ _).mono (fun r h c => ⟨(h c).1.trans ?_, (h c).2⟩)
      (Cert.ReferenceIdeal.Value.run (F := Ideal) m' g')
    refine (Cert.ReferenceIdeal.Read.val_main_v450_eq (Idealize.ShloMosaic.StableHlo.launchContents m' c)).trans ?_
    show Cert.ReferenceIdeal.Read.val_main_v450 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    rfl,
  trivial,
  by
    intro m g m' g' _ hagree
    refine ⟨fun c => Encoder.G m c, Encoder.runKernel m g, ?_⟩
    refine (θ_run Cert.Reference2Ideal.defs _ _).mono (fun r h c => ⟨(h c).1.trans ?_, (h c).2⟩)
      (Cert.Reference2Ideal.Value.run (F := Ideal) m' g')
    refine (Cert.Reference2Ideal.Read.val_main_v132_eq (Idealize.ShloMosaic.StableHlo.launchContents m' c)).trans ?_
    show Cert.Reference2Ideal.Read.val_main_v132 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) = _
    rw [(hagree c).1, (hagree c).2.1, (hagree c).2.2.1, (hagree c).2.2.2.1, (hagree c).2.2.2.2.1, (hagree c).2.2.2.2.2.1, (hagree c).2.2.2.2.2.2]
    rfl⟩

end Cert.Proof

end
